-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite [hPre_finite : Cert.Pre_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite [hPre_finite : Cert.Pre_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Kernel3Ideal_pre_finite [hKernel3Ideal : Cert.Kernel3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Reference3Ideal_pre_finite [hReference3Ideal : Cert.Reference3Ideal.Facts] [hPre_finite : Cert.Pre_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_finite [hKernel3Ideal : Cert.Kernel3Ideal.Facts] [hReference3Ideal : Cert.Reference3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v67) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite (hKernel3Ideal := hKernel3Ideal) (hPre_finite := hPre_finite)
    ∧ quiescent_Reference3Ideal (hReference3Ideal := hReference3Ideal)
    ∧ quiescent_Reference3Ideal_pre_finite (hReference3Ideal := hReference3Ideal) (hPre_finite := hPre_finite)
    ∧ quiescent_Kernel4 (hKernel4 := hKernel4)
    ∧ quiescent_Kernel4Ideal (hKernel4Ideal := hKernel4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite (hKernel3Ideal := hKernel3Ideal) (hReference3Ideal := hReference3Ideal) (hPre_finite := hPre_finite)
    ∧ preserves_Kernel4_Kernel4Ideal
-- ==== Pre_finite.lean ====
abbrev S4x4096x1024 : Shape := ⟨3, ![4, 4096, 1024]⟩
abbrev S4x4096x512 : Shape := ⟨3, ![4, 4096, 512]⟩
abbrev S4x4096x256 : Shape := ⟨3, ![4, 4096, 256]⟩
abbrev S4x256x1024 : Shape := ⟨3, ![4, 256, 1024]⟩
abbrev S2x1024x1024 : Shape := ⟨3, ![2, 1024, 1024]⟩
abbrev S2x1024 : Shape := ⟨2, ![2, 1024]⟩
abbrev S2x1024x2048 : Shape := ⟨3, ![2, 1024, 2048]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S4x4096x512 : S_.BroadcastsInDim S4x4096x512 (![] : Fin 0 → Fin S4x4096x512.rank)
  reducesTo_S4x4096x512_S_d0_1_2 : S4x4096x512.ReducesTo [0, 1, 2] S_
  bcast_S_S4x4096x256 : S_.BroadcastsInDim S4x4096x256 (![] : Fin 0 → Fin S4x4096x256.rank)
  reducesTo_S4x4096x256_S_d0_1_2 : S4x4096x256.ReducesTo [0, 1, 2] S_
  bcast_S_S4x256x1024 : S_.BroadcastsInDim S4x256x1024 (![] : Fin 0 → Fin S4x256x1024.rank)
  reducesTo_S4x256x1024_S_d0_1_2 : S4x256x1024.ReducesTo [0, 1, 2] S_
  bcast_S_S2x1024x1024 : S_.BroadcastsInDim S2x1024x1024 (![] : Fin 0 → Fin S2x1024x1024.rank)
  reducesTo_S2x1024x1024_S_d0_1_2 : S2x1024x1024.ReducesTo [0, 1, 2] S_
  bcast_S_S2x1024 : S_.BroadcastsInDim S2x1024 (![] : Fin 0 → Fin S2x1024.rank)
  reducesTo_S2x1024_S_d0_1 : S2x1024.ReducesTo [0, 1] S_
  bcast_S_S2x1024x2048 : S_.BroadcastsInDim S2x1024x2048 (![] : Fin 0 → Fin S2x1024x2048.rank)
  reducesTo_S2x1024x2048_S_d0_1_2 : S2x1024x2048.ReducesTo [0, 1, 2] S_

variable [Facts]

def fn_part2 {F : FTy → Type} [FloatOps F] (main_arg7 : FVec F S2x1024 .f32) (main_arg8 : FVec F S2x1024x1024 .f32) (main_arg9 : FVec F S2x1024x2048 .f32) (main_v33 : IVec S_ 1) : IVec S_ 1 :=
  let main_v34 : FVec F S2x1024 .f32 := Host.absf main_arg7
  let main_cst_12 : FVec F S_ .f32 := constant S_ .f32 0x7F800000#32
  let main_v35 : FVec F S2x1024 .f32 := broadcastInDim S2x1024 ![] bcast_S_S2x1024 main_cst_12
  let main_v36 : IVec S2x1024 1 := cmpf .olt main_v34 main_v35
  let main_c_13 : IVec S_ 1 := constantI S_ 1 1#1
  let main_v37 : IVec S_ 1 := (fun x v => Host.reduce IntOp.andi x v reducesTo_S2x1024_S_d0_1 h_S_) main_v36 main_c_13
  let main_v38 : IVec S_ 1 := andi main_v33 main_v37
  let main_v39 : FVec F S2x1024x1024 .f32 := Host.absf main_arg8
  let main_cst_14 : FVec F S_ .f32 := constant S_ .f32 0x7F800000#32
  let main_v40 : FVec F S2x1024x1024 .f32 := broadcastInDim S2x1024x1024 ![] bcast_S_S2x1024x1024 main_cst_14
  let main_v41 : IVec S2x1024x1024 1 := cmpf .olt main_v39 main_v40
  let main_c_15 : IVec S_ 1 := constantI S_ 1 1#1
  let main_v42 : IVec S_ 1 := (fun x v => Host.reduce IntOp.andi x v reducesTo_S2x1024x1024_S_d0_1_2 h_S_) main_v41 main_c_15
  let main_v43 : IVec S_ 1 := andi main_v38 main_v42
  let main_v44 : FVec F S2x1024x2048 .f32 := Host.absf main_arg9
  let main_cst_16 : FVec F S_ .f32 := constant S_ .f32 0x7F800000#32
  let main_v45 : FVec F S2x1024x2048 .f32 := broadcastInDim S2x1024x2048 ![] bcast_S_S2x1024x2048 main_cst_16
  let main_v46 : IVec S2x1024x2048 1 := cmpf .olt main_v44 main_v45
  let main_c_17 : IVec S_ 1 := constantI S_ 1 1#1
  let main_v47 : IVec S_ 1 := (fun x v => Host.reduce IntOp.andi x v reducesTo_S2x1024x2048_S_d0_1_2 h_S_) main_v46 main_c_17
  let main_v48 : IVec S_ 1 := andi main_v43 main_v47
  main_v48

def fn_part1 {F : FTy → Type} [FloatOps F] (main_arg4 : FVec F S4x256x1024 .f32) (main_arg5 : FVec F S2x1024x1024 .f32) (main_arg6 : FVec F S2x1024 .f32) (main_arg7 : FVec F S2x1024 .f32) (main_arg8 : FVec F S2x1024x1024 .f32) (main_arg9 : FVec F S2x1024x2048 .f32) (main_v13 : IVec S_ 1) (main_v16 : IVec S4x4096x256 1) : IVec S_ 1 :=
  let main_c_5 : IVec S_ 1 := constantI S_ 1 1#1
  let main_v17 : IVec S_ 1 := (fun x v => Host.reduce IntOp.andi x v reducesTo_S4x4096x256_S_d0_1_2 h_S_) main_v16 main_c_5
  let main_v18 : IVec S_ 1 := andi main_v13 main_v17
  let main_v19 : FVec F S4x256x1024 .f32 := Host.absf main_arg4
  let main_cst_6 : FVec F S_ .f32 := constant S_ .f32 0x7F800000#32
  let main_v20 : FVec F S4x256x1024 .f32 := broadcastInDim S4x256x1024 ![] bcast_S_S4x256x1024 main_cst_6
  let main_v21 : IVec S4x256x1024 1 := cmpf .olt main_v19 main_v20
  let main_c_7 : IVec S_ 1 := constantI S_ 1 1#1
  let main_v22 : IVec S_ 1 := (fun x v => Host.reduce IntOp.andi x v reducesTo_S4x256x1024_S_d0_1_2 h_S_) main_v21 main_c_7
  let main_v23 : IVec S_ 1 := andi main_v18 main_v22
  let main_v24 : FVec F S2x1024x1024 .f32 := Host.absf main_arg5
  let main_cst_8 : FVec F S_ .f32 := constant S_ .f32 0x7F800000#32
  let main_v25 : FVec F S2x1024x1024 .f32 := broadcastInDim S2x1024x1024 ![] bcast_S_S2x1024x1024 main_cst_8
  let main_v26 : IVec S2x1024x1024 1 := cmpf .olt main_v24 main_v25
  let main_c_9 : IVec S_ 1 := constantI S_ 1 1#1
  let main_v27 : IVec S_ 1 := (fun x v => Host.reduce IntOp.andi x v reducesTo_S2x1024x1024_S_d0_1_2 h_S_) main_v26 main_c_9
  let main_v28 : IVec S_ 1 := andi main_v23 main_v27
  let main_v29 : FVec F S2x1024 .f32 := Host.absf main_arg6
  let main_cst_10 : FVec F S_ .f32 := constant S_ .f32 0x7F800000#32
  let main_v30 : FVec F S2x1024 .f32 := broadcastInDim S2x1024 ![] bcast_S_S2x1024 main_cst_10
  let main_v31 : IVec S2x1024 1 := cmpf .olt main_v29 main_v30
  let main_c_11 : IVec S_ 1 := constantI S_ 1 1#1
  let main_v32 : IVec S_ 1 := (fun x v => Host.reduce IntOp.andi x v reducesTo_S2x1024_S_d0_1 h_S_) main_v31 main_c_11
  let main_v33 : IVec S_ 1 := andi main_v28 main_v32
  fn_part2 (F := F) main_arg7 main_arg8 main_arg9 main_v33

def fn {F : FTy → Type} [FloatOps F] (main_arg0 : FVec F S4x4096x1024 .f32) (main_arg1 : FVec F S4x4096x512 .f32) (main_arg2 : FVec F S4x4096x256 .f32) (main_arg3 : FVec F S4x4096x256 .f32) (main_arg4 : FVec F S4x256x1024 .f32) (main_arg5 : FVec F S2x1024x1024 .f32) (main_arg6 : FVec F S2x1024 .f32) (main_arg7 : FVec F S2x1024 .f32) (main_arg8 : FVec F S2x1024x1024 .f32) (main_arg9 : FVec F S2x1024x2048 .f32) (main_arg10 : FVec F S2x1024x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x4096x512 .f32 := Host.absf main_arg1
  let main_cst_0 : FVec F S_ .f32 := constant S_ .f32 0x7F800000#32
  let main_v5 : FVec F S4x4096x512 .f32 := broadcastInDim S4x4096x512 ![] bcast_S_S4x4096x512 main_cst_0
  let main_v6 : IVec S4x4096x512 1 := cmpf .olt main_v4 main_v5
  let main_c_1 : IVec S_ 1 := constantI S_ 1 1#1
  let main_v7 : IVec S_ 1 := (fun x v => Host.reduce IntOp.andi x v reducesTo_S4x4096x512_S_d0_1_2 h_S_) main_v6 main_c_1
  let main_v8 : IVec S_ 1 := andi main_v3 main_v7
  let main_v9 : FVec F S4x4096x256 .f32 := Host.absf main_arg2
  let main_cst_2 : FVec F S_ .f32 := constant S_ .f32 0x7F800000#32
  let main_v10 : FVec F S4x4096x256 .f32 := broadcastInDim S4x4096x256 ![] bcast_S_S4x4096x256 main_cst_2
  let main_v11 : IVec S4x4096x256 1 := cmpf .olt main_v9 main_v10
  let main_c_3 : IVec S_ 1 := constantI S_ 1 1#1
  let main_v12 : IVec S_ 1 := (fun x v => Host.reduce IntOp.andi x v reducesTo_S4x4096x256_S_d0_1_2 h_S_) main_v11 main_c_3
  let main_v13 : IVec S_ 1 := andi main_v8 main_v12
  let main_v14 : FVec F S4x4096x256 .f32 := Host.absf main_arg3
  let main_cst_4 : FVec F S_ .f32 := constant S_ .f32 0x7F800000#32
  let main_v15 : FVec F S4x4096x256 .f32 := broadcastInDim S4x4096x256 ![] bcast_S_S4x4096x256 main_cst_4
  let main_v16 : IVec S4x4096x256 1 := cmpf .olt main_v14 main_v15
  fn_part1 (F := F) main_arg4 main_arg5 main_arg6 main_arg7 main_arg8 main_arg9 main_v13 main_v16
-- ==== Kernel.lean ====
abbrev S4x4096x1024 : Shape := ⟨3, ![4, 4096, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S16384x1024 : Shape := ⟨2, ![16384, 1024]⟩
abbrev S1x1024 : Shape := ⟨2, ![1, 1024]⟩
abbrev S1024x1024 : Shape := ⟨2, ![1024, 1024]⟩
abbrev S1024x2816 : Shape := ⟨2, ![1024, 2816]⟩
abbrev S2816x1024 : Shape := ⟨2, ![2816, 1024]⟩
abbrev S6x128x2816 : Shape := ⟨3, ![6, 128, 2816]⟩
abbrev S6 : Shape := ⟨1, ![6]⟩
abbrev S1 : Shape := ⟨1, ![1]⟩
abbrev S_ : Shape := ⟨0, ![]⟩
abbrev S1x128x2816 : Shape := ⟨3, ![1, 128, 2816]⟩
abbrev S128x2816 : Shape := ⟨2, ![128, 2816]⟩
abbrev S6x352x1024 : Shape := ⟨3, ![6, 352, 1024]⟩
abbrev S1x352x1024 : Shape := ⟨3, ![1, 352, 1024]⟩
abbrev S352x1024 : Shape := ⟨2, ![352, 1024]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 12
  | .vmem => 12
  | .smem => 0
  | _ => 0

abbrev bufTy : (tb : Table) → Fin (tcTables nBuf tb) → BufTy
  | .hbm, ⟨0, _⟩ => ⟨S4x4096x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1024, .f32⟩
  | .hbm, ⟨6, _⟩ => ⟨S16384x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S6x128x2816, .f32⟩
  | .local _ .vmem, ⟨10, _⟩ => ⟨S6x128x2816, .f32⟩
  | .local _ .vmem, ⟨11, _⟩ => ⟨S6x352x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scoped0 : Ref sig .tc := ⟨.vmem, 9, rfl⟩
abbrev cc0_scoped2 : Ref sig .tc := ⟨.vmem, 10, rfl⟩
abbrev cc0_scoped4 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4x4096x1024 : Shape := ⟨3, ![4, 4096, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1024 : Shape := ⟨1, ![1024]⟩
abbrev S1x1024 : Shape := ⟨2, ![1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S4x4096x2816 : Shape := ⟨3, ![4, 4096, 2816]⟩
abbrev S16384x1024 : Shape := ⟨2, ![16384, 1024]⟩

abbrev nBuf : Space → Nat
  | .hbm => 64
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1024, .f32⟩
  | .hbm, ⟨6, _⟩ => ⟨S1x1024, .f32⟩
  | .hbm, ⟨7, _⟩ => ⟨S1024, .f32⟩
  | .hbm, ⟨8, _⟩ => ⟨S4x4096x1024, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x1024, .f32⟩
  | .hbm, ⟨20, _⟩ => ⟨S4x4096x1024, .f32⟩
  | .hbm, ⟨21, _⟩ => ⟨S1x1x1024, .f32⟩
  | .hbm, ⟨22, _⟩ => ⟨S4x4096x1024, .f32⟩
  | .hbm, ⟨23, _⟩ => ⟨S4x4096x1024, .f32⟩
  | .hbm, ⟨24, _⟩ => ⟨S1x1024x2816, .f32⟩
  | .hbm, ⟨25, _⟩ => ⟨S1024x2816, .f32⟩
  | .hbm, ⟨26, _⟩ => ⟨S1x1024x2816, .f32⟩
  | .hbm, ⟨27, _⟩ => ⟨S1024x2816, .f32⟩
  | .hbm, ⟨28, _⟩ => ⟨S1x2816x1024, .f32⟩
  | .hbm, ⟨29, _⟩ => ⟨S2816x1024, .f32⟩
  | .hbm, ⟨30, _⟩ => ⟨S4x4096x2816, .f32⟩
  | .hbm, ⟨31, _⟩ => ⟨S4x4096x2816, .f32⟩
  | .hbm, ⟨32, _⟩ => ⟨S4x4096x2816, .f32⟩
  | .hbm, ⟨33, _⟩ => ⟨S_, .f32⟩
  | .hbm, ⟨34, _⟩ => ⟨S4x4096x2816, .f32⟩
  | .hbm, ⟨35, _⟩ => ⟨S4x4096x2816, .f32⟩
  | .hbm, ⟨36, _⟩ => ⟨S_, .f32⟩
  | .hbm, ⟨37, _⟩ => ⟨S4x4096x2816, .f32⟩
  | .hbm, ⟨38, _⟩ => ⟨S4x4096x2816, .f32⟩
  | .hbm, ⟨39, _⟩ => ⟨S4x4096x2816, .f32⟩
  | .hbm, ⟨40, _⟩ => ⟨S4x4096x2816, .f32⟩
  | .hbm, ⟨41, _⟩ => ⟨S4x4096x2816, .f32⟩
  | .hbm, ⟨42, _⟩ => ⟨S4x4096x1024, .f32⟩
  | .hbm, ⟨43, _⟩ => ⟨S_, .f32⟩
  | .hbm, ⟨44, _⟩ => ⟨S4x4096x1024, .f32⟩
  | .hbm, ⟨45, _⟩ => ⟨S4x4096x1024, .f32⟩
  | .hbm, ⟨46, _⟩ => ⟨S4x4096x1024, .f32⟩
  | .hbm, ⟨47, _⟩ => ⟨S4x4096x1024, .f32⟩
  | .hbm, ⟨48, _⟩ => ⟨S_, .f32⟩
  | .hbm, ⟨49, _⟩ => ⟨S4x4096, .f32⟩
  | .hbm, ⟨50, _⟩ => ⟨S4x4096x1, .f32⟩
  | .hbm, ⟨51, _⟩ => ⟨S_, .f32⟩
  | .hbm, ⟨52, _⟩ => ⟨S4x4096x1, .f32⟩
  | .hbm, ⟨53, _⟩ => ⟨S4x4096x1, .f32⟩
  | .hbm, ⟨54, _⟩ => ⟨S_, .f32⟩
  | .hbm, ⟨55, _⟩ => ⟨S4x4096x1, .f32⟩
  | .hbm, ⟨56, _⟩ => ⟨S4x4096x1, .f32⟩
  | .hbm, ⟨57, _⟩ => ⟨S4x4096x1, .f32⟩
  | .hbm, ⟨58, _⟩ => ⟨S4x4096x1024, .f32⟩
  | .hbm, ⟨59, _⟩ => ⟨S4x4096x1024, .f32⟩
  | .hbm, ⟨60, _⟩ => ⟨S1x1x1024, .f32⟩
  | .hbm, ⟨61, _⟩ => ⟨S4x4096x1024, .f32⟩
  | .hbm, ⟨62, _⟩ => ⟨S4x4096x1024, .f32⟩
  | .hbm, ⟨63, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩

abbrev nD : Nat := 1
abbrev τ : Topo := Topo.v7x

variable {F : FTy → Type} [FloatOps F]
-- ==== Kernel2.lean ====
abbrev S4x4096x1024 : Shape := ⟨3, ![4, 4096, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S16384x1024 : Shape := ⟨2, ![16384, 1024]⟩
abbrev S1x1024 : Shape := ⟨2, ![1, 1024]⟩
abbrev S1024 : Shape := ⟨1, ![1024]⟩
abbrev S1024x1024 : Shape := ⟨2, ![1024, 1024]⟩
abbrev S1024x2816 : Shape := ⟨2, ![1024, 2816]⟩
abbrev S2816x1024 : Shape := ⟨2, ![2816, 1024]⟩
abbrev S6x128x2816 : Shape := ⟨3, ![6, 128, 2816]⟩
abbrev S6 : Shape := ⟨1, ![6]⟩
abbrev S1 : Shape := ⟨1, ![1]⟩
abbrev S_ : Shape := ⟨0, ![]⟩
abbrev S1x128x2816 : Shape := ⟨3, ![1, 128, 2816]⟩
abbrev S128x2816 : Shape := ⟨2, ![128, 2816]⟩
abbrev S6x352x1024 : Shape := ⟨3, ![6, 352, 1024]⟩
abbrev S1x352x1024 : Shape := ⟨3, ![1, 352, 1024]⟩
abbrev S352x1024 : Shape := ⟨2, ![352, 1024]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 10
  | .vmem => 11
  | .smem => 0
  | _ => 0

abbrev bufTy : (tb : Table) → Fin (tcTables nBuf tb) → BufTy
  | .hbm, ⟨0, _⟩ => ⟨S4x4096x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S16384x1024, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S6x128x2816, .f32⟩
  | .local _ .vmem, ⟨9, _⟩ => ⟨S6x128x2816, .f32⟩
  | .local _ .vmem, ⟨10, _⟩ => ⟨S6x352x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scoped0 : Ref sig .tc := ⟨.vmem, 8, rfl⟩
abbrev cc0_scoped2 : Ref sig .tc := ⟨.vmem, 9, rfl⟩
abbrev cc0_scoped4 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference2Ideal.lean ====
abbrev S4x4096x1024 : Shape := ⟨3, ![4, 4096, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S4x4096x2816 : Shape := ⟨3, ![4, 4096, 2816]⟩
abbrev S16384x1024 : Shape := ⟨2, ![16384, 1024]⟩

abbrev nBuf : Space → Nat
  | .hbm => 47
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S1x1024, .f32⟩
  | .hbm, ⟨6, _⟩ => ⟨S1024, .f32⟩
  | .hbm, ⟨7, _⟩ => ⟨S4x4096x1024, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x1024, .f32⟩
  | .hbm, ⟨19, _⟩ => ⟨S4x4096x1024, .f32⟩
  | .hbm, ⟨20, _⟩ => ⟨S1x1x1024, .f32⟩
  | .hbm, ⟨21, _⟩ => ⟨S4x4096x1024, .f32⟩
  | .hbm, ⟨22, _⟩ => ⟨S4x4096x1024, .f32⟩
  | .hbm, ⟨23, _⟩ => ⟨S1x1024x2816, .f32⟩
  | .hbm, ⟨24, _⟩ => ⟨S1024x2816, .f32⟩
  | .hbm, ⟨25, _⟩ => ⟨S1x1024x2816, .f32⟩
  | .hbm, ⟨26, _⟩ => ⟨S1024x2816, .f32⟩
  | .hbm, ⟨27, _⟩ => ⟨S1x2816x1024, .f32⟩
  | .hbm, ⟨28, _⟩ => ⟨S2816x1024, .f32⟩
  | .hbm, ⟨29, _⟩ => ⟨S4x4096x2816, .f32⟩
  | .hbm, ⟨30, _⟩ => ⟨S4x4096x2816, .f32⟩
  | .hbm, ⟨31, _⟩ => ⟨S4x4096x2816, .f32⟩
  | .hbm, ⟨32, _⟩ => ⟨S_, .f32⟩
  | .hbm, ⟨33, _⟩ => ⟨S4x4096x2816, .f32⟩
  | .hbm, ⟨34, _⟩ => ⟨S4x4096x2816, .f32⟩
  | .hbm, ⟨35, _⟩ => ⟨S_, .f32⟩
  | .hbm, ⟨36, _⟩ => ⟨S4x4096x2816, .f32⟩
  | .hbm, ⟨37, _⟩ => ⟨S4x4096x2816, .f32⟩
  | .hbm, ⟨38, _⟩ => ⟨S4x4096x2816, .f32⟩
  | .hbm, ⟨39, _⟩ => ⟨S4x4096x2816, .f32⟩
  | .hbm, ⟨40, _⟩ => ⟨S4x4096x2816, .f32⟩
  | .hbm, ⟨41, _⟩ => ⟨S4x4096x1024, .f32⟩
  | .hbm, ⟨42, _⟩ => ⟨S_, .f32⟩
  | .hbm, ⟨43, _⟩ => ⟨S4x4096x1024, .f32⟩
  | .hbm, ⟨44, _⟩ => ⟨S4x4096x1024, .f32⟩
  | .hbm, ⟨45, _⟩ => ⟨S4x4096x1024, .f32⟩
  | .hbm, ⟨46, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x4096x512 : Shape := ⟨3, ![4, 4096, 512]⟩
abbrev S4x4096x256 : Shape := ⟨3, ![4, 4096, 256]⟩
abbrev S4x256x1024 : Shape := ⟨3, ![4, 256, 1024]⟩
abbrev S2x1024x1024 : Shape := ⟨3, ![2, 1024, 1024]⟩
abbrev S2x1024 : Shape := ⟨2, ![2, 1024]⟩
abbrev S2x1024x2048 : Shape := ⟨3, ![2, 1024, 2048]⟩
abbrev S4x8x512x512 : Shape := ⟨4, ![4, 8, 512, 512]⟩
abbrev S1x1024 : Shape := ⟨2, ![1, 1024]⟩
abbrev S1024 : Shape := ⟨1, ![1024]⟩
abbrev S1x1024x1024 : Shape := ⟨3, ![1, 1024, 1024]⟩
abbrev S1x2x512x512 : Shape := ⟨4, ![1, 2, 512, 512]⟩
abbrev S1x1024x512 : Shape := ⟨3, ![1, 1024, 512]⟩
abbrev S1x256x1024 : Shape := ⟨3, ![1, 256, 1024]⟩
abbrev S256x2048 : Shape := ⟨2, ![256, 2048]⟩
abbrev S1024x1024 : Shape := ⟨2, ![1024, 1024]⟩
abbrev S1024x2048 : Shape := ⟨2, ![1024, 2048]⟩
abbrev S6x256x1024 : Shape := ⟨3, ![6, 256, 1024]⟩
abbrev S6 : Shape := ⟨1, ![6]⟩
abbrev S1 : Shape := ⟨1, ![1]⟩
abbrev S_ : Shape := ⟨0, ![]⟩
abbrev S256x1024 : Shape := ⟨2, ![256, 1024]⟩
abbrev S6x128x2048 : Shape := ⟨3, ![6, 128, 2048]⟩
abbrev S1x128x2048 : Shape := ⟨3, ![1, 128, 2048]⟩
abbrev S128x2048 : Shape := ⟨2, ![128, 2048]⟩
abbrev S256 : Shape := ⟨1, ![256]⟩
abbrev S256x1 : Shape := ⟨2, ![256, 1]⟩
abbrev S512x1024 : Shape := ⟨2, ![512, 1024]⟩
abbrev S1x1x512x512 : Shape := ⟨4, ![1, 1, 512, 512]⟩
abbrev S512x512 : Shape := ⟨2, ![512, 512]⟩
abbrev S1024x512 : Shape := ⟨2, ![1024, 512]⟩
abbrev S1024x1 : Shape := ⟨2, ![1024, 1]⟩
abbrev S1024x256 : Shape := ⟨2, ![1024, 256]⟩
abbrev S256x256 : Shape := ⟨2, ![256, 256]⟩

abbrev nBuf : Space → Nat
  | .hbm => 23
  | .vmem => 21
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x256, .f32⟩
  | .hbm, ⟨3, _⟩ => ⟨S4x4096x256, .f32⟩
  | .hbm, ⟨4, _⟩ => ⟨S4x256x1024, .f32⟩
  | .hbm, ⟨5, _⟩ => ⟨S2x1024x1024, .f32⟩
  | .hbm, ⟨6, _⟩ => ⟨S2x1024, .f32⟩
  | .hbm, ⟨7, _⟩ => ⟨S2x1024, .f32⟩
  | .hbm, ⟨8, _⟩ => ⟨S2x1024x1024, .f32⟩
  | .hbm, ⟨9, _⟩ => ⟨S2x1024x2048, .f32⟩
  | .hbm, ⟨10, _⟩ => ⟨S2x1024x1024, .f32⟩
  | .hbm, ⟨11, _⟩ => ⟨S4x8x512x512, .f32⟩
  | .hbm, ⟨12, _⟩ => ⟨S4x8x512x512, .f32⟩
  | .hbm, ⟨13, _⟩ => ⟨S4x8x512x512, .bf16⟩
  | .hbm, ⟨14, _⟩ => ⟨S4x4096x512, .f32⟩
  | .hbm, ⟨15, _⟩ => ⟨S4x4096x512, .bf16⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S4x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x2x512x512, .bf16⟩
  | .local _ .vmem, ⟨3, _⟩ => ⟨S1x2x512x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x256x1024, .f32⟩
  | .local _ .vmem, ⟨7, _⟩ => ⟨S1x256x1024, .f32⟩
  | .local _ .vmem, ⟨8, _⟩ => ⟨S1x1024, .f32⟩
  | .local _ .vmem, ⟨9, _⟩ => ⟨S1x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S256x2048, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x2048, .bf16⟩
  | .local _ .vmem, ⟨17, _⟩ => ⟨S6x256x1024, .f32⟩
  | .local _ .vmem, ⟨18, _⟩ => ⟨S6x256x1024, .f32⟩
  | .local _ .vmem, ⟨19, _⟩ => ⟨S6x256x1024, .f32⟩
  | .local _ .vmem, ⟨20, _⟩ => ⟨S6x128x2048, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scoped0 : Ref sig .tc := ⟨.vmem, 17, rfl⟩
abbrev cc0_scoped2 : Ref sig .tc := ⟨.vmem, 18, rfl⟩
abbrev cc0_scoped4 : Ref sig .tc := ⟨.vmem, 19, rfl⟩
abbrev cc0_scoped6 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S4x4096x1024 : Shape := ⟨3, ![4, 4096, 1024]⟩
abbrev S4x4096x512 : Shape := ⟨3, ![4, 4096, 512]⟩
abbrev S4x4096x256 : Shape := ⟨3, ![4, 4096, 256]⟩
abbrev S4x256x1024 : Shape := ⟨3, ![4, 256, 1024]⟩
abbrev S2x1024x1024 : Shape := ⟨3, ![2, 1024, 1024]⟩
abbrev S2x1024 : Shape := ⟨2, ![2, 1024]⟩
abbrev S2x1024x2048 : Shape := ⟨3, ![2, 1024, 2048]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4x256 : Shape := ⟨4, ![4, 4096, 4, 256]⟩
abbrev S4x256 : Shape := ⟨2, ![4, 256]⟩
abbrev S4x256x1 : Shape := ⟨3, ![4, 256, 1]⟩
abbrev S1x1024x2048 : Shape := ⟨3, ![1, 1024, 2048]⟩
abbrev S1024x2048 : Shape := ⟨2, ![1024, 2048]⟩
abbrev S4x256x2048 : Shape := ⟨3, ![4, 256, 2048]⟩
abbrev S4x256x2x4x256 : Shape := ⟨5, ![4, 256, 2, 4, 256]⟩
abbrev S4x256x1x4x256 : Shape := ⟨5, ![4, 256, 1, 4, 256]⟩
abbrev S4x256x4x256 : Shape := ⟨4, ![4, 256, 4, 256]⟩
abbrev S4x4x4096x256 : Shape := ⟨4, ![4, 4, 4096, 256]⟩
abbrev S4x4x4096 : Shape := ⟨3, ![4, 4, 4096]⟩
abbrev S4x4x4096x1 : Shape := ⟨4, ![4, 4, 4096, 1]⟩
abbrev S4x4x256x4096 : Shape := ⟨4, ![4, 4, 256, 4096]⟩

abbrev nBuf : Space → Nat
  | .hbm => 89
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x256, .f32⟩
  | .hbm, ⟨3, _⟩ => ⟨S4x4096x256, .f32⟩
  | .hbm, ⟨4, _⟩ => ⟨S4x256x1024, .f32⟩
  | .hbm, ⟨5, _⟩ => ⟨S2x1024x1024, .f32⟩
  | .hbm, ⟨6, _⟩ => ⟨S2x1024, .f32⟩
  | .hbm, ⟨7, _⟩ => ⟨S2x1024, .f32⟩
  | .hbm, ⟨8, _⟩ => ⟨S2x1024x1024, .f32⟩
  | .hbm, ⟨9, _⟩ => ⟨S2x1024x2048, .f32⟩
  | .hbm, ⟨10, _⟩ => ⟨S2x1024x1024, .f32⟩
  | .hbm, ⟨11, _⟩ => ⟨S4x4096x1024, .f32⟩
  | .hbm, ⟨12, _⟩ => ⟨S1x1024x1024, .f32⟩
  | .hbm, ⟨13, _⟩ => ⟨S1024x1024, .f32⟩
  | .hbm, ⟨14, _⟩ => ⟨S4x4096x1024, .f32⟩
  | .hbm, ⟨15, _⟩ => ⟨S4x4096x1024, .f32⟩
  | .hbm, ⟨16, _⟩ => ⟨S1x1024, .f32⟩
  | .hbm, ⟨17, _⟩ => ⟨S1024, .f32⟩
  | .hbm, ⟨18, _⟩ => ⟨S4x4096x1024, .f32⟩
  | .hbm, ⟨19, _⟩ => ⟨S_, .f32⟩
  | .hbm, ⟨20, _⟩ => ⟨S4x4096, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S_, .f32⟩
  | .hbm, ⟨26, _⟩ => ⟨S4x4096x1, .f32⟩
  | .hbm, ⟨27, _⟩ => ⟨S4x4096x1, .f32⟩
  | .hbm, ⟨28, _⟩ => ⟨S4x4096x1, .f32⟩
  | .hbm, ⟨29, _⟩ => ⟨S4x4096x1024, .f32⟩
  | .hbm, ⟨30, _⟩ => ⟨S4x4096x1024, .f32⟩
  | .hbm, ⟨31, _⟩ => ⟨S1x1x1024, .f32⟩
  | .hbm, ⟨32, _⟩ => ⟨S4x4096x1024, .f32⟩
  | .hbm, ⟨33, _⟩ => ⟨S4x4096x1024, .f32⟩
  | .hbm, ⟨34, _⟩ => ⟨S1x1024x1024, .f32⟩
  | .hbm, ⟨35, _⟩ => ⟨S1024x1024, .f32⟩
  | .hbm, ⟨36, _⟩ => ⟨S4x4096x1024, .f32⟩
  | .hbm, ⟨37, _⟩ => ⟨S4x4096x4x256, .f32⟩
  | .hbm, ⟨38, _⟩ => ⟨S1x1024, .f32⟩
  | .hbm, ⟨39, _⟩ => ⟨S1024, .f32⟩
  | .hbm, ⟨40, _⟩ => ⟨S4x256x1024, .f32⟩
  | .hbm, ⟨41, _⟩ => ⟨S_, .f32⟩
  | .hbm, ⟨42, _⟩ => ⟨S4x256, .f32⟩
  | .hbm, ⟨43, _⟩ => ⟨S4x256x1, .f32⟩
  | .hbm, ⟨44, _⟩ => ⟨S_, .f32⟩
  | .hbm, ⟨45, _⟩ => ⟨S4x256x1, .f32⟩
  | .hbm, ⟨46, _⟩ => ⟨S4x256x1, .f32⟩
  | .hbm, ⟨47, _⟩ => ⟨S_, .f32⟩
  | .hbm, ⟨48, _⟩ => ⟨S4x256x1, .f32⟩
  | .hbm, ⟨49, _⟩ => ⟨S4x256x1, .f32⟩
  | .hbm, ⟨50, _⟩ => ⟨S4x256x1, .f32⟩
  | .hbm, ⟨51, _⟩ => ⟨S4x256x1024, .f32⟩
  | .hbm, ⟨52, _⟩ => ⟨S4x256x1024, .f32⟩
  | .hbm, ⟨53, _⟩ => ⟨S1x1x1024, .f32⟩
  | .hbm, ⟨54, _⟩ => ⟨S4x256x1024, .f32⟩
  | .hbm, ⟨55, _⟩ => ⟨S4x256x1024, .f32⟩
  | .hbm, ⟨56, _⟩ => ⟨S1x1024x2048, .f32⟩
  | .hbm, ⟨57, _⟩ => ⟨S1024x2048, .f32⟩
  | .hbm, ⟨58, _⟩ => ⟨S4x256x2048, .f32⟩
  | .hbm, ⟨59, _⟩ => ⟨S4x256x2x4x256, .f32⟩
  | .hbm, ⟨60, _⟩ => ⟨S4x256x1x4x256, .f32⟩
  | .hbm, ⟨61, _⟩ => ⟨S4x256x1x4x256, .f32⟩
  | .hbm, ⟨62, _⟩ => ⟨S4x256x4x256, .f32⟩
  | .hbm, ⟨63, _⟩ => ⟨S4x256x4x256, .f32⟩
  | .hbm, ⟨64, _⟩ => ⟨S4x4x4096x256, .f32⟩
  | .hbm, ⟨65, _⟩ => ⟨S_, .f32⟩
  | .hbm, ⟨66, _⟩ => ⟨S4x4x4096x256, .f32⟩
  | .hbm, ⟨67, _⟩ => ⟨S4x4x4096x256, .f32⟩
  | .hbm, ⟨68, _⟩ => ⟨S_, .f32⟩
  | .hbm, ⟨69, _⟩ => ⟨S4x4x4096, .f32⟩
  | .hbm, ⟨70, _⟩ => ⟨S_, .f32⟩
  | .hbm, ⟨71, _⟩ => ⟨S4x4x4096, .f32⟩
  | .hbm, ⟨72, _⟩ => ⟨S4x4x4096, .f32⟩
  | .hbm, ⟨73, _⟩ => ⟨S4x4x4096x1, .f32⟩
  | .hbm, ⟨74, _⟩ => ⟨S4x4x4096x256, .f32⟩
  | .hbm, ⟨75, _⟩ => ⟨S4x4x4096x256, .f32⟩
  | .hbm, ⟨76, _⟩ => ⟨S4x4x4096x256, .f32⟩
  | .hbm, ⟨77, _⟩ => ⟨S_, .f32⟩
  | .hbm, ⟨78, _⟩ => ⟨S4x4x4096, .f32⟩
  | .hbm, ⟨79, _⟩ => ⟨S4x4x4096x1, .f32⟩
  | .hbm, ⟨80, _⟩ => ⟨S4x4x4096x256, .f32⟩
  | .hbm, ⟨81, _⟩ => ⟨S4x4x4096x256, .f32⟩
  | .hbm, ⟨82, _⟩ => ⟨S4x4x256x4096, .f32⟩
  | .hbm, ⟨83, _⟩ => ⟨S4x4096x4x256, .f32⟩
  | .hbm, ⟨84, _⟩ => ⟨S4x4096x1024, .f32⟩
  | .hbm, ⟨85, _⟩ => ⟨S1x1024x1024, .f32⟩
  | .hbm, ⟨86, _⟩ => ⟨S1024x1024, .f32⟩
  | .hbm, ⟨87, _⟩ => ⟨S4x4096x1024, .f32⟩
  | .hbm, ⟨88, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_5 : Ref sig .tc := ⟨.hbm, 65, rfl⟩
abbrev main_v48 : Ref sig .tc := ⟨.hbm, 66, rfl⟩
abbrev main_v49 : Ref sig .tc := ⟨.hbm, 67, rfl⟩
abbrev main_cst_6 : Ref sig .tc := ⟨.hbm, 68, rfl⟩
abbrev main_v50 : Ref sig .tc := ⟨.hbm, 69, rfl⟩
abbrev main_cst_7 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_8 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩

abbrev nD : Nat := 1
abbrev τ : Topo := Topo.v7x

variable {F : FTy → Type} [FloatOps F]
-- ==== Kernel4.lean ====
abbrev S4x4096x512 : Shape := ⟨3, ![4, 4096, 512]⟩
abbrev S2x64 : Shape := ⟨2, ![2, 64]⟩
abbrev S2x128 : Shape := ⟨2, ![2, 128]⟩
abbrev S1x64 : Shape := ⟨2, ![1, 64]⟩
abbrev S64 : Shape := ⟨1, ![64]⟩
abbrev S4x64 : Shape := ⟨2, ![4, 64]⟩
abbrev S1x128 : Shape := ⟨2, ![1, 128]⟩
abbrev S128 : Shape := ⟨1, ![128]⟩
abbrev S128x1 : Shape := ⟨2, ![128, 1]⟩
abbrev S128x512 : Shape := ⟨2, ![128, 512]⟩
abbrev S4x8x512x512 : Shape := ⟨4, ![4, 8, 512, 512]⟩
abbrev S_ : Shape := ⟨0, ![]⟩
abbrev S4x8x4x128x512 : Shape := ⟨5, ![4, 8, 4, 128, 512]⟩
abbrev S4x8x4x16x512 : Shape := ⟨5, ![4, 8, 4, 16, 512]⟩
abbrev S4x8x4x144x512 : Shape := ⟨5, ![4, 8, 4, 144, 512]⟩
abbrev S4x8x576x512 : Shape := ⟨4, ![4, 8, 576, 512]⟩
abbrev S1x8x128x512 : Shape := ⟨4, ![1, 8, 128, 512]⟩
abbrev S1x4096x128 : Shape := ⟨3, ![1, 4096, 128]⟩
abbrev S1x8x144x512 : Shape := ⟨4, ![1, 8, 144, 512]⟩
abbrev S8x128x1024 : Shape := ⟨3, ![8, 128, 1024]⟩
abbrev S2x512x1024 : Shape := ⟨3, ![2, 512, 1024]⟩
abbrev S8x1x1024 : Shape := ⟨3, ![8, 1, 1024]⟩
abbrev S8x144x1024 : Shape := ⟨3, ![8, 144, 1024]⟩
abbrev S512x1024 : Shape := ⟨2, ![512, 1024]⟩
abbrev S1x1024 : Shape := ⟨2, ![1, 1024]⟩
abbrev S1x512x1024 : Shape := ⟨3, ![1, 512, 1024]⟩
abbrev S1x1x128x512 : Shape := ⟨4, ![1, 1, 128, 512]⟩
abbrev S1x128x512 : Shape := ⟨3, ![1, 128, 512]⟩
abbrev S1x512x128 : Shape := ⟨3, ![1, 512, 128]⟩
abbrev S512x128 : Shape := ⟨2, ![512, 128]⟩
abbrev S1x128x1024 : Shape := ⟨3, ![1, 128, 1024]⟩
abbrev S128x1024 : Shape := ⟨2, ![128, 1024]⟩
abbrev S1024 : Shape := ⟨1, ![1024]⟩
abbrev S1x1x144x512 : Shape := ⟨4, ![1, 1, 144, 512]⟩
abbrev S144x512 : Shape := ⟨2, ![144, 512]⟩
abbrev S1x1x256 : Shape := ⟨3, ![1, 1, 256]⟩
abbrev S1x256 : Shape := ⟨2, ![1, 256]⟩
abbrev S512x256 : Shape := ⟨2, ![512, 256]⟩
abbrev S144x256 : Shape := ⟨2, ![144, 256]⟩
abbrev S1x144x256 : Shape := ⟨3, ![1, 144, 256]⟩
abbrev S1 : Shape := ⟨1, ![1]⟩
abbrev S1x1 : Shape := ⟨2, ![1, 1]⟩
abbrev S1x1x1024 : Shape := ⟨3, ![1, 1, 1024]⟩
abbrev S1x512 : Shape := ⟨2, ![1, 512]⟩
abbrev S512 : Shape := ⟨1, ![512]⟩

abbrev nBuf : Space → Nat
  | .hbm => 41
  | .vmem => 22
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x512, .f32⟩
  | .hbm, ⟨3, _⟩ => ⟨S2x64, .f32⟩
  | .hbm, ⟨4, _⟩ => ⟨S2x64, .f32⟩
  | .hbm, ⟨5, _⟩ => ⟨S2x64, .f32⟩
  | .hbm, ⟨6, _⟩ => ⟨S2x64, .f32⟩
  | .hbm, ⟨7, _⟩ => ⟨S2x128, .f32⟩
  | .hbm, ⟨8, _⟩ => ⟨S1x64, .f32⟩
  | .hbm, ⟨9, _⟩ => ⟨S64, .f32⟩
  | .hbm, ⟨10, _⟩ => ⟨S1x64, .f32⟩
  | .hbm, ⟨11, _⟩ => ⟨S64, .f32⟩
  | .hbm, ⟨12, _⟩ => ⟨S1x64, .f32⟩
  | .hbm, ⟨13, _⟩ => ⟨S64, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S1x64, .f32⟩
  | .hbm, ⟨18, _⟩ => ⟨S1x64, .f32⟩
  | .hbm, ⟨19, _⟩ => ⟨S1x64, .f32⟩
  | .hbm, ⟨20, _⟩ => ⟨S4x64, .f32⟩
  | .hbm, ⟨21, _⟩ => ⟨S1x128, .f32⟩
  | .hbm, ⟨22, _⟩ => ⟨S128, .f32⟩
  | .hbm, ⟨23, _⟩ => ⟨S128x1, .f32⟩
  | .hbm, ⟨24, _⟩ => ⟨S128x512, .f32⟩
  | .hbm, ⟨25, _⟩ => ⟨S4x8x512x512, .f32⟩
  | .hbm, ⟨26, _⟩ => ⟨S4x8x512x512, .f32⟩
  | .hbm, ⟨27, _⟩ => ⟨S_, .f32⟩
  | .hbm, ⟨28, _⟩ => ⟨S4x8x512x512, .f32⟩
  | .hbm, ⟨29, _⟩ => ⟨S4x8x512x512, .f32⟩
  | .hbm, ⟨30, _⟩ => ⟨S4x8x512x512, .bf16⟩
  | .hbm, ⟨31, _⟩ => ⟨S4x8x512x512, .f32⟩
  | .hbm, ⟨32, _⟩ => ⟨S4x8x512x512, .f32⟩
  | .hbm, ⟨33, _⟩ => ⟨S4x8x4x128x512, .f32⟩
  | .hbm, ⟨34, _⟩ => ⟨S_, .f32⟩
  | .hbm, ⟨35, _⟩ => ⟨S4x8x4x16x512, .f32⟩
  | .hbm, ⟨36, _⟩ => ⟨S4x8x4x144x512, .f32⟩
  | .hbm, ⟨37, _⟩ => ⟨S4x8x576x512, .f32⟩
  | .hbm, ⟨38, _⟩ => ⟨S4x8x576x512, .bf16⟩
  | .hbm, ⟨39, _⟩ => ⟨S4x4096x512, .bf16⟩
  | .hbm, ⟨40, _⟩ => ⟨S4x8x512x512, .bf16⟩
  | .local _ .vmem, ⟨0, _⟩ => ⟨S4x64, .f32⟩
  | .local _ .vmem, ⟨1, _⟩ => ⟨S128x512, .f32⟩
  | .local _ .vmem, ⟨2, _⟩ => ⟨S1x8x128x512, .bf16⟩
  | .local _ .vmem, ⟨3, _⟩ => ⟨S1x8x128x512, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x8x144x512, .bf16⟩
  | .local _ .vmem, ⟨7, _⟩ => ⟨S1x8x144x512, .bf16⟩
  | .local _ .vmem, ⟨8, _⟩ => ⟨S1x8x128x512, .bf16⟩
  | .local _ .vmem, ⟨9, _⟩ => ⟨S1x8x128x512, .bf16⟩
  | .local _ .vmem, ⟨10, _⟩ => ⟨S8x128x1024, .bf16⟩
  | .local _ .vmem, ⟨11, _⟩ => ⟨S2x512x1024, .f32⟩
  | .local _ .vmem, ⟨12, _⟩ => ⟨S8x1x1024, .f32⟩
  | .local _ .vmem, ⟨13, _⟩ => ⟨S8x144x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_0 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_scratch8 : Ref sig .tc := ⟨.vmem, 18, rfl⟩
abbrev cc0_scratch9 : Ref sig .tc := ⟨.vmem, 19, rfl⟩
abbrev cc0_scratch10 : Ref sig .tc := ⟨.vmem, 20, rfl⟩
abbrev cc0_scratch11 : Ref sig .tc := ⟨.vmem, 21, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 4], ![false, false]⟩

def k0_mult1 : BitVec 32 :=
  let c0_i32_122 : BitVec 32 := 0#32
  let c512_i32_123 : BitVec 32 := 512#32
  let v176 : BitVec 32 := Scalar.muli c0_i32_122 c512_i32_123
  v176
def k0_off1 : Fin 3 → Nat :=
  let c0_124 : Index := 0#32
  let c0_i32_122 : BitVec 32 := 0#32
  let c512_i32_123 : BitVec 32 := 512#32
  let v176 : BitVec 32 := Scalar.muli c0_i32_122 c512_i32_123
  let v177 : BitVec 32 := v176
  let v178 : Index := Scalar.indexCast v177
  let c0_125 : Index := 0#32
  ![0, v178.toNat, 0]
def k0_off2 : Fin 3 → Nat :=
  let c0_i32_130 : BitVec 32 := 0#32
  let c0_i32_131 : BitVec 32 := 0#32
  let v184 : BitVec 1 := Scalar.cmpi .eq c0_i32_130 c0_i32_131
  let v185 : BitVec 32 := Scalar.extui v184
  let v186 : Index := Scalar.indexCast v185
  let c0_132 : Index := 0#32
  let c0_133 : Index := 0#32
  ![v186.toNat, 0, 0]
def k0_mult2 : BitVec 32 :=
  let c0_i32_111 : BitVec 32 := 0#32
  let c0_i32 : BitVec 32 := 0#32
  let c0_i32_110 : BitVec 32 := 0#32
  let v160 : BitVec 1 := Scalar.cmpi .eq c0_i32 c0_i32_110
  let v161 : BitVec 32 := Scalar.extui v160
  let v162 : BitVec 32 := Scalar.addi c0_i32_111 v161
  let c8_i32 : BitVec 32 := 8#32
  let v165 : BitVec 1 := Scalar.cmpi .eq v162 c8_i32
  let c0_i32_116 : BitVec 32 := 0#32
  let c0_i32_114 : BitVec 32 := 0#32
  let c0_i32_112 : BitVec 32 := 0#32
  let c1_i32_113 : BitVec 32 := 1#32
  let v163 : BitVec 32 := Scalar.addi c0_i32_112 c1_i32_113
  let v164 : BitVec 32 := Scalar.select v160 c0_i32_114 v163
  let v167 : BitVec 32 := Scalar.select v165 c0_i32_116 v164
  let c512_i32_139 : BitVec 32 := 512#32
  let v198 : BitVec 32 := Scalar.muli v167 c512_i32_139
  v198
def k0_off3 : Fin 3 → Nat :=
  let c0_140 : Index := 0#32
  let c0_i32_111 : BitVec 32 := 0#32
  let c0_i32 : BitVec 32 := 0#32
  let c0_i32_110 : BitVec 32 := 0#32
  let v160 : BitVec 1 := Scalar.cmpi .eq c0_i32 c0_i32_110
  let v161 : BitVec 32 := Scalar.extui v160
  let v162 : BitVec 32 := Scalar.addi c0_i32_111 v161
  let c8_i32 : BitVec 32 := 8#32
  let v165 : BitVec 1 := Scalar.cmpi .eq v162 c8_i32
  let c0_i32_116 : BitVec 32 := 0#32
  let c0_i32_114 : BitVec 32 := 0#32
  let c0_i32_112 : BitVec 32 := 0#32
  let c1_i32_113 : BitVec 32 := 1#32
  let v163 : BitVec 32 := Scalar.addi c0_i32_112 c1_i32_113
  let v164 : BitVec 32 := Scalar.select v160 c0_i32_114 v163
  let v167 : BitVec 32 := Scalar.select v165 c0_i32_116 v164
  let c512_i32_139 : BitVec 32 := 512#32
  let v198 : BitVec 32 := Scalar.muli v167 c512_i32_139
  let v199 : BitVec 32 := v198
  let v200 : Index := Scalar.indexCast v199
  let c0_141 : Index := 0#32
  ![0, v200.toNat, 0]
def k0_off4 : Fin 3 → Nat :=
  let c0_i32_111 : BitVec 32 := 0#32
  let c0_i32 : BitVec 32 := 0#32
  let c0_i32_110 : BitVec 32 := 0#32
  let v160 : BitVec 1 := Scalar.cmpi .eq c0_i32 c0_i32_110
  let v161 : BitVec 32 := Scalar.extui v160
  let v162 : BitVec 32 := Scalar.addi c0_i32_111 v161
  let c8_i32 : BitVec 32 := 8#32
  let v165 : BitVec 1 := Scalar.cmpi .eq v162 c8_i32
  let c0_i32_115 : BitVec 32 := 0#32
  let v166 : BitVec 32 := Scalar.select v165 c0_i32_115 v162
  let v203 : Index := Scalar.indexCast v166
  let c0_142 : Index := 0#32
  let c0_143 : Index := 0#32
  ![v203.toNat, 0, 0]
def k0_off5 : Fin 3 → Nat :=
  let c0_i32_111 : BitVec 32 := 0#32
  let c0_i32 : BitVec 32 := 0#32
  let c0_i32_110 : BitVec 32 := 0#32
  let v160 : BitVec 1 := Scalar.cmpi .eq c0_i32 c0_i32_110
  let v161 : BitVec 32 := Scalar.extui v160
  let v162 : BitVec 32 := Scalar.addi c0_i32_111 v161
  let c8_i32 : BitVec 32 := 8#32
  let v165 : BitVec 1 := Scalar.cmpi .eq v162 c8_i32
  let c0_i32_116 : BitVec 32 := 0#32
  let c0_i32_114 : BitVec 32 := 0#32
  let c0_i32_112 : BitVec 32 := 0#32
  let c1_i32_113 : BitVec 32 := 1#32
  let v163 : BitVec 32 := Scalar.addi c0_i32_112 c1_i32_113
  let v164 : BitVec 32 := Scalar.select v160 c0_i32_114 v163
  let v167 : BitVec 32 := Scalar.select v165 c0_i32_116 v164
  let c0_i32_115 : BitVec 32 := 0#32
  let v166 : BitVec 32 := Scalar.select v165 c0_i32_115 v162
  let v207 : BitVec 1 := Scalar.cmpi .eq v167 v166
  let v208 : BitVec 32 := Scalar.extui v207
  let v209 : Index := Scalar.indexCast v208
  let c0_145 : Index := 0#32
  let c0_146 : Index := 0#32
  ![v209.toNat, 0, 0]
def k0_mult3 : BitVec 32 :=
  let c0_i32_111 : BitVec 32 := 0#32
  let c0_i32 : BitVec 32 := 0#32
  let c0_i32_110 : BitVec 32 := 0#32
  let v160 : BitVec 1 := Scalar.cmpi .eq c0_i32 c0_i32_110
  let v161 : BitVec 32 := Scalar.extui v160
  let v162 : BitVec 32 := Scalar.addi c0_i32_111 v161
  let c8_i32 : BitVec 32 := 8#32
  let v165 : BitVec 1 := Scalar.cmpi .eq v162 c8_i32
  let c0_i32_115 : BitVec 32 := 0#32
  let v166 : BitVec 32 := Scalar.select v165 c0_i32_115 v162
  let c0_i32_116 : BitVec 32 := 0#32
  let c0_i32_114 : BitVec 32 := 0#32
  let c0_i32_112 : BitVec 32 := 0#32
  let c1_i32_113 : BitVec 32 := 1#32
  let v163 : BitVec 32 := Scalar.addi c0_i32_112 c1_i32_113
  let v164 : BitVec 32 := Scalar.select v160 c0_i32_114 v163
  let v167 : BitVec 32 := Scalar.select v165 c0_i32_116 v164
  let v168 : BitVec 1 := Scalar.cmpi .eq v167 v166
  let v169 : BitVec 32 := Scalar.extui v168
  let v170 : BitVec 32 := Scalar.addi v166 v169
  let c8_i32_119 : BitVec 32 := 8#32
  let v173 : BitVec 1 := Scalar.cmpi .eq v170 c8_i32_119
  let c0_i32_121 : BitVec 32 := 0#32
  let c0_i32_118 : BitVec 32 := 0#32
  let c1_i32_117 : BitVec 32 := 1#32
  let v171 : BitVec 32 := Scalar.addi v167 c1_i32_117
  let v172 : BitVec 32 := Scalar.select v168 c0_i32_118 v171
  let v175 : BitVec 32 := Scalar.select v173 c0_i32_121 v172
  let c512_i32_152 : BitVec 32 := 512#32
  let v221 : BitVec 32 := Scalar.muli v175 c512_i32_152
  v221
def k0_off6 : Fin 3 → Nat :=
  let c0_153 : Index := 0#32
  let c0_i32_111 : BitVec 32 := 0#32
  let c0_i32 : BitVec 32 := 0#32
  let c0_i32_110 : BitVec 32 := 0#32
  let v160 : BitVec 1 := Scalar.cmpi .eq c0_i32 c0_i32_110
  let v161 : BitVec 32 := Scalar.extui v160
  let v162 : BitVec 32 := Scalar.addi c0_i32_111 v161
  let c8_i32 : BitVec 32 := 8#32
  let v165 : BitVec 1 := Scalar.cmpi .eq v162 c8_i32
  let c0_i32_115 : BitVec 32 := 0#32
  let v166 : BitVec 32 := Scalar.select v165 c0_i32_115 v162
  let c0_i32_116 : BitVec 32 := 0#32
  let c0_i32_114 : BitVec 32 := 0#32
  let c0_i32_112 : BitVec 32 := 0#32
  let c1_i32_113 : BitVec 32 := 1#32
  let v163 : BitVec 32 := Scalar.addi c0_i32_112 c1_i32_113
  let v164 : BitVec 32 := Scalar.select v160 c0_i32_114 v163
  let v167 : BitVec 32 := Scalar.select v165 c0_i32_116 v164
  let v168 : BitVec 1 := Scalar.cmpi .eq v167 v166
  let v169 : BitVec 32 := Scalar.extui v168
  let v170 : BitVec 32 := Scalar.addi v166 v169
  let c8_i32_119 : BitVec 32 := 8#32
  let v173 : BitVec 1 := Scalar.cmpi .eq v170 c8_i32_119
  let c0_i32_121 : BitVec 32 := 0#32
  let c0_i32_118 : BitVec 32 := 0#32
  let c1_i32_117 : BitVec 32 := 1#32
  let v171 : BitVec 32 := Scalar.addi v167 c1_i32_117
  let v172 : BitVec 32 := Scalar.select v168 c0_i32_118 v171
  let v175 : BitVec 32 := Scalar.select v173 c0_i32_121 v172
  let c512_i32_152 : BitVec 32 := 512#32
  let v221 : BitVec 32 := Scalar.muli v175 c512_i32_152
  let v222 : BitVec 32 := v221
  let v223 : Index := Scalar.indexCast v222
  let c0_154 : Index := 0#32
  ![0, v223.toNat, 0]
def k0_off7 : Fin 3 → Nat :=
  let c0_i32_111 : BitVec 32 := 0#32
  let c0_i32 : BitVec 32 := 0#32
  let c0_i32_110 : BitVec 32 := 0#32
  let v160 : BitVec 1 := Scalar.cmpi .eq c0_i32 c0_i32_110
  let v161 : BitVec 32 := Scalar.extui v160
  let v162 : BitVec 32 := Scalar.addi c0_i32_111 v161
  let c8_i32 : BitVec 32 := 8#32
  let v165 : BitVec 1 := Scalar.cmpi .eq v162 c8_i32
  let c0_i32_115 : BitVec 32 := 0#32
  let v166 : BitVec 32 := Scalar.select v165 c0_i32_115 v162
  let c0_i32_116 : BitVec 32 := 0#32
  let c0_i32_114 : BitVec 32 := 0#32
  let c0_i32_112 : BitVec 32 := 0#32
  let c1_i32_113 : BitVec 32 := 1#32
  let v163 : BitVec 32 := Scalar.addi c0_i32_112 c1_i32_113
  let v164 : BitVec 32 := Scalar.select v160 c0_i32_114 v163
  let v167 : BitVec 32 := Scalar.select v165 c0_i32_116 v164
  let v168 : BitVec 1 := Scalar.cmpi .eq v167 v166
  let v169 : BitVec 32 := Scalar.extui v168
  let v170 : BitVec 32 := Scalar.addi v166 v169
  let c8_i32_119 : BitVec 32 := 8#32
  let v173 : BitVec 1 := Scalar.cmpi .eq v170 c8_i32_119
  let c0_i32_120 : BitVec 32 := 0#32
  let v174 : BitVec 32 := Scalar.select v173 c0_i32_120 v170
  let v226 : Index := Scalar.indexCast v174
  let c0_155 : Index := 0#32
  let c0_156 : Index := 0#32
  ![v226.toNat, 0, 0]
def k0_off8 : Fin 3 → Nat :=
  let c0_i32_111 : BitVec 32 := 0#32
  let c0_i32 : BitVec 32 := 0#32
  let c0_i32_110 : BitVec 32 := 0#32
  let v160 : BitVec 1 := Scalar.cmpi .eq c0_i32 c0_i32_110
  let v161 : BitVec 32 := Scalar.extui v160
  let v162 : BitVec 32 := Scalar.addi c0_i32_111 v161
  let c8_i32 : BitVec 32 := 8#32
  let v165 : BitVec 1 := Scalar.cmpi .eq v162 c8_i32
  let c0_i32_115 : BitVec 32 := 0#32
  let v166 : BitVec 32 := Scalar.select v165 c0_i32_115 v162
  let c0_i32_116 : BitVec 32 := 0#32
  let c0_i32_114 : BitVec 32 := 0#32
  let c0_i32_112 : BitVec 32 := 0#32
  let c1_i32_113 : BitVec 32 := 1#32
  let v163 : BitVec 32 := Scalar.addi c0_i32_112 c1_i32_113
  let v164 : BitVec 32 := Scalar.select v160 c0_i32_114 v163
  let v167 : BitVec 32 := Scalar.select v165 c0_i32_116 v164
  let v168 : BitVec 1 := Scalar.cmpi .eq v167 v166
  let v169 : BitVec 32 := Scalar.extui v168
  let v170 : BitVec 32 := Scalar.addi v166 v169
  let c8_i32_119 : BitVec 32 := 8#32
  let v173 : BitVec 1 := Scalar.cmpi .eq v170 c8_i32_119
  let c0_i32_121 : BitVec 32 := 0#32
  let c0_i32_118 : BitVec 32 := 0#32
  let c1_i32_117 : BitVec 32 := 1#32
  let v171 : BitVec 32 := Scalar.addi v167 c1_i32_117
  let v172 : BitVec 32 := Scalar.select v168 c0_i32_118 v171
  let v175 : BitVec 32 := Scalar.select v173 c0_i32_121 v172
  let c0_i32_120 : BitVec 32 := 0#32
  let v174 : BitVec 32 := Scalar.select v173 c0_i32_120 v170
  let v230 : BitVec 1 := Scalar.cmpi .eq v175 v174
  let v231 : BitVec 32 := Scalar.extui v230
  let v232 : Index := Scalar.indexCast v231
  let c0_158 : Index := 0#32
  let c0_159 : Index := 0#32
  ![v232.toNat, 0, 0]
@[reducible] def k0_t1_loop : Scf.Loop 32 :=
  let c0_i32_167 : BitVec 32 := 0#32
  let c9_i32 : BitVec 32 := 9#32
  let v244 : BitVec 32 := Scalar.addi c0_i32_167 c9_i32
  let c1_i32_168 : BitVec 32 := 1#32
  ⟨c0_i32_167, v244, c1_i32_168⟩
def k0_mult4 (arg25 : BitVec 32) (arg26 : BitVec 32) : BitVec 32 :=
  let v551 : BitVec 1 := Scalar.cmpi .eq arg26 arg25
  let v552 : BitVec 32 := Scalar.extui v551
  let v553 : BitVec 32 := Scalar.addi arg25 v552
  let c8_i32_311 : BitVec 32 := 8#32
  let v556 : BitVec 1 := Scalar.cmpi .eq v553 c8_i32_311
  let c0_i32_313 : BitVec 32 := 0#32
  let c0_i32_310 : BitVec 32 := 0#32
  let c1_i32_309 : BitVec 32 := 1#32
  let v554 : BitVec 32 := Scalar.addi arg26 c1_i32_309
  let v555 : BitVec 32 := Scalar.select v551 c0_i32_310 v554
  let v558 : BitVec 32 := Scalar.select v556 c0_i32_313 v555
  let c512_i32_314 : BitVec 32 := 512#32
  let v559 : BitVec 32 := Scalar.muli v558 c512_i32_314
  v559

def k0_off9 (arg25 : BitVec 32) (arg26 : BitVec 32) : Fin 3 → Nat :=
  let c0_315 : Index := 0#32
  let v551 : BitVec 1 := Scalar.cmpi .eq arg26 arg25
  let v552 : BitVec 32 := Scalar.extui v551
  let v553 : BitVec 32 := Scalar.addi arg25 v552
  let c8_i32_311 : BitVec 32 := 8#32
  let v556 : BitVec 1 := Scalar.cmpi .eq v553 c8_i32_311
  let c0_i32_313 : BitVec 32 := 0#32
  let c0_i32_310 : BitVec 32 := 0#32
  let c1_i32_309 : BitVec 32 := 1#32
  let v554 : BitVec 32 := Scalar.addi arg26 c1_i32_309
  let v555 : BitVec 32 := Scalar.select v551 c0_i32_310 v554
  let v558 : BitVec 32 := Scalar.select v556 c0_i32_313 v555
  let c512_i32_314 : BitVec 32 := 512#32
  let v559 : BitVec 32 := Scalar.muli v558 c512_i32_314
  let v560 : BitVec 32 := v559
  let v561 : Index := Scalar.indexCast v560
  let c0_316 : Index := 0#32
  ![0, v561.toNat, 0]
def k0_off10 (arg25 : BitVec 32) (arg26 : BitVec 32) : Fin 3 → Nat :=
  let v551 : BitVec 1 := Scalar.cmpi .eq arg26 arg25
  let v552 : BitVec 32 := Scalar.extui v551
  let v553 : BitVec 32 := Scalar.addi arg25 v552
  let c8_i32_311 : BitVec 32 := 8#32
  let v556 : BitVec 1 := Scalar.cmpi .eq v553 c8_i32_311
  let c0_i32_312 : BitVec 32 := 0#32
  let v557 : BitVec 32 := Scalar.select v556 c0_i32_312 v553
  let v564 : Index := Scalar.indexCast v557
  let c0_317 : Index := 0#32
  let c0_318 : Index := 0#32
  ![v564.toNat, 0, 0]
def k0_off11 (arg25 : BitVec 32) (arg26 : BitVec 32) : Fin 3 → Nat :=
  let v551 : BitVec 1 := Scalar.cmpi .eq arg26 arg25
  let v552 : BitVec 32 := Scalar.extui v551
  let v553 : BitVec 32 := Scalar.addi arg25 v552
  let c8_i32_311 : BitVec 32 := 8#32
  let v556 : BitVec 1 := Scalar.cmpi .eq v553 c8_i32_311
  let c0_i32_313 : BitVec 32 := 0#32
  let c0_i32_310 : BitVec 32 := 0#32
  let c1_i32_309 : BitVec 32 := 1#32
  let v554 : BitVec 32 := Scalar.addi arg26 c1_i32_309
  let v555 : BitVec 32 := Scalar.select v551 c0_i32_310 v554
  let v558 : BitVec 32 := Scalar.select v556 c0_i32_313 v555
  let c0_i32_312 : BitVec 32 := 0#32
  let v557 : BitVec 32 := Scalar.select v556 c0_i32_312 v553
  let v568 : BitVec 1 := Scalar.cmpi .eq v558 v557
  let v569 : BitVec 32 := Scalar.extui v568
  let v570 : Index := Scalar.indexCast v569
  let c0_320 : Index := 0#32
  let c0_321 : Index := 0#32
  ![v570.toNat, 0, 0]
def k0_off12 (arg22 : BitVec 32) : Fin 4 → Nat :=
  let c0_328 : Index := 0#32
  let v585 : Index := Scalar.indexCast arg22
  let c0_329 : Index := 0#32
  let c0_330 : Index := 0#32
  ![0, v585.toNat, 0, 0]

def k0_chk2 (arg22 : BitVec 32) : Prop :=
  (∀ a, (k0_off12 arg22) a + S1x1x144x512.size a ≤ S1x8x144x512.size a)
theorem k0_off12_inb : ∀ (arg22 : BitVec 32) (k0_hw2 : k0_chk2 arg22), ∀ a, (k0_off12 arg22) a + S1x1x144x512.size a ≤ S1x8x144x512.size a := fun arg22 k0_hw2 => k0_hw2

def k0_off13 (arg21 : BitVec 32) : Fin 3 → Nat :=
  let v588 : Index := Scalar.indexCast arg21
  let c0_331 : Index := 0#32
  let c0_332 : Index := 0#32
  ![v588.toNat, 0, 0]

def k0_off14 (arg21 : BitVec 32) : Fin 3 → Nat :=
  let v609 : Index := Scalar.indexCast arg21
  let c0_340 : Index := 0#32
  let c0_341 : Index := 0#32
  ![v609.toNat, 0, 0]
def k0_off15 (arg21 : BitVec 32) : Fin 3 → Nat :=
  let v619 : Index := Scalar.indexCast arg21
  let c0_344 : Index := 0#32
  let c256 : Index := 256#32
  ![v619.toNat, 0, 256]
def k0_off16 (arg21 : BitVec 32) : Fin 3 → Nat :=
  let v640 : Index := Scalar.indexCast arg21
  let c0_352 : Index := 0#32
  let c256_353 : Index := 256#32
  ![v640.toNat, 0, 256]
def k0_off17 (arg21 : BitVec 32) : Fin 3 → Nat :=
  let v650 : Index := Scalar.indexCast arg21
  let c0_356 : Index := 0#32
  let c512_357 : Index := 512#32
  ![v650.toNat, 0, 512]
def k0_off18 (arg21 : BitVec 32) : Fin 3 → Nat :=
  let v671 : Index := Scalar.indexCast arg21
  let c0_365 : Index := 0#32
  let c512_366 : Index := 512#32
  ![v671.toNat, 0, 512]
def k0_off19 (arg21 : BitVec 32) : Fin 3 → Nat :=
  let v681 : Index := Scalar.indexCast arg21
  let c0_369 : Index := 0#32
  let c768 : Index := 768#32
  ![v681.toNat, 0, 768]
def k0_off20 (arg21 : BitVec 32) : Fin 3 → Nat :=
  let v702 : Index := Scalar.indexCast arg21
  let c0_377 : Index := 0#32
  let c768_378 : Index := 768#32
  ![v702.toNat, 0, 768]

def k0_chk3 (arg21 : BitVec 32) : Prop :=
  (∀ a, (k0_off13 arg21) a + S1x1x256.size a ≤ S8x1x1024.size a) ∧
  (∀ a, (k0_off14 arg21) a + S1x144x256.size a ≤ S8x144x1024.size a) ∧
  (∀ a, (k0_off15 arg21) a + S1x1x256.size a ≤ S8x1x1024.size a) ∧
  (∀ a, (k0_off16 arg21) a + S1x144x256.size a ≤ S8x144x1024.size a) ∧
  (∀ a, (k0_off17 arg21) a + S1x1x256.size a ≤ S8x1x1024.size a) ∧
  (∀ a, (k0_off18 arg21) a + S1x144x256.size a ≤ S8x144x1024.size a) ∧
  (∀ a, (k0_off19 arg21) a + S1x1x256.size a ≤ S8x1x1024.size a) ∧
  (∀ a, (k0_off20 arg21) a + S1x144x256.size a ≤ S8x144x1024.size a)
theorem k0_off13_inb : ∀ (arg21 : BitVec 32) (k0_hw3 : k0_chk3 arg21), ∀ a, (k0_off13 arg21) a + S1x1x256.size a ≤ S8x1x1024.size a := fun arg21 k0_hw3 => k0_hw3.1
theorem k0_off14_inb : ∀ (arg21 : BitVec 32) (k0_hw3 : k0_chk3 arg21), ∀ a, (k0_off14 arg21) a + S1x144x256.size a ≤ S8x144x1024.size a := fun arg21 k0_hw3 => k0_hw3.2.1
theorem k0_off15_inb : ∀ (arg21 : BitVec 32) (k0_hw3 : k0_chk3 arg21), ∀ a, (k0_off15 arg21) a + S1x1x256.size a ≤ S8x1x1024.size a := fun arg21 k0_hw3 => k0_hw3.2.2.1
theorem k0_off16_inb : ∀ (arg21 : BitVec 32) (k0_hw3 : k0_chk3 arg21), ∀ a, (k0_off16 arg21) a + S1x144x256.size a ≤ S8x144x1024.size a := fun arg21 k0_hw3 => k0_hw3.2.2.2.1
theorem k0_off17_inb : ∀ (arg21 : BitVec 32) (k0_hw3 : k0_chk3 arg21), ∀ a, (k0_off17 arg21) a + S1x1x256.size a ≤ S8x1x1024.size a := fun arg21 k0_hw3 => k0_hw3.2.2.2.2.1
theorem k0_off18_inb : ∀ (arg21 : BitVec 32) (k0_hw3 : k0_chk3 arg21), ∀ a, (k0_off18 arg21) a + S1x144x256.size a ≤ S8x144x1024.size a := fun arg21 k0_hw3 => k0_hw3.2.2.2.2.2.1
theorem k0_off19_inb : ∀ (arg21 : BitVec 32) (k0_hw3 : k0_chk3 arg21), ∀ a, (k0_off19 arg21) a + S1x1x256.size a ≤ S8x1x1024.size a := fun arg21 k0_hw3 => k0_hw3.2.2.2.2.2.2.1
theorem k0_off20_inb : ∀ (arg21 : BitVec 32) (k0_hw3 : k0_chk3 arg21), ∀ a, (k0_off20 arg21) a + S1x144x256.size a ≤ S8x144x1024.size a := fun arg21 k0_hw3 => k0_hw3.2.2.2.2.2.2.2

def k0_mult5 (arg25 : BitVec 32) (arg26 : BitVec 32) : BitVec 32 :=
  let v551 : BitVec 1 := Scalar.cmpi .eq arg26 arg25
  let v552 : BitVec 32 := Scalar.extui v551
  let v553 : BitVec 32 := Scalar.addi arg25 v552
  let c8_i32_311 : BitVec 32 := 8#32
  let v556 : BitVec 1 := Scalar.cmpi .eq v553 c8_i32_311
  let c0_i32_312 : BitVec 32 := 0#32
  let v557 : BitVec 32 := Scalar.select v556 c0_i32_312 v553
  let c0_i32_313 : BitVec 32 := 0#32
  let c0_i32_310 : BitVec 32 := 0#32
  let c1_i32_309 : BitVec 32 := 1#32
  let v554 : BitVec 32 := Scalar.addi arg26 c1_i32_309
  let v555 : BitVec 32 := Scalar.select v551 c0_i32_310 v554
  let v558 : BitVec 32 := Scalar.select v556 c0_i32_313 v555
  let v712 : BitVec 1 := Scalar.cmpi .eq v558 v557
  let v713 : BitVec 32 := Scalar.extui v712
  let v714 : BitVec 32 := Scalar.addi v557 v713
  let c8_i32_383 : BitVec 32 := 8#32
  let v717 : BitVec 1 := Scalar.cmpi .eq v714 c8_i32_383
  let c0_i32_385 : BitVec 32 := 0#32
  let c0_i32_382 : BitVec 32 := 0#32
  let c1_i32_381 : BitVec 32 := 1#32
  let v715 : BitVec 32 := Scalar.addi v558 c1_i32_381
  let v716 : BitVec 32 := Scalar.select v712 c0_i32_382 v715
  let v719 : BitVec 32 := Scalar.select v717 c0_i32_385 v716
  let c512_i32_386 : BitVec 32 := 512#32
  let v720 : BitVec 32 := Scalar.muli v719 c512_i32_386
  v720
def k0_off21 (arg25 : BitVec 32) (arg26 : BitVec 32) : Fin 3 → Nat :=
  let c0_387 : Index := 0#32
  let v551 : BitVec 1 := Scalar.cmpi .eq arg26 arg25
  let v552 : BitVec 32 := Scalar.extui v551
  let v553 : BitVec 32 := Scalar.addi arg25 v552
  let c8_i32_311 : BitVec 32 := 8#32
  let v556 : BitVec 1 := Scalar.cmpi .eq v553 c8_i32_311
  let c0_i32_312 : BitVec 32 := 0#32
  let v557 : BitVec 32 := Scalar.select v556 c0_i32_312 v553
  let c0_i32_313 : BitVec 32 := 0#32
  let c0_i32_310 : BitVec 32 := 0#32
  let c1_i32_309 : BitVec 32 := 1#32
  let v554 : BitVec 32 := Scalar.addi arg26 c1_i32_309
  let v555 : BitVec 32 := Scalar.select v551 c0_i32_310 v554
  let v558 : BitVec 32 := Scalar.select v556 c0_i32_313 v555
  let v712 : BitVec 1 := Scalar.cmpi .eq v558 v557
  let v713 : BitVec 32 := Scalar.extui v712
  let v714 : BitVec 32 := Scalar.addi v557 v713
  let c8_i32_383 : BitVec 32 := 8#32
  let v717 : BitVec 1 := Scalar.cmpi .eq v714 c8_i32_383
  let c0_i32_385 : BitVec 32 := 0#32
  let c0_i32_382 : BitVec 32 := 0#32
  let c1_i32_381 : BitVec 32 := 1#32
  let v715 : BitVec 32 := Scalar.addi v558 c1_i32_381
  let v716 : BitVec 32 := Scalar.select v712 c0_i32_382 v715
  let v719 : BitVec 32 := Scalar.select v717 c0_i32_385 v716
  let c512_i32_386 : BitVec 32 := 512#32
  let v720 : BitVec 32 := Scalar.muli v719 c512_i32_386
  let v721 : BitVec 32 := v720
  let v722 : Index := Scalar.indexCast v721
  let c0_388 : Index := 0#32
  ![0, v722.toNat, 0]
def k0_off22 (arg25 : BitVec 32) (arg26 : BitVec 32) : Fin 3 → Nat :=
  let v551 : BitVec 1 := Scalar.cmpi .eq arg26 arg25
  let v552 : BitVec 32 := Scalar.extui v551
  let v553 : BitVec 32 := Scalar.addi arg25 v552
  let c8_i32_311 : BitVec 32 := 8#32
  let v556 : BitVec 1 := Scalar.cmpi .eq v553 c8_i32_311
  let c0_i32_312 : BitVec 32 := 0#32
  let v557 : BitVec 32 := Scalar.select v556 c0_i32_312 v553
  let c0_i32_313 : BitVec 32 := 0#32
  let c0_i32_310 : BitVec 32 := 0#32
  let c1_i32_309 : BitVec 32 := 1#32
  let v554 : BitVec 32 := Scalar.addi arg26 c1_i32_309
  let v555 : BitVec 32 := Scalar.select v551 c0_i32_310 v554
  let v558 : BitVec 32 := Scalar.select v556 c0_i32_313 v555
  let v712 : BitVec 1 := Scalar.cmpi .eq v558 v557
  let v713 : BitVec 32 := Scalar.extui v712
  let v714 : BitVec 32 := Scalar.addi v557 v713
  let c8_i32_383 : BitVec 32 := 8#32
  let v717 : BitVec 1 := Scalar.cmpi .eq v714 c8_i32_383
  let c0_i32_384 : BitVec 32 := 0#32
  let v718 : BitVec 32 := Scalar.select v717 c0_i32_384 v714
  let v725 : Index := Scalar.indexCast v718
  let c0_389 : Index := 0#32
  let c0_390 : Index := 0#32
  ![v725.toNat, 0, 0]
def k0_off23 (arg25 : BitVec 32) (arg26 : BitVec 32) : Fin 3 → Nat :=
  let v551 : BitVec 1 := Scalar.cmpi .eq arg26 arg25
  let v552 : BitVec 32 := Scalar.extui v551
  let v553 : BitVec 32 := Scalar.addi arg25 v552
  let c8_i32_311 : BitVec 32 := 8#32
  let v556 : BitVec 1 := Scalar.cmpi .eq v553 c8_i32_311
  let c0_i32_312 : BitVec 32 := 0#32
  let v557 : BitVec 32 := Scalar.select v556 c0_i32_312 v553
  let c0_i32_313 : BitVec 32 := 0#32
  let c0_i32_310 : BitVec 32 := 0#32
  let c1_i32_309 : BitVec 32 := 1#32
  let v554 : BitVec 32 := Scalar.addi arg26 c1_i32_309
  let v555 : BitVec 32 := Scalar.select v551 c0_i32_310 v554
  let v558 : BitVec 32 := Scalar.select v556 c0_i32_313 v555
  let v712 : BitVec 1 := Scalar.cmpi .eq v558 v557
  let v713 : BitVec 32 := Scalar.extui v712
  let v714 : BitVec 32 := Scalar.addi v557 v713
  let c8_i32_383 : BitVec 32 := 8#32
  let v717 : BitVec 1 := Scalar.cmpi .eq v714 c8_i32_383
  let c0_i32_385 : BitVec 32 := 0#32
  let c0_i32_382 : BitVec 32 := 0#32
  let c1_i32_381 : BitVec 32 := 1#32
  let v715 : BitVec 32 := Scalar.addi v558 c1_i32_381
  let v716 : BitVec 32 := Scalar.select v712 c0_i32_382 v715
  let v719 : BitVec 32 := Scalar.select v717 c0_i32_385 v716
  let c0_i32_384 : BitVec 32 := 0#32
  let v718 : BitVec 32 := Scalar.select v717 c0_i32_384 v714
  let v729 : BitVec 1 := Scalar.cmpi .eq v719 v718
  let v730 : BitVec 32 := Scalar.extui v729
  let v731 : Index := Scalar.indexCast v730
  let c0_392 : Index := 0#32
  let c0_393 : Index := 0#32
  ![v731.toNat, 0, 0]
def k0_off24 (arg24 : BitVec 32) : Fin 4 → Nat :=
  let c0_400 : Index := 0#32
  let v746 : Index := Scalar.indexCast arg24
  let c0_401 : Index := 0#32
  let c0_402 : Index := 0#32
  ![0, v746.toNat, 0, 0]

def k0_chk4 (arg24 : BitVec 32) : Prop :=
  (∀ a, (k0_off24 arg24) a + S1x1x144x512.size a ≤ S1x8x144x512.size a)
theorem k0_off24_inb : ∀ (arg24 : BitVec 32) (k0_hw4 : k0_chk4 arg24), ∀ a, (k0_off24 arg24) a + S1x1x144x512.size a ≤ S1x8x144x512.size a := fun arg24 k0_hw4 => k0_hw4

def k0_off25 (arg23 : BitVec 32) : Fin 3 → Nat :=
  let v749 : Index := Scalar.indexCast arg23
  let c0_403 : Index := 0#32
  let c0_404 : Index := 0#32
  ![v749.toNat, 0, 0]

def k0_off26 (arg23 : BitVec 32) : Fin 3 → Nat :=
  let v770 : Index := Scalar.indexCast arg23
  let c0_412 : Index := 0#32
  let c0_413 : Index := 0#32
  ![v770.toNat, 0, 0]
def k0_off27 (arg23 : BitVec 32) : Fin 3 → Nat :=
  let v780 : Index := Scalar.indexCast arg23
  let c0_416 : Index := 0#32
  let c256_417 : Index := 256#32
  ![v780.toNat, 0, 256]
def k0_off28 (arg23 : BitVec 32) : Fin 3 → Nat :=
  let v801 : Index := Scalar.indexCast arg23
  let c0_425 : Index := 0#32
  let c256_426 : Index := 256#32
  ![v801.toNat, 0, 256]
def k0_off29 (arg23 : BitVec 32) : Fin 3 → Nat :=
  let v811 : Index := Scalar.indexCast arg23
  let c0_429 : Index := 0#32
  let c512_430 : Index := 512#32
  ![v811.toNat, 0, 512]
def k0_off30 (arg23 : BitVec 32) : Fin 3 → Nat :=
  let v832 : Index := Scalar.indexCast arg23
  let c0_438 : Index := 0#32
  let c512_439 : Index := 512#32
  ![v832.toNat, 0, 512]
def k0_off31 (arg23 : BitVec 32) : Fin 3 → Nat :=
  let v842 : Index := Scalar.indexCast arg23
  let c0_442 : Index := 0#32
  let c768_443 : Index := 768#32
  ![v842.toNat, 0, 768]
def k0_off32 (arg23 : BitVec 32) : Fin 3 → Nat :=
  let v863 : Index := Scalar.indexCast arg23
  let c0_451 : Index := 0#32
  let c768_452 : Index := 768#32
  ![v863.toNat, 0, 768]

def k0_chk5 (arg23 : BitVec 32) : Prop :=
  (∀ a, (k0_off25 arg23) a + S1x1x256.size a ≤ S8x1x1024.size a) ∧
  (∀ a, (k0_off26 arg23) a + S1x144x256.size a ≤ S8x144x1024.size a) ∧
  (∀ a, (k0_off27 arg23) a + S1x1x256.size a ≤ S8x1x1024.size a) ∧
  (∀ a, (k0_off28 arg23) a + S1x144x256.size a ≤ S8x144x1024.size a) ∧
  (∀ a, (k0_off29 arg23) a + S1x1x256.size a ≤ S8x1x1024.size a) ∧
  (∀ a, (k0_off30 arg23) a + S1x144x256.size a ≤ S8x144x1024.size a) ∧
  (∀ a, (k0_off31 arg23) a + S1x1x256.size a ≤ S8x1x1024.size a) ∧
  (∀ a, (k0_off32 arg23) a + S1x144x256.size a ≤ S8x144x1024.size a)
theorem k0_off25_inb : ∀ (arg23 : BitVec 32) (k0_hw5 : k0_chk5 arg23), ∀ a, (k0_off25 arg23) a + S1x1x256.size a ≤ S8x1x1024.size a := fun arg23 k0_hw5 => k0_hw5.1
theorem k0_off26_inb : ∀ (arg23 : BitVec 32) (k0_hw5 : k0_chk5 arg23), ∀ a, (k0_off26 arg23) a + S1x144x256.size a ≤ S8x144x1024.size a := fun arg23 k0_hw5 => k0_hw5.2.1
theorem k0_off27_inb : ∀ (arg23 : BitVec 32) (k0_hw5 : k0_chk5 arg23), ∀ a, (k0_off27 arg23) a + S1x1x256.size a ≤ S8x1x1024.size a := fun arg23 k0_hw5 => k0_hw5.2.2.1
theorem k0_off28_inb : ∀ (arg23 : BitVec 32) (k0_hw5 : k0_chk5 arg23), ∀ a, (k0_off28 arg23) a + S1x144x256.size a ≤ S8x144x1024.size a := fun arg23 k0_hw5 => k0_hw5.2.2.2.1
theorem k0_off29_inb : ∀ (arg23 : BitVec 32) (k0_hw5 : k0_chk5 arg23), ∀ a, (k0_off29 arg23) a + S1x1x256.size a ≤ S8x1x1024.size a := fun arg23 k0_hw5 => k0_hw5.2.2.2.2.1
theorem k0_off30_inb : ∀ (arg23 : BitVec 32) (k0_hw5 : k0_chk5 arg23), ∀ a, (k0_off30 arg23) a + S1x144x256.size a ≤ S8x144x1024.size a := fun arg23 k0_hw5 => k0_hw5.2.2.2.2.2.1
theorem k0_off31_inb : ∀ (arg23 : BitVec 32) (k0_hw5 : k0_chk5 arg23), ∀ a, (k0_off31 arg23) a + S1x1x256.size a ≤ S8x1x1024.size a := fun arg23 k0_hw5 => k0_hw5.2.2.2.2.2.2.1
theorem k0_off32_inb : ∀ (arg23 : BitVec 32) (k0_hw5 : k0_chk5 arg23), ∀ a, (k0_off32 arg23) a + S1x144x256.size a ≤ S8x144x1024.size a := fun arg23 k0_hw5 => k0_hw5.2.2.2.2.2.2.2

def k0_mult6 (arg25 : BitVec 32) (arg26 : BitVec 32) : BitVec 32 :=
  let v551 : BitVec 1 := Scalar.cmpi .eq arg26 arg25
  let v552 : BitVec 32 := Scalar.extui v551
  let v553 : BitVec 32 := Scalar.addi arg25 v552
  let c8_i32_311 : BitVec 32 := 8#32
  let v556 : BitVec 1 := Scalar.cmpi .eq v553 c8_i32_311
  let c0_i32_312 : BitVec 32 := 0#32
  let v557 : BitVec 32 := Scalar.select v556 c0_i32_312 v553
  let c0_i32_313 : BitVec 32 := 0#32
  let c0_i32_310 : BitVec 32 := 0#32
  let c1_i32_309 : BitVec 32 := 1#32
  let v554 : BitVec 32 := Scalar.addi arg26 c1_i32_309
  let v555 : BitVec 32 := Scalar.select v551 c0_i32_310 v554
  let v558 : BitVec 32 := Scalar.select v556 c0_i32_313 v555
  let v712 : BitVec 1 := Scalar.cmpi .eq v558 v557
  let v713 : BitVec 32 := Scalar.extui v712
  let v714 : BitVec 32 := Scalar.addi v557 v713
  let c8_i32_383 : BitVec 32 := 8#32
  let v717 : BitVec 1 := Scalar.cmpi .eq v714 c8_i32_383
  let c0_i32_384 : BitVec 32 := 0#32
  let v718 : BitVec 32 := Scalar.select v717 c0_i32_384 v714
  let c0_i32_385 : BitVec 32 := 0#32
  let c0_i32_382 : BitVec 32 := 0#32
  let c1_i32_381 : BitVec 32 := 1#32
  let v715 : BitVec 32 := Scalar.addi v558 c1_i32_381
  let v716 : BitVec 32 := Scalar.select v712 c0_i32_382 v715
  let v719 : BitVec 32 := Scalar.select v717 c0_i32_385 v716
  let v873 : BitVec 1 := Scalar.cmpi .eq v719 v718
  let v874 : BitVec 32 := Scalar.extui v873
  let v875 : BitVec 32 := Scalar.addi v718 v874
  let c8_i32_457 : BitVec 32 := 8#32
  let v878 : BitVec 1 := Scalar.cmpi .eq v875 c8_i32_457
  let c0_i32_459 : BitVec 32 := 0#32
  let c0_i32_456 : BitVec 32 := 0#32
  let c1_i32_455 : BitVec 32 := 1#32
  let v876 : BitVec 32 := Scalar.addi v719 c1_i32_455
  let v877 : BitVec 32 := Scalar.select v873 c0_i32_456 v876
  let v880 : BitVec 32 := Scalar.select v878 c0_i32_459 v877
  let c512_i32_460 : BitVec 32 := 512#32
  let v881 : BitVec 32 := Scalar.muli v880 c512_i32_460
  v881
def k0_off33 (arg25 : BitVec 32) (arg26 : BitVec 32) : Fin 3 → Nat :=
  let c0_461 : Index := 0#32
  let v551 : BitVec 1 := Scalar.cmpi .eq arg26 arg25
  let v552 : BitVec 32 := Scalar.extui v551
  let v553 : BitVec 32 := Scalar.addi arg25 v552
  let c8_i32_311 : BitVec 32 := 8#32
  let v556 : BitVec 1 := Scalar.cmpi .eq v553 c8_i32_311
  let c0_i32_312 : BitVec 32 := 0#32
  let v557 : BitVec 32 := Scalar.select v556 c0_i32_312 v553
  let c0_i32_313 : BitVec 32 := 0#32
  let c0_i32_310 : BitVec 32 := 0#32
  let c1_i32_309 : BitVec 32 := 1#32
  let v554 : BitVec 32 := Scalar.addi arg26 c1_i32_309
  let v555 : BitVec 32 := Scalar.select v551 c0_i32_310 v554
  let v558 : BitVec 32 := Scalar.select v556 c0_i32_313 v555
  let v712 : BitVec 1 := Scalar.cmpi .eq v558 v557
  let v713 : BitVec 32 := Scalar.extui v712
  let v714 : BitVec 32 := Scalar.addi v557 v713
  let c8_i32_383 : BitVec 32 := 8#32
  let v717 : BitVec 1 := Scalar.cmpi .eq v714 c8_i32_383
  let c0_i32_384 : BitVec 32 := 0#32
  let v718 : BitVec 32 := Scalar.select v717 c0_i32_384 v714
  let c0_i32_385 : BitVec 32 := 0#32
  let c0_i32_382 : BitVec 32 := 0#32
  let c1_i32_381 : BitVec 32 := 1#32
  let v715 : BitVec 32 := Scalar.addi v558 c1_i32_381
  let v716 : BitVec 32 := Scalar.select v712 c0_i32_382 v715
  let v719 : BitVec 32 := Scalar.select v717 c0_i32_385 v716
  let v873 : BitVec 1 := Scalar.cmpi .eq v719 v718
  let v874 : BitVec 32 := Scalar.extui v873
  let v875 : BitVec 32 := Scalar.addi v718 v874
  let c8_i32_457 : BitVec 32 := 8#32
  let v878 : BitVec 1 := Scalar.cmpi .eq v875 c8_i32_457
  let c0_i32_459 : BitVec 32 := 0#32
  let c0_i32_456 : BitVec 32 := 0#32
  let c1_i32_455 : BitVec 32 := 1#32
  let v876 : BitVec 32 := Scalar.addi v719 c1_i32_455
  let v877 : BitVec 32 := Scalar.select v873 c0_i32_456 v876
  let v880 : BitVec 32 := Scalar.select v878 c0_i32_459 v877
  let c512_i32_460 : BitVec 32 := 512#32
  let v881 : BitVec 32 := Scalar.muli v880 c512_i32_460
  let v882 : BitVec 32 := v881
  let v883 : Index := Scalar.indexCast v882
  let c0_462 : Index := 0#32
  ![0, v883.toNat, 0]
def k0_off34 (arg25 : BitVec 32) (arg26 : BitVec 32) : Fin 3 → Nat :=
  let v551 : BitVec 1 := Scalar.cmpi .eq arg26 arg25
  let v552 : BitVec 32 := Scalar.extui v551
  let v553 : BitVec 32 := Scalar.addi arg25 v552
  let c8_i32_311 : BitVec 32 := 8#32
  let v556 : BitVec 1 := Scalar.cmpi .eq v553 c8_i32_311
  let c0_i32_312 : BitVec 32 := 0#32
  let v557 : BitVec 32 := Scalar.select v556 c0_i32_312 v553
  let c0_i32_313 : BitVec 32 := 0#32
  let c0_i32_310 : BitVec 32 := 0#32
  let c1_i32_309 : BitVec 32 := 1#32
  let v554 : BitVec 32 := Scalar.addi arg26 c1_i32_309
  let v555 : BitVec 32 := Scalar.select v551 c0_i32_310 v554
  let v558 : BitVec 32 := Scalar.select v556 c0_i32_313 v555
  let v712 : BitVec 1 := Scalar.cmpi .eq v558 v557
  let v713 : BitVec 32 := Scalar.extui v712
  let v714 : BitVec 32 := Scalar.addi v557 v713
  let c8_i32_383 : BitVec 32 := 8#32
  let v717 : BitVec 1 := Scalar.cmpi .eq v714 c8_i32_383
  let c0_i32_384 : BitVec 32 := 0#32
  let v718 : BitVec 32 := Scalar.select v717 c0_i32_384 v714
  let c0_i32_385 : BitVec 32 := 0#32
  let c0_i32_382 : BitVec 32 := 0#32
  let c1_i32_381 : BitVec 32 := 1#32
  let v715 : BitVec 32 := Scalar.addi v558 c1_i32_381
  let v716 : BitVec 32 := Scalar.select v712 c0_i32_382 v715
  let v719 : BitVec 32 := Scalar.select v717 c0_i32_385 v716
  let v873 : BitVec 1 := Scalar.cmpi .eq v719 v718
  let v874 : BitVec 32 := Scalar.extui v873
  let v875 : BitVec 32 := Scalar.addi v718 v874
  let c8_i32_457 : BitVec 32 := 8#32
  let v878 : BitVec 1 := Scalar.cmpi .eq v875 c8_i32_457
  let c0_i32_458 : BitVec 32 := 0#32
  let v879 : BitVec 32 := Scalar.select v878 c0_i32_458 v875
  let v886 : Index := Scalar.indexCast v879
  let c0_463 : Index := 0#32
  let c0_464 : Index := 0#32
  ![v886.toNat, 0, 0]
def k0_off35 (arg25 : BitVec 32) (arg26 : BitVec 32) : Fin 3 → Nat :=
  let v551 : BitVec 1 := Scalar.cmpi .eq arg26 arg25
  let v552 : BitVec 32 := Scalar.extui v551
  let v553 : BitVec 32 := Scalar.addi arg25 v552
  let c8_i32_311 : BitVec 32 := 8#32
  let v556 : BitVec 1 := Scalar.cmpi .eq v553 c8_i32_311
  let c0_i32_312 : BitVec 32 := 0#32
  let v557 : BitVec 32 := Scalar.select v556 c0_i32_312 v553
  let c0_i32_313 : BitVec 32 := 0#32
  let c0_i32_310 : BitVec 32 := 0#32
  let c1_i32_309 : BitVec 32 := 1#32
  let v554 : BitVec 32 := Scalar.addi arg26 c1_i32_309
  let v555 : BitVec 32 := Scalar.select v551 c0_i32_310 v554
  let v558 : BitVec 32 := Scalar.select v556 c0_i32_313 v555
  let v712 : BitVec 1 := Scalar.cmpi .eq v558 v557
  let v713 : BitVec 32 := Scalar.extui v712
  let v714 : BitVec 32 := Scalar.addi v557 v713
  let c8_i32_383 : BitVec 32 := 8#32
  let v717 : BitVec 1 := Scalar.cmpi .eq v714 c8_i32_383
  let c0_i32_384 : BitVec 32 := 0#32
  let v718 : BitVec 32 := Scalar.select v717 c0_i32_384 v714
  let c0_i32_385 : BitVec 32 := 0#32
  let c0_i32_382 : BitVec 32 := 0#32
  let c1_i32_381 : BitVec 32 := 1#32
  let v715 : BitVec 32 := Scalar.addi v558 c1_i32_381
  let v716 : BitVec 32 := Scalar.select v712 c0_i32_382 v715
  let v719 : BitVec 32 := Scalar.select v717 c0_i32_385 v716
  let v873 : BitVec 1 := Scalar.cmpi .eq v719 v718
  let v874 : BitVec 32 := Scalar.extui v873
  let v875 : BitVec 32 := Scalar.addi v718 v874
  let c8_i32_457 : BitVec 32 := 8#32
  let v878 : BitVec 1 := Scalar.cmpi .eq v875 c8_i32_457
  let c0_i32_459 : BitVec 32 := 0#32
  let c0_i32_456 : BitVec 32 := 0#32
  let c1_i32_455 : BitVec 32 := 1#32
  let v876 : BitVec 32 := Scalar.addi v719 c1_i32_455
  let v877 : BitVec 32 := Scalar.select v873 c0_i32_456 v876
  let v880 : BitVec 32 := Scalar.select v878 c0_i32_459 v877
  let c0_i32_458 : BitVec 32 := 0#32
  let v879 : BitVec 32 := Scalar.select v878 c0_i32_458 v875
  let v890 : BitVec 1 := Scalar.cmpi .eq v880 v879
  let v891 : BitVec 32 := Scalar.extui v890
  let v892 : Index := Scalar.indexCast v891
  let c0_466 : Index := 0#32
  let c0_467 : Index := 0#32
  ![v892.toNat, 0, 0]
def k0_off36 (arg26 : BitVec 32) : Fin 4 → Nat :=
  let c0_474 : Index := 0#32
  let v907 : Index := Scalar.indexCast arg26
  let c0_475 : Index := 0#32
  let c0_476 : Index := 0#32
  ![0, v907.toNat, 0, 0]
def k0_off37 (arg25 : BitVec 32) : Fin 3 → Nat :=
  let v910 : Index := Scalar.indexCast arg25
  let c0_477 : Index := 0#32
  let c0_478 : Index := 0#32
  ![v910.toNat, 0, 0]

def k0_off38 (arg25 : BitVec 32) : Fin 3 → Nat :=
  let v931 : Index := Scalar.indexCast arg25
  let c0_486 : Index := 0#32
  let c0_487 : Index := 0#32
  ![v931.toNat, 0, 0]
def k0_off39 (arg25 : BitVec 32) : Fin 3 → Nat :=
  let v941 : Index := Scalar.indexCast arg25
  let c0_490 : Index := 0#32
  let c256_491 : Index := 256#32
  ![v941.toNat, 0, 256]
def k0_off40 (arg25 : BitVec 32) : Fin 3 → Nat :=
  let v962 : Index := Scalar.indexCast arg25
  let c0_499 : Index := 0#32
  let c256_500 : Index := 256#32
  ![v962.toNat, 0, 256]
def k0_off41 (arg25 : BitVec 32) : Fin 3 → Nat :=
  let v972 : Index := Scalar.indexCast arg25
  let c0_503 : Index := 0#32
  let c512_504 : Index := 512#32
  ![v972.toNat, 0, 512]
def k0_off42 (arg25 : BitVec 32) : Fin 3 → Nat :=
  let v993 : Index := Scalar.indexCast arg25
  let c0_512 : Index := 0#32
  let c512_513 : Index := 512#32
  ![v993.toNat, 0, 512]
def k0_off43 (arg25 : BitVec 32) : Fin 3 → Nat :=
  let v1003 : Index := Scalar.indexCast arg25
  let c0_516 : Index := 0#32
  let c768_517 : Index := 768#32
  ![v1003.toNat, 0, 768]
def k0_off44 (arg25 : BitVec 32) : Fin 3 → Nat :=
  let v1024 : Index := Scalar.indexCast arg25
  let c0_525 : Index := 0#32
  let c768_526 : Index := 768#32
  ![v1024.toNat, 0, 768]

def k0_chk6 (arg25 : BitVec 32) : Prop :=
  (∀ a, (k0_off37 arg25) a + S1x1x256.size a ≤ S8x1x1024.size a) ∧
  (∀ a, (k0_off38 arg25) a + S1x144x256.size a ≤ S8x144x1024.size a) ∧
  (∀ a, (k0_off39 arg25) a + S1x1x256.size a ≤ S8x1x1024.size a) ∧
  (∀ a, (k0_off40 arg25) a + S1x144x256.size a ≤ S8x144x1024.size a) ∧
  (∀ a, (k0_off41 arg25) a + S1x1x256.size a ≤ S8x1x1024.size a) ∧
  (∀ a, (k0_off42 arg25) a + S1x144x256.size a ≤ S8x144x1024.size a) ∧
  (∀ a, (k0_off43 arg25) a + S1x1x256.size a ≤ S8x1x1024.size a) ∧
  (∀ a, (k0_off44 arg25) a + S1x144x256.size a ≤ S8x144x1024.size a)
theorem k0_off37_inb : ∀ (arg25 : BitVec 32) (k0_hw6 : k0_chk6 arg25), ∀ a, (k0_off37 arg25) a + S1x1x256.size a ≤ S8x1x1024.size a := fun arg25 k0_hw6 => k0_hw6.1
theorem k0_off38_inb : ∀ (arg25 : BitVec 32) (k0_hw6 : k0_chk6 arg25), ∀ a, (k0_off38 arg25) a + S1x144x256.size a ≤ S8x144x1024.size a := fun arg25 k0_hw6 => k0_hw6.2.1
theorem k0_off39_inb : ∀ (arg25 : BitVec 32) (k0_hw6 : k0_chk6 arg25), ∀ a, (k0_off39 arg25) a + S1x1x256.size a ≤ S8x1x1024.size a := fun arg25 k0_hw6 => k0_hw6.2.2.1
theorem k0_off40_inb : ∀ (arg25 : BitVec 32) (k0_hw6 : k0_chk6 arg25), ∀ a, (k0_off40 arg25) a + S1x144x256.size a ≤ S8x144x1024.size a := fun arg25 k0_hw6 => k0_hw6.2.2.2.1
theorem k0_off41_inb : ∀ (arg25 : BitVec 32) (k0_hw6 : k0_chk6 arg25), ∀ a, (k0_off41 arg25) a + S1x1x256.size a ≤ S8x1x1024.size a := fun arg25 k0_hw6 => k0_hw6.2.2.2.2.1
theorem k0_off42_inb : ∀ (arg25 : BitVec 32) (k0_hw6 : k0_chk6 arg25), ∀ a, (k0_off42 arg25) a + S1x144x256.size a ≤ S8x144x1024.size a := fun arg25 k0_hw6 => k0_hw6.2.2.2.2.2.1
theorem k0_off43_inb : ∀ (arg25 : BitVec 32) (k0_hw6 : k0_chk6 arg25), ∀ a, (k0_off43 arg25) a + S1x1x256.size a ≤ S8x1x1024.size a := fun arg25 k0_hw6 => k0_hw6.2.2.2.2.2.2.1
theorem k0_off44_inb : ∀ (arg25 : BitVec 32) (k0_hw6 : k0_chk6 arg25), ∀ a, (k0_off44 arg25) a + S1x144x256.size a ≤ S8x144x1024.size a := fun arg25 k0_hw6 => k0_hw6.2.2.2.2.2.2.2

def k0_mult7 (arg25 : BitVec 32) (arg26 : BitVec 32) : BitVec 32 :=
  let v551 : BitVec 1 := Scalar.cmpi .eq arg26 arg25
  let v552 : BitVec 32 := Scalar.extui v551
  let v553 : BitVec 32 := Scalar.addi arg25 v552
  let c8_i32_311 : BitVec 32 := 8#32
  let v556 : BitVec 1 := Scalar.cmpi .eq v553 c8_i32_311
  let c0_i32_312 : BitVec 32 := 0#32
  let v557 : BitVec 32 := Scalar.select v556 c0_i32_312 v553
  let c0_i32_313 : BitVec 32 := 0#32
  let c0_i32_310 : BitVec 32 := 0#32
  let c1_i32_309 : BitVec 32 := 1#32
  let v554 : BitVec 32 := Scalar.addi arg26 c1_i32_309
  let v555 : BitVec 32 := Scalar.select v551 c0_i32_310 v554
  let v558 : BitVec 32 := Scalar.select v556 c0_i32_313 v555
  let v712 : BitVec 1 := Scalar.cmpi .eq v558 v557
  let v713 : BitVec 32 := Scalar.extui v712
  let v714 : BitVec 32 := Scalar.addi v557 v713
  let c8_i32_383 : BitVec 32 := 8#32
  let v717 : BitVec 1 := Scalar.cmpi .eq v714 c8_i32_383
  let c0_i32_384 : BitVec 32 := 0#32
  let v718 : BitVec 32 := Scalar.select v717 c0_i32_384 v714
  let c0_i32_385 : BitVec 32 := 0#32
  let c0_i32_382 : BitVec 32 := 0#32
  let c1_i32_381 : BitVec 32 := 1#32
  let v715 : BitVec 32 := Scalar.addi v558 c1_i32_381
  let v716 : BitVec 32 := Scalar.select v712 c0_i32_382 v715
  let v719 : BitVec 32 := Scalar.select v717 c0_i32_385 v716
  let v873 : BitVec 1 := Scalar.cmpi .eq v719 v718
  let v874 : BitVec 32 := Scalar.extui v873
  let v875 : BitVec 32 := Scalar.addi v718 v874
  let c8_i32_457 : BitVec 32 := 8#32
  let v878 : BitVec 1 := Scalar.cmpi .eq v875 c8_i32_457
  let c0_i32_458 : BitVec 32 := 0#32
  let v879 : BitVec 32 := Scalar.select v878 c0_i32_458 v875
  let c0_i32_459 : BitVec 32 := 0#32
  let c0_i32_456 : BitVec 32 := 0#32
  let c1_i32_455 : BitVec 32 := 1#32
  let v876 : BitVec 32 := Scalar.addi v719 c1_i32_455
  let v877 : BitVec 32 := Scalar.select v873 c0_i32_456 v876
  let v880 : BitVec 32 := Scalar.select v878 c0_i32_459 v877
  let v1034 : BitVec 1 := Scalar.cmpi .eq v880 v879
  let v1035 : BitVec 32 := Scalar.extui v1034
  let v1036 : BitVec 32 := Scalar.addi v879 v1035
  let c8_i32_531 : BitVec 32 := 8#32
  let v1039 : BitVec 1 := Scalar.cmpi .eq v1036 c8_i32_531
  let c0_i32_533 : BitVec 32 := 0#32
  let c0_i32_530 : BitVec 32 := 0#32
  let c1_i32_529 : BitVec 32 := 1#32
  let v1037 : BitVec 32 := Scalar.addi v880 c1_i32_529
  let v1038 : BitVec 32 := Scalar.select v1034 c0_i32_530 v1037
  let v1041 : BitVec 32 := Scalar.select v1039 c0_i32_533 v1038
  let c512_i32_534 : BitVec 32 := 512#32
  let v1042 : BitVec 32 := Scalar.muli v1041 c512_i32_534
  v1042
def k0_off45 (arg25 : BitVec 32) (arg26 : BitVec 32) : Fin 3 → Nat :=
  let c0_535 : Index := 0#32
  let v551 : BitVec 1 := Scalar.cmpi .eq arg26 arg25
  let v552 : BitVec 32 := Scalar.extui v551
  let v553 : BitVec 32 := Scalar.addi arg25 v552
  let c8_i32_311 : BitVec 32 := 8#32
  let v556 : BitVec 1 := Scalar.cmpi .eq v553 c8_i32_311
  let c0_i32_312 : BitVec 32 := 0#32
  let v557 : BitVec 32 := Scalar.select v556 c0_i32_312 v553
  let c0_i32_313 : BitVec 32 := 0#32
  let c0_i32_310 : BitVec 32 := 0#32
  let c1_i32_309 : BitVec 32 := 1#32
  let v554 : BitVec 32 := Scalar.addi arg26 c1_i32_309
  let v555 : BitVec 32 := Scalar.select v551 c0_i32_310 v554
  let v558 : BitVec 32 := Scalar.select v556 c0_i32_313 v555
  let v712 : BitVec 1 := Scalar.cmpi .eq v558 v557
  let v713 : BitVec 32 := Scalar.extui v712
  let v714 : BitVec 32 := Scalar.addi v557 v713
  let c8_i32_383 : BitVec 32 := 8#32
  let v717 : BitVec 1 := Scalar.cmpi .eq v714 c8_i32_383
  let c0_i32_384 : BitVec 32 := 0#32
  let v718 : BitVec 32 := Scalar.select v717 c0_i32_384 v714
  let c0_i32_385 : BitVec 32 := 0#32
  let c0_i32_382 : BitVec 32 := 0#32
  let c1_i32_381 : BitVec 32 := 1#32
  let v715 : BitVec 32 := Scalar.addi v558 c1_i32_381
  let v716 : BitVec 32 := Scalar.select v712 c0_i32_382 v715
  let v719 : BitVec 32 := Scalar.select v717 c0_i32_385 v716
  let v873 : BitVec 1 := Scalar.cmpi .eq v719 v718
  let v874 : BitVec 32 := Scalar.extui v873
  let v875 : BitVec 32 := Scalar.addi v718 v874
  let c8_i32_457 : BitVec 32 := 8#32
  let v878 : BitVec 1 := Scalar.cmpi .eq v875 c8_i32_457
  let c0_i32_458 : BitVec 32 := 0#32
  let v879 : BitVec 32 := Scalar.select v878 c0_i32_458 v875
  let c0_i32_459 : BitVec 32 := 0#32
  let c0_i32_456 : BitVec 32 := 0#32
  let c1_i32_455 : BitVec 32 := 1#32
  let v876 : BitVec 32 := Scalar.addi v719 c1_i32_455
  let v877 : BitVec 32 := Scalar.select v873 c0_i32_456 v876
  let v880 : BitVec 32 := Scalar.select v878 c0_i32_459 v877
  let v1034 : BitVec 1 := Scalar.cmpi .eq v880 v879
  let v1035 : BitVec 32 := Scalar.extui v1034
  let v1036 : BitVec 32 := Scalar.addi v879 v1035
  let c8_i32_531 : BitVec 32 := 8#32
  let v1039 : BitVec 1 := Scalar.cmpi .eq v1036 c8_i32_531
  let c0_i32_533 : BitVec 32 := 0#32
  let c0_i32_530 : BitVec 32 := 0#32
  let c1_i32_529 : BitVec 32 := 1#32
  let v1037 : BitVec 32 := Scalar.addi v880 c1_i32_529
  let v1038 : BitVec 32 := Scalar.select v1034 c0_i32_530 v1037
  let v1041 : BitVec 32 := Scalar.select v1039 c0_i32_533 v1038
  let c512_i32_534 : BitVec 32 := 512#32
  let v1042 : BitVec 32 := Scalar.muli v1041 c512_i32_534
  let v1043 : BitVec 32 := v1042
  let v1044 : Index := Scalar.indexCast v1043
  let c0_536 : Index := 0#32
  ![0, v1044.toNat, 0]
def k0_off46 (arg25 : BitVec 32) (arg26 : BitVec 32) : Fin 3 → Nat :=
  let v551 : BitVec 1 := Scalar.cmpi .eq arg26 arg25
  let v552 : BitVec 32 := Scalar.extui v551
  let v553 : BitVec 32 := Scalar.addi arg25 v552
  let c8_i32_311 : BitVec 32 := 8#32
  let v556 : BitVec 1 := Scalar.cmpi .eq v553 c8_i32_311
  let c0_i32_312 : BitVec 32 := 0#32
  let v557 : BitVec 32 := Scalar.select v556 c0_i32_312 v553
  let c0_i32_313 : BitVec 32 := 0#32
  let c0_i32_310 : BitVec 32 := 0#32
  let c1_i32_309 : BitVec 32 := 1#32
  let v554 : BitVec 32 := Scalar.addi arg26 c1_i32_309
  let v555 : BitVec 32 := Scalar.select v551 c0_i32_310 v554
  let v558 : BitVec 32 := Scalar.select v556 c0_i32_313 v555
  let v712 : BitVec 1 := Scalar.cmpi .eq v558 v557
  let v713 : BitVec 32 := Scalar.extui v712
  let v714 : BitVec 32 := Scalar.addi v557 v713
  let c8_i32_383 : BitVec 32 := 8#32
  let v717 : BitVec 1 := Scalar.cmpi .eq v714 c8_i32_383
  let c0_i32_384 : BitVec 32 := 0#32
  let v718 : BitVec 32 := Scalar.select v717 c0_i32_384 v714
  let c0_i32_385 : BitVec 32 := 0#32
  let c0_i32_382 : BitVec 32 := 0#32
  let c1_i32_381 : BitVec 32 := 1#32
  let v715 : BitVec 32 := Scalar.addi v558 c1_i32_381
  let v716 : BitVec 32 := Scalar.select v712 c0_i32_382 v715
  let v719 : BitVec 32 := Scalar.select v717 c0_i32_385 v716
  let v873 : BitVec 1 := Scalar.cmpi .eq v719 v718
  let v874 : BitVec 32 := Scalar.extui v873
  let v875 : BitVec 32 := Scalar.addi v718 v874
  let c8_i32_457 : BitVec 32 := 8#32
  let v878 : BitVec 1 := Scalar.cmpi .eq v875 c8_i32_457
  let c0_i32_458 : BitVec 32 := 0#32
  let v879 : BitVec 32 := Scalar.select v878 c0_i32_458 v875
  let c0_i32_459 : BitVec 32 := 0#32
  let c0_i32_456 : BitVec 32 := 0#32
  let c1_i32_455 : BitVec 32 := 1#32
  let v876 : BitVec 32 := Scalar.addi v719 c1_i32_455
  let v877 : BitVec 32 := Scalar.select v873 c0_i32_456 v876
  let v880 : BitVec 32 := Scalar.select v878 c0_i32_459 v877
  let v1034 : BitVec 1 := Scalar.cmpi .eq v880 v879
  let v1035 : BitVec 32 := Scalar.extui v1034
  let v1036 : BitVec 32 := Scalar.addi v879 v1035
  let c8_i32_531 : BitVec 32 := 8#32
  let v1039 : BitVec 1 := Scalar.cmpi .eq v1036 c8_i32_531
  let c0_i32_532 : BitVec 32 := 0#32
  let v1040 : BitVec 32 := Scalar.select v1039 c0_i32_532 v1036
  let v1047 : Index := Scalar.indexCast v1040
  let c0_537 : Index := 0#32
  let c0_538 : Index := 0#32
  ![v1047.toNat, 0, 0]
def k0_off47 (arg25 : BitVec 32) (arg26 : BitVec 32) : Fin 3 → Nat :=
  let v551 : BitVec 1 := Scalar.cmpi .eq arg26 arg25
  let v552 : BitVec 32 := Scalar.extui v551
  let v553 : BitVec 32 := Scalar.addi arg25 v552
  let c8_i32_311 : BitVec 32 := 8#32
  let v556 : BitVec 1 := Scalar.cmpi .eq v553 c8_i32_311
  let c0_i32_312 : BitVec 32 := 0#32
  let v557 : BitVec 32 := Scalar.select v556 c0_i32_312 v553
  let c0_i32_313 : BitVec 32 := 0#32
  let c0_i32_310 : BitVec 32 := 0#32
  let c1_i32_309 : BitVec 32 := 1#32
  let v554 : BitVec 32 := Scalar.addi arg26 c1_i32_309
  let v555 : BitVec 32 := Scalar.select v551 c0_i32_310 v554
  let v558 : BitVec 32 := Scalar.select v556 c0_i32_313 v555
  let v712 : BitVec 1 := Scalar.cmpi .eq v558 v557
  let v713 : BitVec 32 := Scalar.extui v712
  let v714 : BitVec 32 := Scalar.addi v557 v713
  let c8_i32_383 : BitVec 32 := 8#32
  let v717 : BitVec 1 := Scalar.cmpi .eq v714 c8_i32_383
  let c0_i32_384 : BitVec 32 := 0#32
  let v718 : BitVec 32 := Scalar.select v717 c0_i32_384 v714
  let c0_i32_385 : BitVec 32 := 0#32
  let c0_i32_382 : BitVec 32 := 0#32
  let c1_i32_381 : BitVec 32 := 1#32
  let v715 : BitVec 32 := Scalar.addi v558 c1_i32_381
  let v716 : BitVec 32 := Scalar.select v712 c0_i32_382 v715
  let v719 : BitVec 32 := Scalar.select v717 c0_i32_385 v716
  let v873 : BitVec 1 := Scalar.cmpi .eq v719 v718
  let v874 : BitVec 32 := Scalar.extui v873
  let v875 : BitVec 32 := Scalar.addi v718 v874
  let c8_i32_457 : BitVec 32 := 8#32
  let v878 : BitVec 1 := Scalar.cmpi .eq v875 c8_i32_457
  let c0_i32_458 : BitVec 32 := 0#32
  let v879 : BitVec 32 := Scalar.select v878 c0_i32_458 v875
  let c0_i32_459 : BitVec 32 := 0#32
  let c0_i32_456 : BitVec 32 := 0#32
  let c1_i32_455 : BitVec 32 := 1#32
  let v876 : BitVec 32 := Scalar.addi v719 c1_i32_455
  let v877 : BitVec 32 := Scalar.select v873 c0_i32_456 v876
  let v880 : BitVec 32 := Scalar.select v878 c0_i32_459 v877
  let v1034 : BitVec 1 := Scalar.cmpi .eq v880 v879
  let v1035 : BitVec 32 := Scalar.extui v1034
  let v1036 : BitVec 32 := Scalar.addi v879 v1035
  let c8_i32_531 : BitVec 32 := 8#32
  let v1039 : BitVec 1 := Scalar.cmpi .eq v1036 c8_i32_531
  let c0_i32_533 : BitVec 32 := 0#32
  let c0_i32_530 : BitVec 32 := 0#32
  let c1_i32_529 : BitVec 32 := 1#32
  let v1037 : BitVec 32 := Scalar.addi v880 c1_i32_529
  let v1038 : BitVec 32 := Scalar.select v1034 c0_i32_530 v1037
  let v1041 : BitVec 32 := Scalar.select v1039 c0_i32_533 v1038
  let c0_i32_532 : BitVec 32 := 0#32
  let v1040 : BitVec 32 := Scalar.select v1039 c0_i32_532 v1036
  let v1051 : BitVec 1 := Scalar.cmpi .eq v1041 v1040
  let v1052 : BitVec 32 := Scalar.extui v1051
  let v1053 : Index := Scalar.indexCast v1052
  let c0_540 : Index := 0#32
  let c0_541 : Index := 0#32
  ![v1053.toNat, 0, 0]
def k0_off48 (arg25 : BitVec 32) (arg26 : BitVec 32) : Fin 4 → Nat :=
  let c0_548 : Index := 0#32
  let v551 : BitVec 1 := Scalar.cmpi .eq arg26 arg25
  let v552 : BitVec 32 := Scalar.extui v551
  let v553 : BitVec 32 := Scalar.addi arg25 v552
  let c8_i32_311 : BitVec 32 := 8#32
  let v556 : BitVec 1 := Scalar.cmpi .eq v553 c8_i32_311
  let c0_i32_313 : BitVec 32 := 0#32
  let c0_i32_310 : BitVec 32 := 0#32
  let c1_i32_309 : BitVec 32 := 1#32
  let v554 : BitVec 32 := Scalar.addi arg26 c1_i32_309
  let v555 : BitVec 32 := Scalar.select v551 c0_i32_310 v554
  let v558 : BitVec 32 := Scalar.select v556 c0_i32_313 v555
  let v1068 : Index := Scalar.indexCast v558
  let c0_549 : Index := 0#32
  let c0_550 : Index := 0#32
  ![0, v1068.toNat, 0, 0]
def k0_off49 (arg25 : BitVec 32) (arg26 : BitVec 32) : Fin 3 → Nat :=
  let v551 : BitVec 1 := Scalar.cmpi .eq arg26 arg25
  let v552 : BitVec 32 := Scalar.extui v551
  let v553 : BitVec 32 := Scalar.addi arg25 v552
  let c8_i32_311 : BitVec 32 := 8#32
  let v556 : BitVec 1 := Scalar.cmpi .eq v553 c8_i32_311
  let c0_i32_312 : BitVec 32 := 0#32
  let v557 : BitVec 32 := Scalar.select v556 c0_i32_312 v553
  let v1071 : Index := Scalar.indexCast v557
  let c0_551 : Index := 0#32
  let c0_552 : Index := 0#32
  ![v1071.toNat, 0, 0]
def k0_off50 (arg25 : BitVec 32) (arg26 : BitVec 32) : Fin 3 → Nat :=
  let v551 : BitVec 1 := Scalar.cmpi .eq arg26 arg25
  let v552 : BitVec 32 := Scalar.extui v551
  let v553 : BitVec 32 := Scalar.addi arg25 v552
  let c8_i32_311 : BitVec 32 := 8#32
  let v556 : BitVec 1 := Scalar.cmpi .eq v553 c8_i32_311
  let c0_i32_312 : BitVec 32 := 0#32
  let v557 : BitVec 32 := Scalar.select v556 c0_i32_312 v553
  let v1092 : Index := Scalar.indexCast v557
  let c0_560 : Index := 0#32
  let c0_561 : Index := 0#32
  ![v1092.toNat, 0, 0]
def k0_off51 (arg25 : BitVec 32) (arg26 : BitVec 32) : Fin 3 → Nat :=
  let v551 : BitVec 1 := Scalar.cmpi .eq arg26 arg25
  let v552 : BitVec 32 := Scalar.extui v551
  let v553 : BitVec 32 := Scalar.addi arg25 v552
  let c8_i32_311 : BitVec 32 := 8#32
  let v556 : BitVec 1 := Scalar.cmpi .eq v553 c8_i32_311
  let c0_i32_312 : BitVec 32 := 0#32
  let v557 : BitVec 32 := Scalar.select v556 c0_i32_312 v553
  let v1102 : Index := Scalar.indexCast v557
  let c0_564 : Index := 0#32
  let c256_565 : Index := 256#32
  ![v1102.toNat, 0, 256]
def k0_off52 (arg25 : BitVec 32) (arg26 : BitVec 32) : Fin 3 → Nat :=
  let v551 : BitVec 1 := Scalar.cmpi .eq arg26 arg25
  let v552 : BitVec 32 := Scalar.extui v551
  let v553 : BitVec 32 := Scalar.addi arg25 v552
  let c8_i32_311 : BitVec 32 := 8#32
  let v556 : BitVec 1 := Scalar.cmpi .eq v553 c8_i32_311
  let c0_i32_312 : BitVec 32 := 0#32
  let v557 : BitVec 32 := Scalar.select v556 c0_i32_312 v553
  let v1123 : Index := Scalar.indexCast v557
  let c0_573 : Index := 0#32
  let c256_574 : Index := 256#32
  ![v1123.toNat, 0, 256]
def k0_off53 (arg25 : BitVec 32) (arg26 : BitVec 32) : Fin 3 → Nat :=
  let v551 : BitVec 1 := Scalar.cmpi .eq arg26 arg25
  let v552 : BitVec 32 := Scalar.extui v551
  let v553 : BitVec 32 := Scalar.addi arg25 v552
  let c8_i32_311 : BitVec 32 := 8#32
  let v556 : BitVec 1 := Scalar.cmpi .eq v553 c8_i32_311
  let c0_i32_312 : BitVec 32 := 0#32
  let v557 : BitVec 32 := Scalar.select v556 c0_i32_312 v553
  let v1133 : Index := Scalar.indexCast v557
  let c0_577 : Index := 0#32
  let c512_578 : Index := 512#32
  ![v1133.toNat, 0, 512]
def k0_off54 (arg25 : BitVec 32) (arg26 : BitVec 32) : Fin 3 → Nat :=
  let v551 : BitVec 1 := Scalar.cmpi .eq arg26 arg25
  let v552 : BitVec 32 := Scalar.extui v551
  let v553 : BitVec 32 := Scalar.addi arg25 v552
  let c8_i32_311 : BitVec 32 := 8#32
  let v556 : BitVec 1 := Scalar.cmpi .eq v553 c8_i32_311
  let c0_i32_312 : BitVec 32 := 0#32
  let v557 : BitVec 32 := Scalar.select v556 c0_i32_312 v553
  let v1154 : Index := Scalar.indexCast v557
  let c0_586 : Index := 0#32
  let c512_587 : Index := 512#32
  ![v1154.toNat, 0, 512]
def k0_off55 (arg25 : BitVec 32) (arg26 : BitVec 32) : Fin 3 → Nat :=
  let v551 : BitVec 1 := Scalar.cmpi .eq arg26 arg25
  let v552 : BitVec 32 := Scalar.extui v551
  let v553 : BitVec 32 := Scalar.addi arg25 v552
  let c8_i32_311 : BitVec 32 := 8#32
  let v556 : BitVec 1 := Scalar.cmpi .eq v553 c8_i32_311
  let c0_i32_312 : BitVec 32 := 0#32
  let v557 : BitVec 32 := Scalar.select v556 c0_i32_312 v553
  let v1164 : Index := Scalar.indexCast v557
  let c0_590 : Index := 0#32
  let c768_591 : Index := 768#32
  ![v1164.toNat, 0, 768]
def k0_off56 (arg25 : BitVec 32) (arg26 : BitVec 32) : Fin 3 → Nat :=
  let v551 : BitVec 1 := Scalar.cmpi .eq arg26 arg25
  let v552 : BitVec 32 := Scalar.extui v551
  let v553 : BitVec 32 := Scalar.addi arg25 v552
  let c8_i32_311 : BitVec 32 := 8#32
  let v556 : BitVec 1 := Scalar.cmpi .eq v553 c8_i32_311
  let c0_i32_312 : BitVec 32 := 0#32
  let v557 : BitVec 32 := Scalar.select v556 c0_i32_312 v553
  let v1185 : Index := Scalar.indexCast v557
  let c0_599 : Index := 0#32
  let c768_600 : Index := 768#32
  ![v1185.toNat, 0, 768]

def k0_chk1 (arg25 : BitVec 32) (arg26 : BitVec 32) : Prop :=
  (512 ∣ (k0_mult4 arg25 arg26).toNat) ∧
  (∀ a, (k0_off9 arg25 arg26) a + S1x512x128.size a ≤ S1x4096x128.size a) ∧
  (∀ a, (k0_off10 arg25 arg26) a + S1x128x1024.size a ≤ S8x128x1024.size a) ∧
  (∀ a, (k0_off11 arg25 arg26) a + S1x512x1024.size a ≤ S2x512x1024.size a) ∧
  (512 ∣ (k0_mult5 arg25 arg26).toNat) ∧
  (∀ a, (k0_off21 arg25 arg26) a + S1x512x128.size a ≤ S1x4096x128.size a) ∧
  (∀ a, (k0_off22 arg25 arg26) a + S1x128x1024.size a ≤ S8x128x1024.size a) ∧
  (∀ a, (k0_off23 arg25 arg26) a + S1x512x1024.size a ≤ S2x512x1024.size a) ∧
  (512 ∣ (k0_mult6 arg25 arg26).toNat) ∧
  (∀ a, (k0_off33 arg25 arg26) a + S1x512x128.size a ≤ S1x4096x128.size a) ∧
  (∀ a, (k0_off34 arg25 arg26) a + S1x128x1024.size a ≤ S8x128x1024.size a) ∧
  (∀ a, (k0_off35 arg25 arg26) a + S1x512x1024.size a ≤ S2x512x1024.size a) ∧
  (∀ a, (k0_off36 arg26) a + S1x1x144x512.size a ≤ S1x8x144x512.size a) ∧
  (512 ∣ (k0_mult7 arg25 arg26).toNat) ∧
  (∀ a, (k0_off45 arg25 arg26) a + S1x512x128.size a ≤ S1x4096x128.size a) ∧
  (∀ a, (k0_off46 arg25 arg26) a + S1x128x1024.size a ≤ S8x128x1024.size a) ∧
  (∀ a, (k0_off47 arg25 arg26) a + S1x512x1024.size a ≤ S2x512x1024.size a) ∧
  (∀ a, (k0_off48 arg25 arg26) a + S1x1x144x512.size a ≤ S1x8x144x512.size a) ∧
  (∀ a, (k0_off49 arg25 arg26) a + S1x1x256.size a ≤ S8x1x1024.size a) ∧
  (∀ a, (k0_off50 arg25 arg26) a + S1x144x256.size a ≤ S8x144x1024.size a) ∧
  (∀ a, (k0_off51 arg25 arg26) a + S1x1x256.size a ≤ S8x1x1024.size a) ∧
  (∀ a, (k0_off52 arg25 arg26) a + S1x144x256.size a ≤ S8x144x1024.size a) ∧
  (∀ a, (k0_off53 arg25 arg26) a + S1x1x256.size a ≤ S8x1x1024.size a) ∧
  (∀ a, (k0_off54 arg25 arg26) a + S1x144x256.size a ≤ S8x144x1024.size a) ∧
  (∀ a, (k0_off55 arg25 arg26) a + S1x1x256.size a ≤ S8x1x1024.size a) ∧
  (∀ a, (k0_off56 arg25 arg26) a + S1x144x256.size a ≤ S8x144x1024.size a)
theorem k0_mult4_dvd : ∀ (arg25 : BitVec 32) (arg26 : BitVec 32) (k0_hw1 : k0_chk1 arg25 arg26), 512 ∣ (k0_mult4 arg25 arg26).toNat := fun arg25 arg26 k0_hw1 => k0_hw1.1
theorem k0_off9_inb : ∀ (arg25 : BitVec 32) (arg26 : BitVec 32) (k0_hw1 : k0_chk1 arg25 arg26), ∀ a, (k0_off9 arg25 arg26) a + S1x512x128.size a ≤ S1x4096x128.size a := fun arg25 arg26 k0_hw1 => k0_hw1.2.1
theorem k0_off10_inb : ∀ (arg25 : BitVec 32) (arg26 : BitVec 32) (k0_hw1 : k0_chk1 arg25 arg26), ∀ a, (k0_off10 arg25 arg26) a + S1x128x1024.size a ≤ S8x128x1024.size a := fun arg25 arg26 k0_hw1 => k0_hw1.2.2.1
theorem k0_off11_inb : ∀ (arg25 : BitVec 32) (arg26 : BitVec 32) (k0_hw1 : k0_chk1 arg25 arg26), ∀ a, (k0_off11 arg25 arg26) a + S1x512x1024.size a ≤ S2x512x1024.size a := fun arg25 arg26 k0_hw1 => k0_hw1.2.2.2.1
theorem k0_mult5_dvd : ∀ (arg25 : BitVec 32) (arg26 : BitVec 32) (k0_hw1 : k0_chk1 arg25 arg26), 512 ∣ (k0_mult5 arg25 arg26).toNat := fun arg25 arg26 k0_hw1 => k0_hw1.2.2.2.2.1
theorem k0_off21_inb : ∀ (arg25 : BitVec 32) (arg26 : BitVec 32) (k0_hw1 : k0_chk1 arg25 arg26), ∀ a, (k0_off21 arg25 arg26) a + S1x512x128.size a ≤ S1x4096x128.size a := fun arg25 arg26 k0_hw1 => k0_hw1.2.2.2.2.2.1
theorem k0_off22_inb : ∀ (arg25 : BitVec 32) (arg26 : BitVec 32) (k0_hw1 : k0_chk1 arg25 arg26), ∀ a, (k0_off22 arg25 arg26) a + S1x128x1024.size a ≤ S8x128x1024.size a := fun arg25 arg26 k0_hw1 => k0_hw1.2.2.2.2.2.2.1
theorem k0_off23_inb : ∀ (arg25 : BitVec 32) (arg26 : BitVec 32) (k0_hw1 : k0_chk1 arg25 arg26), ∀ a, (k0_off23 arg25 arg26) a + S1x512x1024.size a ≤ S2x512x1024.size a := fun arg25 arg26 k0_hw1 => k0_hw1.2.2.2.2.2.2.2.1
theorem k0_mult6_dvd : ∀ (arg25 : BitVec 32) (arg26 : BitVec 32) (k0_hw1 : k0_chk1 arg25 arg26), 512 ∣ (k0_mult6 arg25 arg26).toNat := fun arg25 arg26 k0_hw1 => k0_hw1.2.2.2.2.2.2.2.2.1
theorem k0_off33_inb : ∀ (arg25 : BitVec 32) (arg26 : BitVec 32) (k0_hw1 : k0_chk1 arg25 arg26), ∀ a, (k0_off33 arg25 arg26) a + S1x512x128.size a ≤ S1x4096x128.size a := fun arg25 arg26 k0_hw1 => k0_hw1.2.2.2.2.2.2.2.2.2.1
theorem k0_off34_inb : ∀ (arg25 : BitVec 32) (arg26 : BitVec 32) (k0_hw1 : k0_chk1 arg25 arg26), ∀ a, (k0_off34 arg25 arg26) a + S1x128x1024.size a ≤ S8x128x1024.size a := fun arg25 arg26 k0_hw1 => k0_hw1.2.2.2.2.2.2.2.2.2.2.1
theorem k0_off35_inb : ∀ (arg25 : BitVec 32) (arg26 : BitVec 32) (k0_hw1 : k0_chk1 arg25 arg26), ∀ a, (k0_off35 arg25 arg26) a + S1x512x1024.size a ≤ S2x512x1024.size a := fun arg25 arg26 k0_hw1 => k0_hw1.2.2.2.2.2.2.2.2.2.2.2.1
theorem k0_off36_inb : ∀ (arg25 : BitVec 32) (arg26 : BitVec 32) (k0_hw1 : k0_chk1 arg25 arg26), ∀ a, (k0_off36 arg26) a + S1x1x144x512.size a ≤ S1x8x144x512.size a := fun arg25 arg26 k0_hw1 => k0_hw1.2.2.2.2.2.2.2.2.2.2.2.2.1
theorem k0_mult7_dvd : ∀ (arg25 : BitVec 32) (arg26 : BitVec 32) (k0_hw1 : k0_chk1 arg25 arg26), 512 ∣ (k0_mult7 arg25 arg26).toNat := fun arg25 arg26 k0_hw1 => k0_hw1.2.2.2.2.2.2.2.2.2.2.2.2.2.1
theorem k0_off45_inb : ∀ (arg25 : BitVec 32) (arg26 : BitVec 32) (k0_hw1 : k0_chk1 arg25 arg26), ∀ a, (k0_off45 arg25 arg26) a + S1x512x128.size a ≤ S1x4096x128.size a := fun arg25 arg26 k0_hw1 => k0_hw1.2.2.2.2.2.2.2.2.2.2.2.2.2.2.1
theorem k0_off46_inb : ∀ (arg25 : BitVec 32) (arg26 : BitVec 32) (k0_hw1 : k0_chk1 arg25 arg26), ∀ a, (k0_off46 arg25 arg26) a + S1x128x1024.size a ≤ S8x128x1024.size a := fun arg25 arg26 k0_hw1 => k0_hw1.2.2.2.2.2.2.2.2.2.2.2.2.2.2.2.1
theorem k0_off47_inb : ∀ (arg25 : BitVec 32) (arg26 : BitVec 32) (k0_hw1 : k0_chk1 arg25 arg26), ∀ a, (k0_off47 arg25 arg26) a + S1x512x1024.size a ≤ S2x512x1024.size a := fun arg25 arg26 k0_hw1 => k0_hw1.2.2.2.2.2.2.2.2.2.2.2.2.2.2.2.2.1
theorem k0_off48_inb : ∀ (arg25 : BitVec 32) (arg26 : BitVec 32) (k0_hw1 : k0_chk1 arg25 arg26), ∀ a, (k0_off48 arg25 arg26) a + S1x1x144x512.size a ≤ S1x8x144x512.size a := fun arg25 arg26 k0_hw1 => k0_hw1.2.2.2.2.2.2.2.2.2.2.2.2.2.2.2.2.2.1
theorem k0_off49_inb : ∀ (arg25 : BitVec 32) (arg26 : BitVec 32) (k0_hw1 : k0_chk1 arg25 arg26), ∀ a, (k0_off49 arg25 arg26) a + S1x1x256.size a ≤ S8x1x1024.size a := fun arg25 arg26 k0_hw1 => k0_hw1.2.2.2.2.2.2.2.2.2.2.2.2.2.2.2.2.2.2.1
theorem k0_off50_inb : ∀ (arg25 : BitVec 32) (arg26 : BitVec 32) (k0_hw1 : k0_chk1 arg25 arg26), ∀ a, (k0_off50 arg25 arg26) a + S1x144x256.size a ≤ S8x144x1024.size a := fun arg25 arg26 k0_hw1 => k0_hw1.2.2.2.2.2.2.2.2.2.2.2.2.2.2.2.2.2.2.2.1
theorem k0_off51_inb : ∀ (arg25 : BitVec 32) (arg26 : BitVec 32) (k0_hw1 : k0_chk1 arg25 arg26), ∀ a, (k0_off51 arg25 arg26) a + S1x1x256.size a ≤ S8x1x1024.size a := fun arg25 arg26 k0_hw1 => k0_hw1.2.2.2.2.2.2.2.2.2.2.2.2.2.2.2.2.2.2.2.2.1
theorem k0_off52_inb : ∀ (arg25 : BitVec 32) (arg26 : BitVec 32) (k0_hw1 : k0_chk1 arg25 arg26), ∀ a, (k0_off52 arg25 arg26) a + S1x144x256.size a ≤ S8x144x1024.size a := fun arg25 arg26 k0_hw1 => k0_hw1.2.2.2.2.2.2.2.2.2.2.2.2.2.2.2.2.2.2.2.2.2.1
theorem k0_off53_inb : ∀ (arg25 : BitVec 32) (arg26 : BitVec 32) (k0_hw1 : k0_chk1 arg25 arg26), ∀ a, (k0_off53 arg25 arg26) a + S1x1x256.size a ≤ S8x1x1024.size a := fun arg25 arg26 k0_hw1 => k0_hw1.2.2.2.2.2.2.2.2.2.2.2.2.2.2.2.2.2.2.2.2.2.2.1
theorem k0_off54_inb : ∀ (arg25 : BitVec 32) (arg26 : BitVec 32) (k0_hw1 : k0_chk1 arg25 arg26), ∀ a, (k0_off54 arg25 arg26) a + S1x144x256.size a ≤ S8x144x1024.size a := fun arg25 arg26 k0_hw1 => k0_hw1.2.2.2.2.2.2.2.2.2.2.2.2.2.2.2.2.2.2.2.2.2.2.2.1
theorem k0_off55_inb : ∀ (arg25 : BitVec 32) (arg26 : BitVec 32) (k0_hw1 : k0_chk1 arg25 arg26), ∀ a, (k0_off55 arg25 arg26) a + S1x1x256.size a ≤ S8x1x1024.size a := fun arg25 arg26 k0_hw1 => k0_hw1.2.2.2.2.2.2.2.2.2.2.2.2.2.2.2.2.2.2.2.2.2.2.2.2.1
theorem k0_off56_inb : ∀ (arg25 : BitVec 32) (arg26 : BitVec 32) (k0_hw1 : k0_chk1 arg25 arg26), ∀ a, (k0_off56 arg25 arg26) a + S1x144x256.size a ≤ S8x144x1024.size a := fun arg25 arg26 k0_hw1 => k0_hw1.2.2.2.2.2.2.2.2.2.2.2.2.2.2.2.2.2.2.2.2.2.2.2.2.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x8x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x144x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Proof.Setup.lean ====
/- The feed-forward call's launch: its branch condition over the grid, its buffers, its own copy semaphores and the weights it fetches from HBM itself. -/
module

public import proofs.«01_k».proof.Proof.Gen.KernelIdeal.Frame
public import Idealize.ShloMosaic.Lib.Claim

@[expose] public section

set_option maxRecDepth 16384

noncomputable section

namespace Cert.KernelIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The body loads its weights where this holds: the grid coordinate is zero. -/
abbrev atStart (i : grid0.Coords) : Prop := (Scalar.cmpi .ne (Scalar.extui (Scalar.cmpi .eq (BitVec.ofNat 32 (i 0).val) 0#32)) 0#32) = 1#1

/-- The weights are loaded at the first point and at no other. -/
theorem atStart_iff : ∀ t : Fin cfg0.N, atStart (grid0.coords t) ↔ t.val = 0 :=
  (fun t => by
    have ht : t.val < 16 := Nat.lt_of_lt_of_eq t.isLt N_0
    have e0 : (grid0.coords t 0).val = t.val / 1 % 16 := Pipeline.Grid.coords_val t 0 (by decide) rfl
    simp only [atStart, e0]
    word_cmp
   : ∀ t : Fin grid0.N, atStart (grid0.coords t) ↔ t.val = 0)

/-- The staging buffers that the body is handed at a point: the tokens, the two gains, the result. -/
abbrev stX (t : Fin cfg0.N) : Memref sig .tc .vmem S1024x1024 .f32 := win0_0.stage (cfg0.slots t 0)
abbrev stG (t : Fin cfg0.N) : Memref sig .tc .vmem S1x1024 .f32 := win0_1.stage (cfg0.slots t 1)
abbrev stH (t : Fin cfg0.N) : Memref sig .tc .vmem S1x1024 .f32 := win0_2.stage (cfg0.slots t 2)
abbrev stO (t : Fin cfg0.N) : Memref sig .tc .vmem S1024x1024 .f32 := win0_3.stage (cfg0.slots t 3)

/-- The resident weights (gate, up, down) and the three rings that their rows arrive in. -/
abbrev resG : Memref sig .tc .vmem S1024x2816 .bf16 := Memref.whole cc0_scratch0
abbrev resU : Memref sig .tc .vmem S1024x2816 .bf16 := Memref.whole cc0_scratch1
abbrev resD : Memref sig .tc .vmem S2816x1024 .bf16 := Memref.whole cc0_scratch2
abbrev ringG : Memref sig .tc .vmem S6x128x2816 .f32 := Memref.whole cc0_scoped0
abbrev ringU : Memref sig .tc .vmem S6x128x2816 .f32 := Memref.whole cc0_scoped2
abbrev ringD : Memref sig .tc .vmem S6x352x1024 .f32 := Memref.whole cc0_scoped4

/-- The stacked weights, left in HBM. -/
abbrev hbG : Memref sig .tc .hbm S2x1024x2816 .f32 := Memref.whole main_arg2
abbrev hbU : Memref sig .tc .hbm S2x1024x2816 .f32 := Memref.whole main_arg3
abbrev hbD : Memref sig .tc .hbm S2x2816x1024 .f32 := Memref.whole main_arg4

/-- The contents of a memref's buffer, and the buffer held whole at them. -/
abbrev BufOf (c : Dev nD) {sp : Space} {S : Shape} {e : EltTy} (M : Memref sig .tc sp S e) : Type := Buf (Elt F) (M.view.loc (c : Thread nD τ))
abbrev held (c : Dev nD) {sp : Space} {S : Shape} {e : EltTy} (M : Memref sig .tc sp S e) (f : BufOf (F := F) c M) : sProp 𝕄 :=
  M.view.loc (c : Thread nD τ) ↦{fullShare} f

/-- The semaphores of the three rings. -/
abbrev ringSem : Fin 18 → SemLoc sig := fun j => (![SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23] : Fin 18 → SemLoc sig) j
theorem ringSem_facts : Pipeline.OwnSemFacts spec0 ringSem := by decide
/-- All of them at zero, one by one. -/
theorem ringSem_zero (c : Dev nD) :
    (Pipeline.ownSems0 (Ix := Unit) (Name := ℕ) (U := Pipeline.UD sig nD τ) (Lvl := ℕ) (Val := Elt F) (τ := τ) ringSem c : sProp 𝕄)
      = iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0) := by
  rw [Pipeline.ownSems0_eq_of_list c ringSem [0, 1, 2, 3, 4, 5, 6, 7, 8, 9, 10, 11, 12, 13, 14, 15, 16, 17] (by decide) (by decide)]; rfl

/-- The HBM arrays that the body reads itself. -/
def hbm : Finset (Ref sig .tc) := {main_arg2, main_arg3, main_arg4}
theorem hbm_sub : hbm ⊆ Pipeline.restRefs sig spec0 := by decide

variable (m : (ℓ : Loc nD τ sig) → Buf (Elt F) ℓ)

theorem hbm_pts (c : Dev nD) :
    (bigSep hbm (fun b => ((c : Thread nD τ).loc b) ↦{fullShare} V m c b) : sProp 𝕄) = iprop(held c hbG (V m c main_arg2) ∗ held c hbU (V m c main_arg3) ∗ held c hbD (V m c main_arg4)) := by
  rw [BI.bigSep_eq_bigSepL_of_eq [main_arg2, main_arg3, main_arg4] (by decide) (by decide)]; rfl

/-- What the launch hands the body between points, written out: scratch at some contents, the generator register, the
    semaphores at zero, the weights in HBM as launched. -/
theorem between_eq (c : Dev nD) :
    (Pipeline.ΦD ringSem spec0 hbm (V m) c : sProp 𝕄)
      = iprop(iprop((∃ d, owns (c : Thread nD τ) resG fullShare d) ∗ (∃ d, owns (c : Thread nD τ) resU fullShare d) ∗ (∃ d, owns (c : Thread nD τ) resD fullShare d) ∗ (∃ d, owns (c : Thread nD τ) ringG fullShare d) ∗ (∃ d, owns (c : Thread nD τ) ringU fullShare d) ∗ (∃ d, owns (c : Thread nD τ) ringD fullShare d)) ∗ (∃ r, prngReg c r) ∗ iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0)
        ∗ iprop(held c hbG (V m c main_arg2) ∗ held c hbU (V m c main_arg3) ∗ held c hbD (V m c main_arg4))) := by
  rw [Pipeline.ΦD_eq, scopedRest0_eq, ringSem_zero, hbm_pts]; simp only [resG, resU, resD, ringG, ringU, ringD, owns_whole]; try rfl

end Cert.KernelIdeal.Ffn

end
-- ==== Proof.Ring.lean ====
/- A ring of slots that copies fill and loads empty: what a load of one slot reads. -/
module

public import Idealize.ShloMosaic.Lib.Claim
public import Idealize.ShloMosaic.Lib.Writes
public import Idealize.ShloMosaic.Lib.Pipeline.Value
public import Idealize.ShloMosaic.Lib.WholeRead

@[expose] public section

namespace Ring

open Idealize.ShloMosaic

variable {sig : RefSig} {κ : Kind} {sp : Space} {e : EltTy} {Val : EltTy → Type} {n r c : ℕ}

/-- A copy into slot `s` of the ring, read back by a load of that slot, is what was copied. -/
theorem slot_hit (v : View sig κ sp ⟨3, ![n, r, c]⟩ e) (s : ℕ) (h h' : ∀ a : Fin 3, (![s, 0, 0] : Fin 3 → ℕ) a + (![1, r, c] : Fin 3 → ℕ) a ≤ (![n, r, c] : Fin 3 → ℕ) a)
    (hn : (⟨2, ![r, c]⟩ : Shape).numel = (⟨3, ![1, r, c]⟩ : Shape).numel) (hc : (⟨3, ![1, r, c]⟩ : Shape).ShapeCasts ⟨2, ![r, c]⟩)
    (g : v.ty.Contents Val) (w : (⟨2, ![r, c]⟩ : Shape).Idx → Val e) :
    shapeCast ⟨2, ![r, c]⟩ (View.readAt Val v (Rect.unit (s := ⟨3, ![n, r, c]⟩) ![s, 0, 0] ![1, r, c] h).toLoadRect
        (View.write Val ((v.slice (Rect.unit (s := ⟨3, ![n, r, c]⟩) ![s, 0, 0] ![1, r, c] h')).reshape ⟨2, ![r, c]⟩ hn) g w Finset.univ)) hc
      = w :=
  View.read_write_univ (v := (v.slice (Rect.unit (s := ⟨3, ![n, r, c]⟩) ![s, 0, 0] ![1, r, c] h')).reshape ⟨2, ![r, c]⟩ hn) g w

/-- A copy into another slot does not show. -/
theorem slot_miss (v : View sig κ sp ⟨3, ![n, r, c]⟩ e) (s s' : ℕ) (h : ∀ a : Fin 3, (![s, 0, 0] : Fin 3 → ℕ) a + (![1, r, c] : Fin 3 → ℕ) a ≤ (![n, r, c] : Fin 3 → ℕ) a)
    (h' : ∀ a : Fin 3, (![s', 0, 0] : Fin 3 → ℕ) a + (![1, r, c] : Fin 3 → ℕ) a ≤ (![n, r, c] : Fin 3 → ℕ) a)
    (hn : (⟨2, ![r, c]⟩ : Shape).numel = (⟨3, ![1, r, c]⟩ : Shape).numel)
    (g : v.ty.Contents Val) (w : (⟨2, ![r, c]⟩ : Shape).Idx → Val e) (hs : s ≠ s') :
    View.readAt Val v (Rect.unit (s := ⟨3, ![n, r, c]⟩) ![s, 0, 0] ![1, r, c] h).toLoadRect
        (View.write Val ((v.slice (Rect.unit (s := ⟨3, ![n, r, c]⟩) ![s', 0, 0] ![1, r, c] h')).reshape ⟨2, ![r, c]⟩ hn) g w Finset.univ)
      = View.readAt Val v (Rect.unit (s := ⟨3, ![n, r, c]⟩) ![s, 0, 0] ![1, r, c] h).toLoadRect g := by
  funext x
  refine Eq.trans (congrFun (congrArg (View.readAt Val v _) (View.write_reshape_univ (v := v.slice (Rect.unit (s := ⟨3, ![n, r, c]⟩) ![s', 0, 0] ![1, r, c] h')) hn g w)) x) ?_
  refine View.read_slice_write_of_not_mem (v := v) _ _ _ _ ?_
  rw [Rect.map_emb_univ]
  refine Rect.not_mem_set_of_axis _ _ (0 : Fin 3) s' 1 rfl rfl rfl ?_
  have hx : (x (0 : Fin 3)).val = 0 := by have := (x (0 : Fin 3)).isLt; exact Nat.lt_one_iff.mp this
  have : ((Rect.unit (s := ⟨3, ![n, r, c]⟩) ![s, 0, 0] ![1, r, c] h).toLoadRect.idx x (0 : Fin 3)).val = s + 1 * (x (0 : Fin 3)).val := rfl
  omega

/-- The rows of one layer's slice of a stack, as a copy out of it reads them. -/
theorem stack_row {d R : ℕ} (M : Memref sig κ sp ⟨3, ![d, R, c]⟩ e) (l o : ℕ)
    (h : ∀ a : Fin 3, (![l, o, 0] : Fin 3 → ℕ) a + (![1, r, c] : Fin 3 → ℕ) a ≤ (![d, R, c] : Fin 3 → ℕ) a)
    (hr : ∀ a, (Rect.unit (s := ⟨3, ![d, R, c]⟩) ![l, o, 0] ![1, r, c] h).stride a = 1)
    (hq : (⟨3, ![1, r, c]⟩ : Shape).Squeezes ⟨2, ![r, c]⟩) (f : M.view.ty.Contents Val) (x : (⟨2, ![r, c]⟩ : Shape).Idx)
    (y : (⟨3, ![d, R, c]⟩ : Shape).Idx) (h0 : (y (0 : Fin 3)).val = l) (h1 : (y (1 : Fin 3)).val = o + (x (0 : Fin 2)).val)
    (h2 : (y (2 : Fin 3)).val = (x (1 : Fin 2)).val) :
    View.read Val ((M.slice (Rect.unit (s := ⟨3, ![d, R, c]⟩) ![l, o, 0] ![1, r, c] h) hr).squeeze ⟨2, ![r, c]⟩ hq).view f x = View.read Val M.view f y := by
  have hc : (⟨3, ![1, r, c]⟩ : Shape).ShapeCasts ⟨2, ![r, c]⟩ := hq.numel_eq
  rw [Memref.read_squeeze_slice M _ hr hq hc f]
  refine (shapeCast_dropUnit_apply ![r, c] _ hc x).trans ?_
  refine congrArg (View.read Val M.view f) ?_
  funext a
  apply Fin.ext
  fin_cases a
  · show l + 1 * 0 = (y (0 : Fin 3)).val
    omega
  · show o + 1 * (x (0 : Fin 2)).val = (y (1 : Fin 3)).val
    omega
  · show 0 + 1 * (x (1 : Fin 2)).val = (y (2 : Fin 3)).val
    omega

/-- A load of a whole two-axis buffer held at the contents that read `X` is `X`. -/
theorem readAt_all {M : Memref sig κ sp ⟨2, ![r, c]⟩ e} (hM : M.IsWhole) (X : (⟨2, ![r, c]⟩ : Shape).Idx → Val e)
    (h : ∀ a : Fin 2, (![0, 0] : Fin 2 → ℕ) a + (![r, c] : Fin 2 → ℕ) a ≤ (![r, c] : Fin 2 → ℕ) a) :
    View.readAt Val M.view (Rect.unit (s := ⟨2, ![r, c]⟩) ![0, 0] ![r, c] h).toLoadRect (hM.unread X) = X := by
  funext x
  refine (hM.readAt_unread X _ x).trans (congrArg X ?_)
  funext a
  apply Fin.ext
  fin_cases a
  · show 0 + 1 * (x (0 : Fin 2)).val = _
    simp
  · show 0 + 1 * (x (1 : Fin 2)).val = _
    simp

/-- A load of a whole two-axis buffer after writes that agree with one function and cover it is that function. -/
theorem readCov_all [∀ e, Nonempty (Val e)] {v : View sig κ sp ⟨2, ![r, c]⟩ e} (G : (⟨2, ![r, c]⟩ : Shape).Idx → Val e) (L : List (View.Piece Val ⟨2, ![r, c]⟩ e))
    (hG : ∀ p ∈ L, ∀ x : p.1.shape.Idx, p.2 x = G (p.1.emb x)) (hL : ∀ y, ∃ p ∈ L, y ∈ p.1.set)
    (h : ∀ a : Fin 2, (![0, 0] : Fin 2 → ℕ) a + (![r, c] : Fin 2 → ℕ) a ≤ (![r, c] : Fin 2 → ℕ) a) :
    v.readCov L (Rect.unit (s := ⟨2, ![r, c]⟩) ![0, 0] ![r, c] h).toLoadRect = G := by
  funext x
  refine (View.read_writes_apply_of_pieces v _ G L hG _ (hL _)).trans (congrArg G ?_)
  funext a
  apply Fin.ext
  fin_cases a
  · show 0 + 1 * (x (0 : Fin 2)).val = _
    simp
  · show 0 + 1 * (x (1 : Fin 2)).val = _
    simp

end Ring

end
-- ==== Proof.Tile.lean ====
/- A stack's layer, and a tile that is made in two halves: what both feed-forward calls and the output call do with their buffers. -/
module

public import proofs.«01_k».proof.Proof.Ring
public import Idealize.ShloMosaic.Lib.Pointwise
public import Idealize.ShloMosaic.Lib.ValueIdx

@[expose] public section

noncomputable section

namespace Tile

open Idealize.ShloMosaic

variable {F : FTy → Type} [FloatOps F]

/-- A tile, and half of one. -/
abbrev Whole : Shape := ⟨2, ![1024, 1024]⟩
abbrev Half : Shape := ⟨2, ![512, 1024]⟩

/-- The matrix unit's format is the narrower one. -/
theorem narrow : FTy.bf16.bits < FTy.f32.bits := by decide

/-- Layer `l` of a stack of weights, rounded to the matrix unit's format. -/
def layerRows {R C : ℕ} (l : Fin 2) (A : (⟨3, ![2, R, C]⟩ : Shape).Idx → F .f32) : FVec F ⟨2, ![R, C]⟩ .bf16 :=
  truncf .bf16 (fun y => A (Fin.cons l y)) narrow

theorem layerRows_congr {R C r : ℕ} (l : Fin 2) (A : (⟨3, ![2, R, C]⟩ : Shape).Idx → F .f32) (v : FVec F ⟨2, ![r, C]⟩ .f32) (x : (⟨2, ![r, C]⟩ : Shape).Idx) (y : (⟨2, ![R, C]⟩ : Shape).Idx)
    (h : v x = A (Fin.cons l y)) : truncf .bf16 v narrow x = layerRows l A y :=
  congrArg (FloatOps.truncf (F := F) .bf16 narrow) h

/-- Rows `o` to `o + 511` of a tile. -/
def rowsAt (o : Fin 513) (x : Vec F Whole .f32) : Vec F Half .f32 :=
  fun z => x (Fin.cons (⟨o.val + (z 0).val, by have := (z 0).isLt; have h : (z 0).val < 512 := this; have := o.isLt; omega⟩ : Fin 1024) (fun a => z a.succ))

/-- What a function of 512 rows makes of a tile, half by half. -/
def halves (f : Vec F Half .f32 → Vec F Half .f32) (x : Vec F Whole .f32) : Vec F Whole .f32 :=
  fun y => if hy : (y 0).val < 512 then f (rowsAt 0 x) (Fin.cons (⟨(y 0).val, hy⟩ : Fin 512) (fun a => y a.succ))
    else f (rowsAt 512 x) (Fin.cons (⟨(y 0).val - 512, by have : (y 0).val < 1024 := (y 0).isLt; omega⟩ : Fin 512) (fun a => y a.succ))

theorem halves_low (f : Vec F Half .f32 → Vec F Half .f32) (x : Vec F Whole .f32)
    (z : Half.Idx) (y : Whole.Idx) (h0 : (y 0).val = (z 0).val) (h1 : (y 1).val = (z 1).val) :
    halves f x y = f (rowsAt 0 x) z := by
  have hz : (z 0).val < 512 := (z 0).isLt
  unfold halves
  rw [dif_pos (by omega)]
  refine congrArg _ ?_
  funext a
  apply Fin.ext
  fin_cases a
  · exact h0
  · exact h1

theorem halves_high (f : Vec F Half .f32 → Vec F Half .f32) (x : Vec F Whole .f32)
    (z : Half.Idx) (y : Whole.Idx) (h0 : (y 0).val = 512 + (z 0).val) (h1 : (y 1).val = (z 1).val) :
    halves f x y = f (rowsAt 512 x) z := by
  unfold halves
  rw [dif_neg (by omega)]
  refine congrArg _ ?_
  funext a
  apply Fin.ext
  fin_cases a
  · show (y 0).val - 512 = (z 0).val
    omega
  · exact h1

/-- A function of 512 rows that works row by row works so on the tile. -/
theorem halves_rows (f : Vec F Half .f32 → Vec F Half .f32) (ρ : (Fin 1024 → F .f32) → Fin 1024 → F .f32)
    (h : ∀ (v : Vec F Half .f32) (r : Fin 512) (j : Fin 1024), f v (ix2 r j) = ρ (fun k => v (ix2 r k)) j)
    (x : Vec F Whole .f32) (r j : Fin 1024) : halves f x (ix2 r j) = ρ (fun k => x (ix2 r k)) j := by
  by_cases hr : r.val < 512
  · rw [halves_low f x (ix2 (⟨r.val, hr⟩ : Fin 512) j) (ix2 r j) rfl rfl, h]
    refine congrArg (fun v => ρ v j) (funext fun k => congrArg x ?_)
    funext a; apply Fin.ext; fin_cases a
    · exact Nat.zero_add _
    · rfl
  · rw [halves_high f x (ix2 (⟨r.val - 512, by omega⟩ : Fin 512) j) (ix2 r j) (by show r.val = 512 + (r.val - 512); omega) rfl, h]
    refine congrArg (fun v => ρ v j) (funext fun k => congrArg x ?_)
    funext a; apply Fin.ext; fin_cases a
    · show 512 + (r.val - 512) = r.val
      omega
    · rfl

variable {sig : RefSig} {κ : Kind} {sp : Space}

/-- A load of half a tile held at the contents that read `x`. -/
theorem readAt_rows {M : Memref sig κ sp Whole .f32} (hM : M.IsWhole) (x : Vec F Whole .f32) (o : ℕ) (ho : o < 513)
    (h : ∀ a : Fin 2, (![o, 0] : Fin 2 → ℕ) a + (![512, 1024] : Fin 2 → ℕ) a ≤ (![1024, 1024] : Fin 2 → ℕ) a) :
    View.readAt (Elt F) M.view (Rect.unit (s := Whole) ![o, 0] ![512, 1024] h).toLoadRect (hM.unread x) = rowsAt ⟨o, ho⟩ x := by
  funext z
  refine (hM.readAt_unread x _ z).trans (congrArg x ?_)
  funext a
  apply Fin.ext
  fin_cases a
  · show o + 1 * (z 0).val = o + (z 0).val
    omega
  · show 0 + 1 * (z 1).val = (z 1).val
    omega

/-- A tile written in two halves that agree with one function reads as that function. -/
theorem read_halves (M : Memref sig κ sp Whole .f32) (f : M.view.ty.Contents (Elt F)) (G : Vec F Whole .f32)
    (h₁ : ∀ a : Fin 2, (![512, 0] : Fin 2 → ℕ) a + (![512, 1024] : Fin 2 → ℕ) a ≤ (![1024, 1024] : Fin 2 → ℕ) a)
    (h₀ : ∀ a : Fin 2, (![0, 0] : Fin 2 → ℕ) a + (![512, 1024] : Fin 2 → ℕ) a ≤ (![1024, 1024] : Fin 2 → ℕ) a)
    (w₁ w₀ : Vec F Half .f32) (e₁ : ∀ x : Half.Idx, w₁ x = G ((Rect.unit (s := Whole) ![512, 0] ![512, 1024] h₁).emb x))
    (e₀ : ∀ x : Half.Idx, w₀ x = G ((Rect.unit (s := Whole) ![0, 0] ![512, 1024] h₀).emb x)) :
    View.read (Elt F) M.view (M.view.writes (Elt F) f [⟨Rect.unit (s := Whole) ![512, 0] ![512, 1024] h₁, w₁⟩, ⟨Rect.unit (s := Whole) ![0, 0] ![512, 1024] h₀, w₀⟩]) = G := by
  funext y
  refine View.read_writes_apply_of_pieces _ _ G _ ?_ y ?_
  · simp only [List.forall_mem_cons, List.not_mem_nil, false_implies, implies_true, _root_.and_true]
    exact ⟨e₁, e₀⟩
  · exact View.cover_of_tiled (s := Whole) _ Half.size (by rfl) y

/-- What a load of the rectangle `R` reads of contents `X`. -/
def part {Val : EltTy → Type} {s : Shape} {e : EltTy} (R : Rect s) (X : s.Idx → Val e) : R.shape.Idx → Val e := fun z => X (R.toLoadRect.idx z)

theorem readAt_part {s : Shape} {e : EltTy} {M : Memref sig κ sp s e} (hM : M.IsWhole) (X : s.Idx → Elt F e) (R : Rect s) :
    View.readAt (Elt F) M.view R.toLoadRect (hM.unread X) = part R X :=
  funext fun z => hM.readAt_unread X _ z

/-- A load after writes that agree with one function and cover the buffer reads that function. -/
theorem readCov_part {s : Shape} {e : EltTy} {v : View sig κ sp s e} (G : s.Idx → Elt F e) (L : List (View.Piece (Elt F) s e))
    (hG : ∀ p ∈ L, ∀ x : p.1.shape.Idx, p.2 x = G (p.1.emb x)) (hL : ∀ y, ∃ p ∈ L, y ∈ p.1.set) (R : Rect s) :
    v.readCov L R.toLoadRect = part R G :=
  funext fun x => View.read_writes_apply_of_pieces v _ G L hG _ (hL _)

/-- The rectangle that is the whole shape embeds every index as itself. -/
theorem full_emb {s : Shape} (off : Fin s.rank → ℕ) (h : ∀ a, off a + s.size a ≤ s.size a) (h0 : ∀ a, off a = 0) (z : s.Idx) :
    (Rect.unit (s := s) off s.size h).emb z = z := by
  funext a
  apply Fin.ext
  show off a + 1 * (z a).val = (z a).val
  rw [h0 a]; omega

theorem part_full {Val : EltTy → Type} {s : Shape} {e : EltTy} (off : Fin s.rank → ℕ) (h : ∀ a, off a + s.size a ≤ s.size a) (h0 : ∀ a, off a = 0) (X : s.Idx → Val e) :
    part (Rect.unit (s := s) off s.size h) X = X :=
  funext fun z => congrArg X (full_emb off h h0 z)

/-- A load of a whole buffer held at the contents that read `X` is `X`. -/
theorem readAt_full {s : Shape} {e : EltTy} {M : Memref sig κ sp s e} (hM : M.IsWhole) (X : s.Idx → Elt F e) (off : Fin s.rank → ℕ) (h : ∀ a, off a + s.size a ≤ s.size a) (h0 : ∀ a, off a = 0) :
    View.readAt (Elt F) M.view (Rect.unit (s := s) off s.size h).toLoadRect (hM.unread X) = X :=
  (readAt_part hM X _).trans (part_full off h h0 X)

theorem full_piece {s : Shape} {e : EltTy} (off : Fin s.rank → ℕ) (h : ∀ a, off a + s.size a ≤ s.size a) (h0 : ∀ a, off a = 0) (G : s.Idx → Elt F e) :
    (∀ p ∈ [(⟨Rect.unit (s := s) off s.size h, G⟩ : View.Piece (Elt F) s e)], ∀ x : p.1.shape.Idx, p.2 x = G (p.1.emb x))
      ∧ ∀ y, ∃ p ∈ [(⟨Rect.unit (s := s) off s.size h, G⟩ : View.Piece (Elt F) s e)], y ∈ p.1.set := by
  refine ⟨fun p hp x => ?_, fun y => ⟨_, List.mem_singleton.mpr rfl, ?_⟩⟩
  · obtain rfl := List.mem_singleton.mp hp
    exact congrArg G (full_emb off h h0 x).symm
  · show y ∈ (Rect.unit (s := s) off s.size h).set
    refine Rect.mem_set_unit.mpr fun a => ?_
    rw [h0 a]
    exact ⟨Nat.zero_le _, by rw [Nat.zero_add]; exact (y a).isLt⟩

/-- A buffer written whole reads as what was written, -/
theorem read_full {s : Shape} {e : EltTy} (M : Memref sig κ sp s e) (f : M.view.ty.Contents (Elt F)) (G : s.Idx → Elt F e) (off : Fin s.rank → ℕ) (h : ∀ a, off a + s.size a ≤ s.size a) (h0 : ∀ a, off a = 0) :
    View.read (Elt F) M.view (M.view.writes (Elt F) f [⟨Rect.unit (s := s) off s.size h, G⟩]) = G :=
  funext fun y => View.read_writes_apply_of_pieces _ _ G _ (full_piece off h h0 G).1 y ((full_piece off h h0 G).2 y)

/-- and a part of it as that part of what was written. -/
theorem readCov_full {s : Shape} {e : EltTy} {v : View sig κ sp s e} (G : s.Idx → Elt F e) (off : Fin s.rank → ℕ) (h : ∀ a, off a + s.size a ≤ s.size a) (h0 : ∀ a, off a = 0) (R : Rect s) :
    v.readCov [(⟨Rect.unit (s := s) off s.size h, G⟩ : View.Piece (Elt F) s e)] R.toLoadRect = part R G :=
  readCov_part G _ (full_piece off h h0 G).1 (full_piece off h h0 G).2 R

end Tile

end
-- ==== Proof.Body.lean ====
/- The feed-forward body's runs: at the first point, which fetches the weights, and at the others, which find them resident. -/
module

public import proofs.«01_k».proof.Proof.Setup
public import proofs.«01_k».proof.Proof.Tile
public import proofs.«01_k».proof.Proof.Gen.KernelIdeal.Skeleton

@[expose] public section

set_option maxRecDepth 16384

noncomputable section

namespace Cert.KernelIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- What the body makes of 512 rows of tokens. -/
def halfOut (g h : Vec F S1x1024 .f32) (wg wu : Vec F S1024x2816 .bf16) (wd : Vec F S2816x1024 .bf16) (x : Vec F S512x1024 .f32) : Vec F S512x1024 .f32 :=
  k0_pay30 (k0_pay27 x g wg wu wd) (k0_pay28 h) (k0_pay29 x g wg wu wd)

/-- The second half's text says the same. -/
theorem halfOut_second (g h : Vec F S1x1024 .f32) (wg wu : Vec F S1024x2816 .bf16) (wd : Vec F S2816x1024 .bf16) (x : Vec F S512x1024 .f32) :
    k0_pay1 (k0_pay31 x) (k0_pay32 x g wg wu wd) h = halfOut g h wg wu wd x := rfl

/-- What the body makes of a tile: its two halves one by one. -/
def tileOut (x : Vec F S1024x1024 .f32) (g h : Vec F S1x1024 .f32) (wg wu : Vec F S1024x2816 .bf16) (wd : Vec F S2816x1024 .bf16) : Vec F S1024x1024 .f32 :=
  Tile.halves (halfOut g h wg wu wd) x

set_option maxHeartbeats 4000000 in set_option sl_exec.dmaWindow true in set_option sl_exec.dmaWindowSet true in
/-- The first point: the body streams the layer's weights through its rings into the resident scratch, then writes the
    tile's result. -/
theorem load_run (c : Dev nD) (i : grid0.Coords) (arg1 : Memref sig .tc .vmem S1024x1024 .f32) (harg1 : arg1.IsWhole) (arg2 : Memref sig .tc .vmem S1x1024 .f32) (harg2 : arg2.IsWhole) (arg6 : Memref sig .tc .vmem S1x1024 .f32) (harg6 : arg6.IsWhole) (arg7 : Memref sig .tc .vmem S1024x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S2816x1024 .bf16) (harg10 : arg10.IsWhole) (alloca_r0 : Memref sig .tc .vmem S6x128x2816 .f32) (halloca_r0 : alloca_r0.IsWhole) (alloca_r1 : Memref sig .tc .vmem S6x128x2816 .f32) (halloca_r1 : alloca_r1.IsWhole) (alloca_r2 : Memref sig .tc .vmem S6x352x1024 .f32) (halloca_r2 : alloca_r2.IsWhole) (hc0 : atStart i)
    (x0 : Vec F S1024x1024 .f32) (x1 x2 : Vec F S1x1024 .f32) (fh0 : BufOf (F := F) c hbG) (fh1 : BufOf (F := F) c hbU) (fh2 : BufOf (F := F) c hbD)
    (W : Waits sig Unit) (K : PUnit → sProp 𝕄) :
    iprop(owns (c : Thread nD τ) arg1 fullShare x0 ∗ owns (c : Thread nD τ) arg2 fullShare x1 ∗ owns (c : Thread nD τ) arg6 fullShare x2 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) alloca_r0 fullShare d) ∗ (∃ d, owns (c : Thread nD τ) alloca_r1 fullShare d) ∗ (∃ d, owns (c : Thread nD τ) alloca_r2 fullShare d) ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ held c hbG fh0 ∗ held c hbU fh1 ∗ held c hbD fh2 ∗ owes (c : Thread nD τ) 0 W
        ∗ (iprop(owns (c : Thread nD τ) arg1 fullShare x0 ∗ owns (c : Thread nD τ) arg2 fullShare x1 ∗ owns (c : Thread nD τ) arg6 fullShare x2 ∗ owns (c : Thread nD τ) arg7 fullShare (tileOut x0 x1 x2 (Tile.layerRows 1 (hbG.view.read (Elt F) fh0)) (Tile.layerRows 1 (hbU.view.read (Elt F) fh1)) (Tile.layerRows 1 (hbD.view.read (Elt F) fh2))) ∗ owns (c : Thread nD τ) arg8 fullShare (Tile.layerRows 1 (hbG.view.read (Elt F) fh0)) ∗ owns (c : Thread nD τ) arg9 fullShare (Tile.layerRows 1 (hbU.view.read (Elt F) fh1)) ∗ owns (c : Thread nD τ) arg10 fullShare (Tile.layerRows 1 (hbD.view.read (Elt F) fh2)) ∗ (∃ d, owns (c : Thread nD τ) alloca_r0 fullShare d) ∗ (∃ d, owns (c : Thread nD τ) alloca_r1 fullShare d) ∗ (∃ d, owns (c : Thread nD τ) alloca_r2 fullShare d) ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ held c hbG fh0 ∗ held c hbU fh1 ∗ held c hbD fh2 ∗ (∃ W', owes (c : Thread nD τ) 0 W')) -∗ K ⟨⟩))
      ⊢ wp frame (wpE (defs₀ (F := F)) Variants.none c none) Set.univ (cc0_ffn_final i arg1 harg1 arg2 harg2 (Memref.whole main_arg2) (Memref.isWhole_whole _) (Memref.whole main_arg3) (Memref.isWhole_whole _) (Memref.whole main_arg4) (Memref.isWhole_whole _) arg6 harg6 arg7 harg7 arg8 harg8 arg9 harg9 arg10 harg10 alloca_r0 halloca_r0 cc0_scoped1 alloca_r1 halloca_r1 cc0_scoped3 alloca_r2 halloca_r2 cc0_scoped5) K := by
  simp only [cc0_ffn_final_eq_skeleton]; unfold cc0_ffn_final_skel
  simp only [k0_part17_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part18_eq_skeleton]
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hq0, Hq1, Hq2, Hq3, Hq4, Hq5, Hq6, Hq7, Hq8, Hq9, Hq10, Hq11, Hq12, Hq13, Hq14, Hq15, Hq16, Hq17, Hh0, Hh1, Hh2, HW, Hk⟩
  obtain rfl := harg1.eq_unread hf0; obtain rfl := harg2.eq_unread hf1; obtain rfl := harg6.eq_unread hf2
  sl_exec (disch := first | sl_exact hc0)
  sl_step
  have hG : ∀ p ∈ load_run.sl.HS0_8 c alloca_r0 fh0 fs3, ∀ x : p.1.shape.Idx, p.2 x = Tile.layerRows 1 (hbG.view.read (Elt F) fh0) (p.1.emb x) := by
    delta load_run.sl.HS0_8 load_run.sl.r
    simp only [List.forall_mem_cons, List.not_mem_nil, false_implies, implies_true, _root_.and_true]
    refine ⟨?_, ?_, ?_, ?_, ?_, ?_, ?_, ?_⟩ <;> intro x
    all_goals
      delta load_run.sl.v136_r0 load_run.sl.v154_r0 load_run.sl.v172_r0 load_run.sl.v184_r0 load_run.sl.v196_r0 load_run.sl.v208_r0 load_run.sl.v220_r0 load_run.sl.v232_r0
      simp (disch := decide) only [k0_pay2, k0_pay3, k0_pay4, k0_pay5, k0_pay6, k0_pay7, k0_pay8, k0_pay9, k0_pay10, shapeCast_self, Ring.slot_hit, Ring.slot_miss]
      refine Tile.layerRows_congr 1 _ _ x _ (Ring.stack_row hbG 1 _ _ _ _ fh0 x (Fin.cons (1 : Fin 2) _) rfl ?_ ?_)
      · exact congrArg _ (Nat.one_mul _)
      · exact (Nat.zero_add _).trans (Nat.one_mul _)
  have hGc : ∀ y : S1024x2816.Idx, ∃ p ∈ load_run.sl.HS0_8 c alloca_r0 fh0 fs3, y ∈ p.1.set := by
    refine View.cover_of_tiled _ S128x2816.size ?_
    delta load_run.sl.HS0_8
    rfl
  have hU : ∀ p ∈ load_run.sl.HS1_8 c alloca_r1 fh1 fs4, ∀ x : p.1.shape.Idx, p.2 x = Tile.layerRows 1 (hbU.view.read (Elt F) fh1) (p.1.emb x) := by
    delta load_run.sl.HS1_8
    simp only [List.forall_mem_cons, List.not_mem_nil, false_implies, implies_true, _root_.and_true]
    refine ⟨?_, ?_, ?_, ?_, ?_, ?_, ?_, ?_⟩ <;> intro x
    all_goals
      delta load_run.sl.v136_r1 load_run.sl.v154_r1 load_run.sl.v172_r1 load_run.sl.v184_r1 load_run.sl.v196_r1 load_run.sl.v208_r1 load_run.sl.v220_r1 load_run.sl.v232_r1
      simp (disch := decide) only [k0_pay11, k0_pay12, k0_pay13, k0_pay14, k0_pay15, k0_pay16, k0_pay17, k0_pay18, shapeCast_self, Ring.slot_hit, Ring.slot_miss]
      refine Tile.layerRows_congr 1 _ _ x _ (Ring.stack_row hbU 1 _ _ _ _ fh1 x (Fin.cons (1 : Fin 2) _) rfl ?_ ?_)
      · exact congrArg _ (Nat.one_mul _)
      · exact (Nat.zero_add _).trans (Nat.one_mul _)
  have hUc : ∀ y : S1024x2816.Idx, ∃ p ∈ load_run.sl.HS1_8 c alloca_r1 fh1 fs4, y ∈ p.1.set := by
    refine View.cover_of_tiled _ S128x2816.size ?_
    delta load_run.sl.HS1_8
    rfl
  have hD : ∀ p ∈ load_run.sl.HS2_8 c alloca_r2 fh2 fs5, ∀ x : p.1.shape.Idx, p.2 x = Tile.layerRows 1 (hbD.view.read (Elt F) fh2) (p.1.emb x) := by
    delta load_run.sl.HS2_8
    simp only [List.forall_mem_cons, List.not_mem_nil, false_implies, implies_true, _root_.and_true]
    refine ⟨?_, ?_, ?_, ?_, ?_, ?_, ?_, ?_⟩ <;> intro x
    all_goals
      delta load_run.sl.v136_r2 load_run.sl.v154_r2 load_run.sl.v172_r2 load_run.sl.v184_r2 load_run.sl.v196_r2 load_run.sl.v load_run.sl.v220_r2 load_run.sl.v232_r2
      simp (disch := decide) only [k0_pay19, k0_pay20, k0_pay21, k0_pay22, k0_pay23, k0_pay24, k0_pay25, k0_pay26, shapeCast_self, Ring.slot_hit, Ring.slot_miss]
      refine Tile.layerRows_congr 1 _ _ x _ (Ring.stack_row hbD 1 _ _ _ _ fh2 x (Fin.cons (1 : Fin 2) _) rfl ?_ ?_)
      · exact congrArg _ (Nat.one_mul _)
      · exact (Nat.zero_add _).trans (Nat.one_mul _)
  have hDc : ∀ y : S2816x1024.Idx, ∃ p ∈ load_run.sl.HS2_8 c alloca_r2 fh2 fs5, y ∈ p.1.set := by
    refine View.cover_of_tiled _ S352x1024.size ?_
    delta load_run.sl.HS2_8
    rfl
  have eG : load_run.sl.v20 c arg8 alloca_r0 fh0 fs3 = Tile.layerRows 1 (hbG.view.read (Elt F) fh0) := Ring.readCov_all _ _ hG hGc _
  have eU : load_run.sl.v22 c arg9 alloca_r1 fh1 fs4 = Tile.layerRows 1 (hbU.view.read (Elt F) fh1) := Ring.readCov_all _ _ hU hUc _
  have eD : load_run.sl.v28 c arg10 alloca_r2 fh2 fs5 = Tile.layerRows 1 (hbD.view.read (Elt F) fh2) := Ring.readCov_all _ _ hD hDc _
  delta load_run.sl.r_1 load_run.sl.r_2 load_run.sl.r_3 load_run.sl.r_4 load_run.sl.r_5
  rw [eG, eU, eD]

  rw [Ring.readAt_all harg2, Ring.readAt_all harg6, Tile.readAt_rows harg1 x0 0 (by omega), Tile.readAt_rows harg1 x0 512 (by omega)]
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg6.read_unread _
  isplitl [H3]
  · iexists _; isplitr; swap; · iexact H3
    ipureintro
    refine Tile.read_halves arg7 f3 _ _ _ _ _ ?_ ?_
    · intro x; exact (Tile.halves_high (halfOut x1 x2 _ _ _) x0 x _ (congrArg _ (Nat.one_mul _)) ((Nat.zero_add _).trans (Nat.one_mul _))).symm
    · intro x; exact (Tile.halves_low (halfOut x1 x2 _ _ _) x0 x _ ((Nat.zero_add _).trans (Nat.one_mul _)) ((Nat.zero_add _).trans (Nat.one_mul _))).symm
  isplitl [HS0]
  · iexists _; isplitr; swap; · iexact HS0
    ipureintro; funext y; exact View.read_writes_apply_of_pieces _ _ _ _ hG y (hGc y)
  isplitl [HS1]
  · iexists _; isplitr; swap; · iexact HS1
    ipureintro; funext y; exact View.read_writes_apply_of_pieces _ _ _ _ hU y (hUc y)
  isplitl [HS2]
  · iexists _; isplitr; swap; · iexact HS2
    ipureintro; funext y; exact View.read_writes_apply_of_pieces _ _ _ _ hD y (hDc y)
  isplitl [HS3]
  · iexists _, _; isplitr; swap; · iexact HS3
    ipureintro; rfl
  isplitl [HS4]
  · iexists _, _; isplitr; swap; · iexact HS4
    ipureintro; rfl
  isplitl [HS5]
  · iexists _, _; isplitr; swap; · iexact HS5
    ipureintro; rfl
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hh0]; · iexact Hh0
  isplitl [Hh1]; · iexact Hh1
  isplitl [Hh2]; · iexact Hh2
  iexists _; iexact HW

set_option maxHeartbeats 4000000 in
/-- The other points: the weights are resident, and the body writes the tile's result from them. -/
theorem keep_run (c : Dev nD) (i : grid0.Coords) (arg1 : Memref sig .tc .vmem S1024x1024 .f32) (harg1 : arg1.IsWhole) (arg2 : Memref sig .tc .vmem S1x1024 .f32) (harg2 : arg2.IsWhole) (arg6 : Memref sig .tc .vmem S1x1024 .f32) (harg6 : arg6.IsWhole) (arg7 : Memref sig .tc .vmem S1024x1024 .f32) (harg7 : arg7.IsWhole) (arg8 : Memref sig .tc .vmem S1024x2816 .bf16) (harg8 : arg8.IsWhole) (arg9 : Memref sig .tc .vmem S1024x2816 .bf16) (harg9 : arg9.IsWhole) (arg10 : Memref sig .tc .vmem S2816x1024 .bf16) (harg10 : arg10.IsWhole) (alloca_r0 : Memref sig .tc .vmem S6x128x2816 .f32) (halloca_r0 : alloca_r0.IsWhole) (alloca_r1 : Memref sig .tc .vmem S6x128x2816 .f32) (halloca_r1 : alloca_r1.IsWhole) (alloca_r2 : Memref sig .tc .vmem S6x352x1024 .f32) (halloca_r2 : alloca_r2.IsWhole) (hc0 : ¬ atStart i)
    (x0 : Vec F S1024x1024 .f32) (x1 x2 : Vec F S1x1024 .f32) (w0 w1 : Vec F S1024x2816 .bf16) (w2 : Vec F S2816x1024 .bf16)
    (K : PUnit → sProp 𝕄) :
    iprop(owns (c : Thread nD τ) arg1 fullShare x0 ∗ owns (c : Thread nD τ) arg2 fullShare x1 ∗ owns (c : Thread nD τ) arg6 fullShare x2 ∗ (∃ d, owns (c : Thread nD τ) arg7 fullShare d) ∗ owns (c : Thread nD τ) arg8 fullShare w0 ∗ owns (c : Thread nD τ) arg9 fullShare w1 ∗ owns (c : Thread nD τ) arg10 fullShare w2
        ∗ (iprop(owns (c : Thread nD τ) arg1 fullShare x0 ∗ owns (c : Thread nD τ) arg2 fullShare x1 ∗ owns (c : Thread nD τ) arg6 fullShare x2 ∗ owns (c : Thread nD τ) arg7 fullShare (tileOut x0 x1 x2 w0 w1 w2) ∗ owns (c : Thread nD τ) arg8 fullShare w0 ∗ owns (c : Thread nD τ) arg9 fullShare w1 ∗ owns (c : Thread nD τ) arg10 fullShare w2) -∗ K ⟨⟩))
      ⊢ wp frame (wpE (defs₀ (F := F)) Variants.none c none) Set.univ (cc0_ffn_final i arg1 harg1 arg2 harg2 (Memref.whole main_arg2) (Memref.isWhole_whole _) (Memref.whole main_arg3) (Memref.isWhole_whole _) (Memref.whole main_arg4) (Memref.isWhole_whole _) arg6 harg6 arg7 harg7 arg8 harg8 arg9 harg9 arg10 harg10 alloca_r0 halloca_r0 cc0_scoped1 alloca_r1 halloca_r1 cc0_scoped3 alloca_r2 halloca_r2 cc0_scoped5) K := by
  simp only [cc0_ffn_final_eq_skeleton]; unfold cc0_ffn_final_skel
  simp only [k0_part17_eq_skeleton, k0_part18_eq_skeleton]
  unfold owns
  iintro ⟨⟨%f0, %hf0, H0⟩, ⟨%f1, %hf1, H1⟩, ⟨%f2, %hf2, H2⟩, ⟨%d3, %f3, -, H3⟩, ⟨%fs0, %hs0, HS0⟩, ⟨%fs1, %hs1, HS1⟩, ⟨%fs2, %hs2, HS2⟩, Hk⟩
  obtain rfl := harg1.eq_unread hf0; obtain rfl := harg2.eq_unread hf1; obtain rfl := harg6.eq_unread hf2
  obtain rfl := harg8.eq_unread hs0; obtain rfl := harg9.eq_unread hs1; obtain rfl := harg10.eq_unread hs2
  sl_exec (disch := first | sl_exact hc0)
  sl_step
  delta keep_run.sl.r keep_run.sl.r_1 keep_run.sl.r_2 keep_run.sl.r_3 keep_run.sl.r_4

  rw [Ring.readAt_all harg8, Ring.readAt_all harg9, Ring.readAt_all harg10, Ring.readAt_all harg2, Ring.readAt_all harg6, Tile.readAt_rows harg1 x0 0 (by omega), Tile.readAt_rows harg1 x0 512 (by omega)]
  iapply Hk
  isplitl [H0]
  · iexists _; isplitr; swap; · iexact H0
    ipureintro; exact harg1.read_unread _
  isplitl [H1]
  · iexists _; isplitr; swap; · iexact H1
    ipureintro; exact harg2.read_unread _
  isplitl [H2]
  · iexists _; isplitr; swap; · iexact H2
    ipureintro; exact harg6.read_unread _
  isplitl [H3]
  · iexists _; isplitr; swap; · iexact H3
    ipureintro
    refine Tile.read_halves arg7 f3 _ _ _ _ _ ?_ ?_
    · intro x; exact (Tile.halves_high (halfOut x1 x2 _ _ _) x0 x _ (congrArg _ (Nat.one_mul _)) ((Nat.zero_add _).trans (Nat.one_mul _))).symm
    · intro x; exact (Tile.halves_low (halfOut x1 x2 _ _ _) x0 x _ ((Nat.zero_add _).trans (Nat.one_mul _)) ((Nat.zero_add _).trans (Nat.one_mul _))).symm
  isplitl [HS0]
  · iexists _; isplitr; swap; · iexact HS0
    ipureintro; exact harg8.read_unread _
  isplitl [HS1]
  · iexists _; isplitr; swap; · iexact HS1
    ipureintro; exact harg9.read_unread _
  iexists _; isplitr; swap; · iexact HS2
  ipureintro; exact harg10.read_unread _

end Cert.KernelIdeal.Ffn

end
-- ==== Proof.Run.lean ====
/- The feed-forward call's run: what the launch passes from point to point, and what the arrays hold at the end. -/
module

public import proofs.«01_k».proof.Proof.Body
public import proofs.«01_k».proof.Proof.Gen.KernelIdeal.Points
public import Idealize.ShloMosaic.Lib.Pipeline.FrameBody

@[expose] public section

set_option maxRecDepth 16384

noncomputable section

namespace Cert.KernelIdeal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The layer's weights as the first point leaves them in the resident scratch. -/
def wGate (c : Dev nD) : Vec F S1024x2816 .bf16 := Tile.layerRows 1 (hbG.view.read (Elt F) (V m c main_arg2))
def wUp (c : Dev nD) : Vec F S1024x2816 .bf16 := Tile.layerRows 1 (hbU.view.read (Elt F) (V m c main_arg3))
def wDown (c : Dev nD) : Vec F S2816x1024 .bf16 := Tile.layerRows 1 (hbD.view.read (Elt F) (V m c main_arg4))

/-- Tile `t` of the result. -/
def outTile (c : Dev nD) (t : Fin cfg0.N) : Vec F S1024x1024 .f32 := tileOut (iblk m c 0 t) (iblk m c 1 t) (iblk m c 2 t) (wGate m c) (wUp m c) (wDown m c)

/-- What stands between points `t - 1` and `t`: the resident scratch at the layer's weights once the first point has run. -/
def between (c : Dev nD) (t : ℕ) : sProp 𝕄 :=
  iprop(iprop((∃ d, iprop(⌜0 < t → d = wGate m c⌝ ∗ owns (c : Thread nD τ) resG fullShare d)) ∗ (∃ d, iprop(⌜0 < t → d = wUp m c⌝ ∗ owns (c : Thread nD τ) resU fullShare d)) ∗ (∃ d, iprop(⌜0 < t → d = wDown m c⌝ ∗ owns (c : Thread nD τ) resD fullShare d)) ∗ (∃ d, owns (c : Thread nD τ) ringG fullShare d) ∗ (∃ d, owns (c : Thread nD τ) ringU fullShare d) ∗ (∃ d, owns (c : Thread nD τ) ringD fullShare d)) ∗ (∃ r, prngReg c r) ∗ iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0)
        ∗ iprop(held c hbG (V m c main_arg2) ∗ held c hbU (V m c main_arg3) ∗ held c hbD (V m c main_arg4)))

/-- The proof data: the arrays as the region finds them; after each point every input at its block and the result at its tile. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outTile m c t
  Φ t := between m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outTile m c t := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- What the body is called with at point `t`, and what it hands back. -/
def pre (c : Dev nD) (t : Fin cfg0.N) : sProp 𝕄 :=
  iprop((dats m 0 c).Φ t.castSucc ∗ (dats m 0 c).owesAt () t.castSucc
    ∗ (∃ d, owns (c : Thread nD τ) (stX t) fullShare ((dats m 0 c).before 0 t d))
    ∗ (∃ d, owns (c : Thread nD τ) (stG t) fullShare ((dats m 0 c).before 1 t d))
    ∗ (∃ d, owns (c : Thread nD τ) (stH t) fullShare ((dats m 0 c).before 2 t d))
    ∗ (∃ d, owns (c : Thread nD τ) (stO t) fullShare ((dats m 0 c).before 3 t d)))
def post (c : Dev nD) (t : Fin cfg0.N) : sProp 𝕄 :=
  iprop((dats m 0 c).Φ t.succ ∗ (dats m 0 c).owesAt () t.succ
    ∗ owns (c : Thread nD τ) (stX t) fullShare ((dats m 0 c).after 0 t)
    ∗ owns (c : Thread nD τ) (stG t) fullShare ((dats m 0 c).after 1 t)
    ∗ owns (c : Thread nD τ) (stH t) fullShare ((dats m 0 c).after 2 t)
    ∗ owns (c : Thread nD τ) (stO t) fullShare ((dats m 0 c).after 3 t))

set_option maxHeartbeats 1600000 in
/-- The body at any point: the first loads the weights, a later one finds them. -/
theorem sound (c : Dev nD) (t : Fin cfg0.N) :
    pre m c t ⊢ wp frame (wpE (defs₀ (F := F)) Variants.none c none) Set.univ (bodyAt0 t) (fun _ => post m c t) := by
  unfold pre post bodyAt0
  simp only [before_0, before_1, before_2]
  rw [show (dats m 0 c).Φ t.castSucc = between m c t.val from rfl, show (dats m 0 c).Φ t.succ = between m c (t.val + 1) from rfl,
    after_0, after_1, after_2, after_3]
  unfold between Dat.owesAt Pipeline.owesWithin
  rw [show (dats m 0 c).owed t.castSucc = 0 from rfl, show (dats m 0 c).owed t.succ = 0 from rfl]
  by_cases h0 : t.val = 0
  · iintro ⟨⟨⟨⟨%e0, -, HS0⟩, ⟨%e1, -, HS1⟩, ⟨%e2, -, HS2⟩, HS3, HS4, HS5⟩, Hg, ⟨Hq0, Hq1, Hq2, Hq3, Hq4, Hq5, Hq6, Hq7, Hq8, Hq9, Hq10, Hq11, Hq12, Hq13, Hq14, Hq15, Hq16, Hq17⟩, ⟨Hh0, Hh1, Hh2⟩⟩, ⟨%W, -, HW⟩, ⟨%d0, H0⟩, ⟨%d1, H1⟩, ⟨%d2, H2⟩, ⟨%d3, H3⟩⟩
    iapply (load_run c (grid0.coords t) _ _ _ _ _ _ _ _ _ _ _ _ _ _ _ _ _ _ _ _ ((atStart_iff t).mpr h0) (iblk m c 0 t) (iblk m c 1 t) (iblk m c 2 t) (V m c main_arg2) (V m c main_arg3) (V m c main_arg4) W _)
    isplitl [H0]; · iexact H0
    isplitl [H1]; · iexact H1
    isplitl [H2]; · iexact H2
    isplitl [H3]; · iexists _; iexact H3
    isplitl [HS0]; · iexists _; iexact HS0
    isplitl [HS1]; · iexists _; iexact HS1
    isplitl [HS2]; · iexists _; iexact HS2
    isplitl [HS3]; · iexact HS3
    isplitl [HS4]; · iexact HS4
    isplitl [HS5]; · iexact HS5
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hh0]; · iexact Hh0
    isplitl [Hh1]; · iexact Hh1
    isplitl [Hh2]; · iexact Hh2
    isplitl [HW]; · iexact HW
    iintro ⟨H0, H1, H2, H3, HS0, HS1, HS2, HS3, HS4, HS5, Hq0, Hq1, Hq2, Hq3, Hq4, Hq5, Hq6, Hq7, Hq8, Hq9, Hq10, Hq11, Hq12, Hq13, Hq14, Hq15, Hq16, Hq17, Hh0, Hh1, Hh2, ⟨%W', HW⟩⟩
    isplitl [HS0 HS1 HS2 HS3 HS4 HS5 Hg Hq0 Hq1 Hq2 Hq3 Hq4 Hq5 Hq6 Hq7 Hq8 Hq9 Hq10 Hq11 Hq12 Hq13 Hq14 Hq15 Hq16 Hq17 Hh0 Hh1 Hh2]
    · isplitl [HS0 HS1 HS2 HS3 HS4 HS5]
      · isplitl [HS0]
        · iexists _; isplitr; swap; · iexact HS0
          ipureintro; exact fun _ => rfl
        isplitl [HS1]
        · iexists _; isplitr; swap; · iexact HS1
          ipureintro; exact fun _ => rfl
        isplitl [HS2]
        · iexists _; isplitr; swap; · iexact HS2
          ipureintro; exact fun _ => rfl
        isplitl [HS3]; · iexact HS3
        isplitl [HS4]; · iexact HS4
        iexact HS5
      isplitl [Hg]; · iexact Hg
      isplitl [Hq0 Hq1 Hq2 Hq3 Hq4 Hq5 Hq6 Hq7 Hq8 Hq9 Hq10 Hq11 Hq12 Hq13 Hq14 Hq15 Hq16 Hq17]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        isplitl [Hq11]; · iexact Hq11
        isplitl [Hq12]; · iexact Hq12
        isplitl [Hq13]; · iexact Hq13
        isplitl [Hq14]; · iexact Hq14
        isplitl [Hq15]; · iexact Hq15
        isplitl [Hq16]; · iexact Hq16
        iexact Hq17
      isplitl [Hh0]; · iexact Hh0
      isplitl [Hh1]; · iexact Hh1
      iexact Hh2
    isplitl [HW]
    · iexists W'; isplitr; · ipureintro; exact fun _ _ => Or.inl trivial
      iexact HW
    isplitl [H0]; · iexact H0
    isplitl [H1]; · iexact H1
    isplitl [H2]; · iexact H2
    iexact H3
  · iintro ⟨⟨⟨⟨%e0, %he0, HS0⟩, ⟨%e1, %he1, HS1⟩, ⟨%e2, %he2, HS2⟩, HS3, HS4, HS5⟩, Hg, ⟨Hq0, Hq1, Hq2, Hq3, Hq4, Hq5, Hq6, Hq7, Hq8, Hq9, Hq10, Hq11, Hq12, Hq13, Hq14, Hq15, Hq16, Hq17⟩, ⟨Hh0, Hh1, Hh2⟩⟩, ⟨%W', -, HW⟩, ⟨%d0, H0⟩, ⟨%d1, H1⟩, ⟨%d2, H2⟩, ⟨%d3, H3⟩⟩
    obtain rfl := he0 (Nat.pos_of_ne_zero h0); obtain rfl := he1 (Nat.pos_of_ne_zero h0); obtain rfl := he2 (Nat.pos_of_ne_zero h0)
    iapply (keep_run c (grid0.coords t) _ _ _ _ _ _ _ _ _ _ _ _ _ _ _ _ _ _ _ _ (fun h => h0 ((atStart_iff t).mp h)) (iblk m c 0 t) (iblk m c 1 t) (iblk m c 2 t) (wGate m c) (wUp m c) (wDown m c) _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, H3, HS0, HS1, HS2⟩
    isplitl [HS0 HS1 HS2 HS3 HS4 HS5 Hg Hq0 Hq1 Hq2 Hq3 Hq4 Hq5 Hq6 Hq7 Hq8 Hq9 Hq10 Hq11 Hq12 Hq13 Hq14 Hq15 Hq16 Hq17 Hh0 Hh1 Hh2]
    · isplitl [HS0 HS1 HS2 HS3 HS4 HS5]
      · isplitl [HS0]
        · iexists _; isplitr; swap; · iexact HS0
          ipureintro; exact fun _ => rfl
        isplitl [HS1]
        · iexists _; isplitr; swap; · iexact HS1
          ipureintro; exact fun _ => rfl
        isplitl [HS2]
        · iexists _; isplitr; swap; · iexact HS2
          ipureintro; exact fun _ => rfl
        isplitl [HS3]; · iexact HS3
        isplitl [HS4]; · iexact HS4
        iexact HS5
      isplitl [Hg]; · iexact Hg
      isplitl [Hq0 Hq1 Hq2 Hq3 Hq4 Hq5 Hq6 Hq7 Hq8 Hq9 Hq10 Hq11 Hq12 Hq13 Hq14 Hq15 Hq16 Hq17]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        isplitl [Hq11]; · iexact Hq11
        isplitl [Hq12]; · iexact Hq12
        isplitl [Hq13]; · iexact Hq13
        isplitl [Hq14]; · iexact Hq14
        isplitl [Hq15]; · iexact Hq15
        isplitl [Hq16]; · iexact Hq16
        iexact Hq17
      isplitl [Hh0]; · iexact Hh0
      isplitl [Hh1]; · iexact Hh1
      iexact Hh2
    isplitl [HW]
    · iexists W'; isplitr; · ipureintro; exact fun _ _ => Or.inl trivial
      iexact HW
    isplitl [H0]; · iexact H0
    isplitl [H1]; · iexact H1
    isplitl [H2]; · iexact H2
    iexact H3

/-- The body table's row at point `t`'s slots is the body at the point's buffers. -/
theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (sound m c t) rfl .rfl fun _ => .rfl

/-- What the launch hands over is what stands before the first point, -/
theorem enter (c : Dev nD) : Pipeline.ΦD ringSem spec0 hbm (V m) c ⊢ between m c 0 := by
  rw [between_eq]; unfold between
  iintro ⟨⟨⟨%e0, HS0⟩, ⟨%e1, HS1⟩, ⟨%e2, HS2⟩, HS3, HS4, HS5⟩, Hr⟩
  isplitr [Hr]; swap; · iexact Hr
  isplitl [HS0]
  · iexists _; isplitr; swap; · iexact HS0
    ipureintro; exact fun h => absurd h (lt_irrefl 0)
  isplitl [HS1]
  · iexists _; isplitr; swap; · iexact HS1
    ipureintro; exact fun h => absurd h (lt_irrefl 0)
  isplitl [HS2]
  · iexists _; isplitr; swap; · iexact HS2
    ipureintro; exact fun h => absurd h (lt_irrefl 0)
  isplitl [HS3]; · iexact HS3
  isplitl [HS4]; · iexact HS4
  iexact HS5

/-- and what stands after any point can be handed back. -/
theorem leave (c : Dev nD) (t : ℕ) : between m c t ⊢ Pipeline.ΦD ringSem spec0 hbm (V m) c := by
  rw [between_eq]; unfold between
  iintro ⟨⟨⟨%e0, -, HS0⟩, ⟨%e1, -, HS1⟩, ⟨%e2, -, HS2⟩, HS3, HS4, HS5⟩, Hr⟩
  isplitr [Hr]; swap; · iexact Hr
  isplitl [HS0]; · iexists _; iexact HS0
  isplitl [HS1]; · iexists _; iexact HS1
  isplitl [HS2]; · iexists _; iexact HS2
  isplitl [HS3]; · iexact HS3
  isplitl [HS4]; · iexact HS4
  iexact HS5

set_option backward.isDefEq.respectTransparency.types false in
/-- Every run of the program ends, the arrays at what the proof data say and every counter at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 ringSem defs₀ Variants.none ringSem_facts hbm hbm_sub m ρ main
    (hbody := fun c => (obligation m c).loose) (hshare := fun c => (dats m 0 c).share_full fun _ => rfl)
    (howed := fun _ _ => rfl) (V := V m) (hmain := Pipeline.hmain_prefix cfgs 0 defs₀ Variants.none m main hostOps0 hostOps0_sub hostOps0_fresh main_chain) (hA := A_eq m) (hin := fun c => enter m c) (hout := fun c => leave m c _)

/-- No argument is an array the launch writes. -/
theorem args_kept {r : PUnit × MemSt nD τ sig (Elt F)} (h : Pipeline.FramePost cfgs (dats m) 0 (V m) r ∧ r.2.sem = fun _ => 0) (c : Dev nD) :
    r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) :=
  ⟨((h.1 c).2 main_arg0 (Pipeline.mem_restRefs_of main_arg0 (by decide) (by decide))).trans (V_main_arg0 m c), ((h.1 c).2 main_arg1 (Pipeline.mem_restRefs_of main_arg1 (by decide) (by decide))).trans (V_main_arg1 m c), ((h.1 c).2 main_arg2 (Pipeline.mem_restRefs_of main_arg2 (by decide) (by decide))).trans (V_main_arg2 m c), ((h.1 c).2 main_arg3 (Pipeline.mem_restRefs_of main_arg3 (by decide) (by decide))).trans (V_main_arg3 m c), ((h.1 c).2 main_arg4 (Pipeline.mem_restRefs_of main_arg4 (by decide) (by decide))).trans (V_main_arg4 m c), ((h.1 c).2 main_arg5 (Pipeline.mem_restRefs_of main_arg5 (by decide) (by decide))).trans (V_main_arg5 m c)⟩

/-- The frame: the arguments end as they were and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5))
      ∧ r.2.sem = fun _ => 0) :=
  (θ_run defs _ _).mono (fun _ h => ⟨args_kept m h, h.2⟩) (run_main m ρ)

end Cert.KernelIdeal.Ffn

end
-- ==== Proof.Value.lean ====
/- The feed-forward block over the reals, a row at a time: what the kernel makes of a row of tokens, and what the reference does. -/
module

public import proofs.«01_k».proof.Proof.Body
public import proofs.«01_k».proof.Proof.Gen.ReferenceIdeal.Run
public import Idealize.ShloMosaic.Lib.Pointwise

@[expose] public section

set_option maxRecDepth 16384

noncomputable section

namespace Cert.KernelIdeal.Ffn

open Idealize.ShloMosaic Idealize.ShloMosaic.TcCoe Idealize.ShloMosaic.Tactic
open Cert.KernelIdeal Cert.KernelIdeal.Gen

/-- A row divided by the root of its mean square, times the gains. -/
def normRow (x g : Fin 1024 → EReal) (j : Fin 1024) : EReal :=
  x j * Ideal.rsqrt (Ideal.div (∑ k, x k * x k) (Ideal.ofBits .f32 0x44800000#32) + Ideal.ofBits .f32 0x358637BD#32) * g j

/-- A row times a matrix. -/
def mulRow {K N : ℕ} (x : Fin K → EReal) (w : Fin K → Fin N → EReal) (j : Fin N) : EReal := ∑ k, x k * w k j

/-- The gated hidden row of an already normalised row. -/
def hiddenRow (h : Fin 1024 → EReal) (wg wu : Fin 1024 → Fin 2816 → EReal) (k : Fin 2816) : EReal :=
  mulRow h wg k * Ideal.logistic (mulRow h wg k) * mulRow h wu k

/-- The feed-forward block on one row. -/
def ffnRow (x g : Fin 1024 → EReal) (wg wu : Fin 1024 → Fin 2816 → EReal) (wd : Fin 2816 → Fin 1024 → EReal) (j : Fin 1024) : EReal :=
  x j + Ideal.ofBits .f32 0x3F000000#32 * mulRow (hiddenRow (normRow x g) wg wu) wd j

/-- A half of a tile, row by row. -/
theorem half_apply (g h : Vec Ideal S1x1024 .f32) (wg wu : Vec Ideal S1024x2816 .bf16) (wd : Vec Ideal S2816x1024 .bf16) (x : Vec Ideal S512x1024 .f32) (r : Fin 512) (j : Fin 1024) :
    halfOut g h wg wu wd x (ix2 r j)
      = normRow (ffnRow (fun k => x (ix2 r k)) (fun k => g (ix2 0 k)) (fun k n => wg (ix2 k n)) (fun k n => wu (ix2 k n)) (fun k n => wd (ix2 k n))) (fun k => h (ix2 0 k)) j := by
  have e (j : Fin 1024) : k0_pay27 x g wg wu wd (ix2 r j) = ffnRow (fun k => x (ix2 r k)) (fun k => g (ix2 0 k)) (fun k n => wg (ix2 k n)) (fun k n => wu (ix2 k n)) (fun k n => wd (ix2 k n)) j := by
    unfold k0_pay27
    pointwise
    rfl
  unfold halfOut k0_pay30 k0_pay29 k0_pay28
  pointwise
  simp only [e]
  rfl

/-- A tile, row by row. -/
theorem tile_apply (x : Vec Ideal S1024x1024 .f32) (g h : Vec Ideal S1x1024 .f32) (wg wu : Vec Ideal S1024x2816 .bf16) (wd : Vec Ideal S2816x1024 .bf16) (r j : Fin 1024) :
    tileOut x g h wg wu wd (ix2 r j)
      = normRow (ffnRow (fun k => x (ix2 r k)) (fun k => g (ix2 0 k)) (fun k n => wg (ix2 k n)) (fun k n => wu (ix2 k n)) (fun k n => wd (ix2 k n))) (fun k => h (ix2 0 k)) j := by
  exact Tile.halves_rows (halfOut g h wg wu wd) (fun v => normRow (ffnRow v (fun k => g (ix2 0 k)) (fun k n => wg (ix2 k n)) (fun k n => wu (ix2 k n)) (fun k n => wd (ix2 k n))) (fun k => h (ix2 0 k)))
    (half_apply g h wg wu wd) x r j

end Cert.KernelIdeal.Ffn

namespace Cert.ReferenceIdeal.Ffn

open Idealize.ShloMosaic Idealize.ShloMosaic.TcCoe Idealize.ShloMosaic.Tactic
open Cert.ReferenceIdeal Cert.ReferenceIdeal.Gen Cert.KernelIdeal.Ffn

/-- The reference's normalisation. -/
def norm (x : FVec Ideal S4x4096x1024 .f32) (g : FVec Ideal S1024 .f32) : FVec Ideal S4x4096x1024 .f32 :=
  mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 g))

/-- The reference's gating of a projected array. -/
def silu (s : FVec Ideal S4x4096x2816 .f32) : FVec Ideal S4x4096x2816 .f32 :=
  mulf s (Host.divf (broadcastInDim S4x4096x2816 ![] bcast_S_S4x4096x2816 (constant S_ .f32 0x3F800000#32)) (addf (broadcastInDim S4x4096x2816 ![] bcast_S_S4x4096x2816 (constant S_ .f32 0x3F800000#32)) (Host.exp (Host.negf s))))

/-- The reference's residual step on a normalised array. -/
def mid (x h : FVec Ideal S4x4096x1024 .f32) (wg wu : FVec Ideal S1024x2816 .f32) (wd : FVec Ideal S2816x1024 .f32) : FVec Ideal S4x4096x1024 .f32 :=
  addf x (mulf (broadcastInDim S4x4096x1024 ![] bcast_S_S4x4096x1024 (constant S_ .f32 0x3F000000#32)) (Host.dotGeneral dot_S4x4096x2816_S2816x1024_S4x4096x1024_2_0_01_1_n_n none (mulf (silu (Host.dotGeneral dot_S4x4096x1024_S1024x2816_S4x4096x2816_2_0_01_1_n_n none h wg)) (Host.dotGeneral dot_S4x4096x1024_S1024x2816_S4x4096x2816_2_0_01_1_n_n none h wu)) wd))

theorem norm_apply (x : FVec Ideal S4x4096x1024 .f32) (g : FVec Ideal S1024 .f32) (b : Fin 4) (t : Fin 4096) (j : Fin 1024) :
    norm x g (ix3 b t j) = normRow (fun k => x (ix3 b t k)) (fun k => g (ix1 k)) j := by
  unfold norm
  pointwise
  rfl

theorem silu_apply (s : FVec Ideal S4x4096x2816 .f32) (b : Fin 4) (t : Fin 4096) (j : Fin 2816) :
    silu s (ix3 b t j) = s (ix3 b t j) * Ideal.logistic (s (ix3 b t j)) := by
  unfold silu
  pointwise
  rfl

theorem mid_apply (x h : FVec Ideal S4x4096x1024 .f32) (wg wu : FVec Ideal S1024x2816 .f32) (wd : FVec Ideal S2816x1024 .f32) (b : Fin 4) (t : Fin 4096) (j : Fin 1024) :
    mid x h wg wu wd (ix3 b t j)
      = x (ix3 b t j) + Ideal.ofBits .f32 0x3F000000#32 * mulRow (hiddenRow (fun k => h (ix3 b t k)) (fun k n => wg (ix2 k n)) (fun k n => wu (ix2 k n))) (fun k n => wd (ix2 k n)) j := by
  unfold mid
  pointwise
  simp only [silu_apply]
  pointwise
  rfl

set_option maxHeartbeats 1600000 in
theorem res_eq (m : (ℓ : Loc nD τ sig) → Buf (Elt Ideal) ℓ) (c : Dev nD) :
    Value.res_main_v42 (F := Ideal) m c = shapeCast _ (norm (mid (m ((c.tc : Thread nD τ).loc main_arg0)) (norm (m ((c.tc : Thread nD τ).loc main_arg0)) (shapeCast _ (extractStridedSlice S1x1024 ![1, 0] (m ((c.tc : Thread nD τ).loc main_arg1)) slices_S2x1024_S1x1024_1_0) shapeCasts_S1x1024_S1024))
      (shapeCast _ (extractStridedSlice S1x1024x2816 ![1, 0, 0] (m ((c.tc : Thread nD τ).loc main_arg2)) slices_S2x1024x2816_S1x1024x2816_1_0_0) shapeCasts_S1x1024x2816_S1024x2816)
      (shapeCast _ (extractStridedSlice S1x1024x2816 ![1, 0, 0] (m ((c.tc : Thread nD τ).loc main_arg3)) slices_S2x1024x2816_S1x1024x2816_1_0_0) shapeCasts_S1x1024x2816_S1024x2816)
      (shapeCast _ (extractStridedSlice S1x2816x1024 ![1, 0, 0] (m ((c.tc : Thread nD τ).loc main_arg4)) slices_S2x2816x1024_S1x2816x1024_1_0_0) shapeCasts_S1x2816x1024_S2816x1024)) (m ((c.tc : Thread nD τ).loc main_arg5))) shapeCasts_S4x4096x1024_S16384x1024 := by
  unfold Value.res_main_v42 norm mid silu
  rfl

/-- The reference's result, row by row. -/
theorem res_apply (m : (ℓ : Loc nD τ sig) → Buf (Elt Ideal) ℓ) (c : Dev nD) (A0 : FVec Ideal S4x4096x1024 .f32) (A1 : FVec Ideal S2x1024 .f32) (A2 A3 : FVec Ideal S2x1024x2816 .f32) (A4 : FVec Ideal S2x2816x1024 .f32) (A5 : FVec Ideal S1024 .f32)
    (h0 : m ((c.tc : Thread nD τ).loc main_arg0) = A0) (h1 : m ((c.tc : Thread nD τ).loc main_arg1) = A1) (h2 : m ((c.tc : Thread nD τ).loc main_arg2) = A2) (h3 : m ((c.tc : Thread nD τ).loc main_arg3) = A3) (h4 : m ((c.tc : Thread nD τ).loc main_arg4) = A4) (h5 : m ((c.tc : Thread nD τ).loc main_arg5) = A5)
    (i : Fin 16384) (j : Fin 1024) :
    (Value.res_main_v42 (F := Ideal) m c : FVec Ideal S16384x1024 .f32) (ix2 i j)
      = normRow (ffnRow (fun k => A0 (ix3 (⟨i.val / 4096, by omega⟩ : Fin 4) (⟨i.val % 4096, by omega⟩ : Fin 4096) k)) (fun k => A1 (ix2 1 k)) (fun k n => A2 (ix3 1 k n)) (fun k n => A3 (ix3 1 k n)) (fun k n => A4 (ix3 1 k n))) (fun k => A5 (ix1 k)) j := by
  rw [res_eq, h0, h1, h2, h3, h4, h5]
  pointwise [norm_apply, mid_apply]
  rfl

end Cert.ReferenceIdeal.Ffn
-- ==== Proof.Final.lean ====
/- The feed-forward call's result over the reals: the launch's blocks put together, row by row. -/
module

public import proofs.«01_k».proof.Proof.Run
public import proofs.«01_k».proof.Proof.Value
public import Idealize.ShloMosaic.Lib.Pipeline.Value
public import Idealize.ShloMosaic.Lib.StableHlo.ReadAt

@[expose] public section

set_option maxRecDepth 16384

noncomputable section

namespace Cert.KernelIdeal.Ffn

open Idealize.ShloMosaic Idealize.ShloMosaic.TcCoe Idealize.ShloMosaic.Tactic
open Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The arguments as arrays. -/
abbrev aX (c : Dev nD) : FVec Ideal S4x4096x1024 .f32 := m ((c.tc : Thread nD τ).loc main_arg0)
abbrev aG (c : Dev nD) : FVec Ideal S2x1024 .f32 := m ((c.tc : Thread nD τ).loc main_arg1)
abbrev aWg (c : Dev nD) : FVec Ideal S2x1024x2816 .f32 := m ((c.tc : Thread nD τ).loc main_arg2)
abbrev aWu (c : Dev nD) : FVec Ideal S2x1024x2816 .f32 := m ((c.tc : Thread nD τ).loc main_arg3)
abbrev aWd (c : Dev nD) : FVec Ideal S2x2816x1024 .f32 := m ((c.tc : Thread nD τ).loc main_arg4)
abbrev aH (c : Dev nD) : FVec Ideal S1024 .f32 := m ((c.tc : Thread nD τ).loc main_arg5)

/-- The result at row `i`, column `j`. -/
def resRow (c : Dev nD) (i : Fin 16384) (j : Fin 1024) : EReal :=
  normRow (ffnRow (fun k => aX m c (ix3 (⟨i.val / 4096, by omega⟩ : Fin 4) (⟨i.val % 4096, by omega⟩ : Fin 4096) k)) (fun k => aG m c (ix2 1 k)) (fun k n => aWg m c (ix3 1 k n)) (fun k n => aWu m c (ix3 1 k n)) (fun k n => aWd m c (ix3 1 k n))) (fun k => aH m c (ix1 k)) j

/-- The result as an array. -/
def result (c : Dev nD) : FVec Ideal S16384x1024 .f32 := fun i => resRow m c (i 0) (i 1)

/-- The arrays the windows read, as the host left them. -/
theorem V_x (c : Dev nD) (i : Fin 16384) (k : Fin 1024) :
    (V m c main_v0 : FVec Ideal S16384x1024 .f32) (ix2 i k) = aX m c (ix3 (⟨i.val / 4096, by omega⟩ : Fin 4) (⟨i.val % 4096, by omega⟩ : Fin 4096) k) := by
  unfold V
  after_reads_at
theorem V_g (c : Dev nD) (k : Fin 1024) : (V m c main_v3 : FVec Ideal S1x1024 .f32) (ix2 0 k) = aG m c (ix2 1 k) := by
  unfold V
  after_reads_at
theorem V_h (c : Dev nD) (k : Fin 1024) : (V m c main_v4 : FVec Ideal S1x1024 .f32) (ix2 0 k) = aH m c (ix1 k) := by
  unfold V
  after_reads_at

/-- The layer's weights, element by element. -/
theorem wGate_apply (c : Dev nD) (k : Fin 1024) (n : Fin 2816) : wGate m c (ix2 k n) = aWg m c (ix3 1 k n) := by
  show V m c main_arg2 _ = _
  rw [V_main_arg2]
  refine congrArg (aWg m c) (funext fun a => ?_)
  fin_cases a <;> rfl
theorem wUp_apply (c : Dev nD) (k : Fin 1024) (n : Fin 2816) : wUp m c (ix2 k n) = aWu m c (ix3 1 k n) := by
  show V m c main_arg3 _ = _
  rw [V_main_arg3]
  refine congrArg (aWu m c) (funext fun a => ?_)
  fin_cases a <;> rfl
theorem wDown_apply (c : Dev nD) (k : Fin 2816) (n : Fin 1024) : wDown m c (ix2 k n) = aWd m c (ix3 1 k n) := by
  show V m c main_arg4 _ = _
  rw [V_main_arg4]
  refine congrArg (aWd m c) (funext fun a => ?_)
  fin_cases a <;> rfl

/-- The windows' index maps: the token windows take the tile of the point's number, the gains' windows their one block. -/
theorem index_x : ∀ t : Fin cfg0.N, win0_0.index t 0 = t.val ∧ win0_0.index t 1 = 0 := by decide +kernel
theorem index_g : ∀ t : Fin cfg0.N, win0_1.index t 0 = 0 ∧ win0_1.index t 1 = 0 := by decide +kernel
theorem index_h : ∀ t : Fin cfg0.N, win0_2.index t 0 = 0 ∧ win0_2.index t 1 = 0 := by decide +kernel
theorem index_o : ∀ t : Fin cfg0.N, win0_3.index t 0 = t.val ∧ win0_3.index t 1 = 0 ∧ win0_3.xsize (grid0.coords t) 0 = 1024 ∧ win0_3.xsize (grid0.coords t) 1 = 1024 := by decide +kernel

theorem points (t : Fin cfg0.N) : t.val < 16 := lt_of_lt_of_eq t.isLt (by decide +kernel)

theorem iblk_x (c : Dev nD) (t : Fin cfg0.N) (r k : Fin 1024) :
    (iblk m c 0 t : Vec Ideal S1024x1024 .f32) (ix2 r k) = (V m c main_v0 : FVec Ideal S16384x1024 .f32) (ix2 (⟨t.val * 1024 + r.val, by have := points t; omega⟩ : Fin 16384) k) := by
  show (V m c main_v0 : FVec Ideal S16384x1024 .f32) _ = _
  refine congrArg (V m c main_v0 : FVec Ideal S16384x1024 .f32) (funext fun a => Fin.ext ?_)
  fin_cases a
  · show win0_0.index t 0 * 1024 + 1 * r.val = _
    rw [(index_x t).1, Nat.one_mul]; rfl
  · show win0_0.index t 1 * 1024 + 1 * k.val = _
    rw [(index_x t).2, Nat.one_mul, Nat.zero_mul, Nat.zero_add]; rfl
theorem iblk_g (c : Dev nD) (t : Fin cfg0.N) (k : Fin 1024) :
    (iblk m c 1 t : Vec Ideal S1x1024 .f32) (ix2 0 k) = (V m c main_v3 : FVec Ideal S1x1024 .f32) (ix2 0 k) := by
  show (V m c main_v3 : FVec Ideal S1x1024 .f32) _ = _
  refine congrArg (V m c main_v3 : FVec Ideal S1x1024 .f32) (funext fun a => Fin.ext ?_)
  fin_cases a
  · show win0_1.index t 0 * 1 + 1 * 0 = _
    rw [(index_g t).1]; rfl
  · show win0_1.index t 1 * 1024 + 1 * k.val = _
    rw [(index_g t).2, Nat.one_mul, Nat.zero_mul, Nat.zero_add]; rfl
theorem iblk_h (c : Dev nD) (t : Fin cfg0.N) (k : Fin 1024) :
    (iblk m c 2 t : Vec Ideal S1x1024 .f32) (ix2 0 k) = (V m c main_v4 : FVec Ideal S1x1024 .f32) (ix2 0 k) := by
  show (V m c main_v4 : FVec Ideal S1x1024 .f32) _ = _
  refine congrArg (V m c main_v4 : FVec Ideal S1x1024 .f32) (funext fun a => Fin.ext ?_)
  fin_cases a
  · show win0_2.index t 0 * 1 + 1 * 0 = _
    rw [(index_h t).1]; rfl
  · show win0_2.index t 1 * 1024 + 1 * k.val = _
    rw [(index_h t).2, Nat.one_mul, Nat.zero_mul, Nat.zero_add]; rfl

/-- Tile `t` of the result, row by row. -/
theorem outTile_apply (c : Dev nD) (t : Fin cfg0.N) (r j : Fin 1024) :
    outTile m c t (ix2 r j) = resRow m c (⟨t.val * 1024 + r.val, by have := points t; omega⟩ : Fin 16384) j := by
  unfold outTile resRow
  rw [tile_apply]
  have ex (k : Fin 1024) := (iblk_x m c t r k).trans (V_x m c _ k)
  have eg (k : Fin 1024) := (iblk_g m c t k).trans (V_g m c k)
  have eh (k : Fin 1024) := (iblk_h m c t k).trans (V_h m c k)
  simp only [ex, eg, eh, wGate_apply, wUp_apply, wDown_apply]

/-- What point `t` writes back is its block of the result. -/
theorem flushed_eq (c : Dev nD) (t : Fin cfg0.N) : (dats m 0 c).flushed 3 t = (win0_3.blk t).view.read (Elt Ideal) (result m c) := by
  show (cfg0.win 3).cut (grid0.coords t) ((dats m 0 c).after 3 t) = _
  rw [after_3]
  funext z
  show outTile m c t _ = resRow m c _ _
  obtain ⟨r, j, rfl⟩ : ∃ (r j : Fin 1024), z = (ix2 r j : S1024x1024.Idx) := ⟨z 0, z 1, eq_ix2 z⟩
  refine (outTile_apply m c t r j).trans ?_
  refine congrArg₂ (resRow m c) (Fin.ext ?_) (Fin.ext ?_)
  · show t.val * 1024 + r.val = win0_3.index t 0 * 1024 + 1 * r.val
    rw [(index_o t).1, Nat.one_mul]
  · show j.val = win0_3.index t 1 * 1024 + 1 * j.val
    rw [(index_o t).2.1, Nat.one_mul, Nat.zero_mul, Nat.zero_add]

/-- An element of the result is in the block of the tile its row is in. -/
theorem mem_blk (t : Fin cfg0.N) (i : S16384x1024.Idx) (h : t.val = (i 0).val / 1024) : i ∈ ((cfg0.win 3).blk t).view.set := by
  show i ∈ ((View.whole main_v5).slice (win0_3.rect t)).set
  rw [View.set_slice_whole, Rect.mem_set_unit]
  have h1 : (i 1 : Nat) < 1024 := (i 1).isLt
  intro a
  match a with
  | ⟨0, _⟩ =>
    show win0_3.index t 0 * 1024 ≤ (i 0 : Nat) ∧ (i 0 : Nat) < win0_3.index t 0 * 1024 + win0_3.xsize (grid0.coords t) 0
    rw [(index_o t).1, (index_o t).2.2.1]; omega
  | ⟨1, _⟩ =>
    show win0_3.index t 1 * 1024 ≤ (i 1 : Nat) ∧ (i 1 : Nat) < win0_3.index t 1 * 1024 + win0_3.xsize (grid0.coords t) 1
    rw [(index_o t).2.1, (index_o t).2.2.2]; omega

theorem cover (i : S16384x1024.Idx) : ∃ t : Fin cfg0.N, (cfg0.win 3).flush t = true ∧ i ∈ ((cfg0.win 3).blk t).view.set := by
  have h0 : (i 0 : Nat) < 16384 := (i 0).isLt
  have hN : cfg0.N = 16 := by decide +kernel
  exact ⟨⟨(i 0).val / 1024, by omega⟩, flush0_3 _, mem_blk _ i rfl⟩

/-- So the result array ends holding the result. -/
theorem final (c : Dev nD) : (dats m 0 c).arrAt 3 cfg0.N = result m c :=
  (dats m 0 c).arrAt_eq_of_cover 3 (result m c) (fun t _ => flushed_eq m c t) cover

/-- The run, read: the result array at the result, the arguments unchanged. -/
theorem run : θ_run defs (onTc (τ := τ) (main (F := Ideal))) ⟨m, fun _ => 0, ρ⟩ (fun r => ∀ c : Dev nD,
      r.2.mem ((c.tc : Thread nD τ).loc main_v5) = result m c
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5)) :=
  (θ_run defs _ _).mono (fun _ h c => ⟨((h.1 c).1 3).trans (final m c), args_kept m h c⟩) (run_main m ρ)

end Cert.KernelIdeal.Ffn

end
-- ==== Proof.Setup2.lean ====
/- The inner feed-forward call's launch: its branch condition over the grid, its buffers, its own copy semaphores and the weights it fetches from HBM itself. -/
module

public import proofs.«01_k».proof.Proof.Gen.Kernel2Ideal.Frame
public import Idealize.ShloMosaic.Lib.Claim

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (Pipeline.UD sig nD τ) ℕ

/-- The body loads its weights where this holds: the grid coordinate is zero. -/
abbrev atStart (i : grid0.Coords) : Prop := (Scalar.cmpi .ne (Scalar.extui (Scalar.cmpi .eq (BitVec.ofNat 32 (i 0).val) 0#32)) 0#32) = 1#1

/-- The weights are loaded at the first point and at no other. -/
theorem atStart_iff : ∀ t : Fin cfg0.N, atStart (grid0.coords t) ↔ t.val = 0 :=
  (fun t => by
    have ht : t.val < 16 := Nat.lt_of_lt_of_eq t.isLt N_0
    have e0 : (grid0.coords t 0).val = t.val / 1 % 16 := Pipeline.Grid.coords_val t 0 (by decide) rfl
    simp only [atStart, e0]
    word_cmp
   : ∀ t : Fin grid0.N, atStart (grid0.coords t) ↔ t.val = 0)

/-- The staging buffers that the body is handed at a point: the tokens, the gains, the result. -/
abbrev stX (t : Fin cfg0.N) : Memref sig .tc .vmem S1024x1024 .f32 := win0_0.stage (cfg0.slots t 0)
abbrev stG (t : Fin cfg0.N) : Memref sig .tc .vmem S1x1024 .f32 := win0_1.stage (cfg0.slots t 1)
abbrev stO (t : Fin cfg0.N) : Memref sig .tc .vmem S1024x1024 .f32 := win0_2.stage (cfg0.slots t 2)

/-- The resident weights (gate, up, down) and the three rings that their rows arrive in. -/
abbrev resG : Memref sig .tc .vmem S1024x2816 .bf16 := Memref.whole cc0_scratch0
abbrev resU : Memref sig .tc .vmem S1024x2816 .bf16 := Memref.whole cc0_scratch1
abbrev resD : Memref sig .tc .vmem S2816x1024 .bf16 := Memref.whole cc0_scratch2
abbrev ringG : Memref sig .tc .vmem S6x128x2816 .f32 := Memref.whole cc0_scoped0
abbrev ringU : Memref sig .tc .vmem S6x128x2816 .f32 := Memref.whole cc0_scoped2
abbrev ringD : Memref sig .tc .vmem S6x352x1024 .f32 := Memref.whole cc0_scoped4

/-- The stacked weights, left in HBM. -/
abbrev hbG : Memref sig .tc .hbm S2x1024x2816 .f32 := Memref.whole main_arg2
abbrev hbU : Memref sig .tc .hbm S2x1024x2816 .f32 := Memref.whole main_arg3
abbrev hbD : Memref sig .tc .hbm S2x2816x1024 .f32 := Memref.whole main_arg4

/-- The contents of a memref's buffer, and the buffer held whole at them. -/
abbrev BufOf (c : Dev nD) {sp : Space} {S : Shape} {e : EltTy} (M : Memref sig .tc sp S e) : Type := Buf (Elt F) (M.view.loc (c : Thread nD τ))
abbrev held (c : Dev nD) {sp : Space} {S : Shape} {e : EltTy} (M : Memref sig .tc sp S e) (f : BufOf (F := F) c M) : sProp 𝕄 :=
  M.view.loc (c : Thread nD τ) ↦{fullShare} f

/-- The semaphores of the three rings. -/
abbrev ringSem : Fin 18 → SemLoc sig := fun j => (![SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22] : Fin 18 → SemLoc sig) j
theorem ringSem_facts : Pipeline.OwnSemFacts spec0 ringSem := by decide
/-- All of them at zero, one by one. -/
theorem ringSem_zero (c : Dev nD) :
    (Pipeline.ownSems0 (Ix := Unit) (Name := ℕ) (U := Pipeline.UD sig nD τ) (Lvl := ℕ) (Val := Elt F) (τ := τ) ringSem c : sProp 𝕄)
      = iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0) := by
  rw [Pipeline.ownSems0_eq_of_list c ringSem [0, 1, 2, 3, 4, 5, 6, 7, 8, 9, 10, 11, 12, 13, 14, 15, 16, 17] (by decide) (by decide)]; rfl

/-- The HBM arrays that the body reads itself. -/
def hbm : Finset (Ref sig .tc) := {main_arg2, main_arg3, main_arg4}
theorem hbm_sub : hbm ⊆ Pipeline.restRefs sig spec0 := by decide

variable (m : (ℓ : Loc nD τ sig) → Buf (Elt F) ℓ)

theorem hbm_pts (c : Dev nD) :
    (bigSep hbm (fun b => ((c : Thread nD τ).loc b) ↦{fullShare} V m c b) : sProp 𝕄) = iprop(held c hbG (V m c main_arg2) ∗ held c hbU (V m c main_arg3) ∗ held c hbD (V m c main_arg4)) := by
  rw [BI.bigSep_eq_bigSepL_of_eq [main_arg2, main_arg3, main_arg4] (by decide) (by decide)]; rfl

/-- What the launch hands the body between points, written out: scratch at some contents, the generator register, the
    semaphores at zero, the weights in HBM as launched. -/
theorem between_eq (c : Dev nD) :
    (Pipeline.ΦD ringSem spec0 hbm (V m) c : sProp 𝕄)
      = iprop(iprop((∃ d, owns (c : Thread nD τ) resG fullShare d) ∗ (∃ d, owns (c : Thread nD τ) resU fullShare d) ∗ (∃ d, owns (c : Thread nD τ) resD fullShare d) ∗ (∃ d, owns (c : Thread nD τ) ringG fullShare d) ∗ (∃ d, owns (c : Thread nD τ) ringU fullShare d) ∗ (∃ d, owns (c : Thread nD τ) ringD fullShare d)) ∗ (∃ r, prngReg c r) ∗ iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0)
        ∗ iprop(held c hbG (V m c main_arg2) ∗ held c hbU (V m c main_arg3) ∗ held c hbD (V m c main_arg4))) := by
  rw [Pipeline.ΦD_eq, scopedRest0_eq, ringSem_zero, hbm_pts]; simp only [resG, resU, resD, ringG, ringU, ringD, owns_whole]; try rfl

end Cert.Kernel2Ideal.Ffn

end
-- ==== Proof.Body2.lean ====
/- The feed-forward body's runs: at the first point, which fetches the weights, and at the others, which find them resident. -/
module

public import proofs.«01_k».proof.Proof.Setup2
public import proofs.«01_k».proof.Proof.Tile
public import proofs.«01_k».proof.Proof.Gen.Kernel2Ideal.Skeleton

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (Pipeline.UD sig nD τ) ℕ

/-- What the body makes of 512 rows of tokens. -/
def halfOut (g : Vec F S1x1024 .f32) (wg wu : Vec F S1024x2816 .bf16) (wd : Vec F S2816x1024 .bf16) (x : Vec F S512x1024 .f32) : Vec F S512x1024 .f32 :=
  k0_pay27 x g wg wu wd

/-- The second half's text says the same. -/
theorem halfOut_second (g : Vec F S1x1024 .f32) (wg wu : Vec F S1024x2816 .bf16) (wd : Vec F S2816x1024 .bf16) (x : Vec F S512x1024 .f32) :
    k0_pay1 x g wg wu wd = halfOut g wg wu wd x := rfl

/-- What the body makes of a tile: its two halves one by one. -/
def tileOut (x : Vec F S1024x1024 .f32) (g : Vec F S1x1024 .f32) (wg wu : Vec F S1024x2816 .bf16) (wd : Vec F S2816x1024 .bf16) : Vec F S1024x1024 .f32 :=
  Tile.halves (halfOut g wg wu wd) x

set_option maxHeartbeats 4000000 in set_option sl_exec.dmaWindow true in set_option sl_exec.dmaWindowSet true in
/-- The first point: the body streams the layer's weights through its rings into the resident scratch, then writes the
    tile's result. -/
theorem load_run (c : Dev nD) (i : grid0.Coords) (arg1 : Memref sig .tc .vmem S1024x1024 .f32) (harg1 : arg1.IsWhole) (arg2 : Memref sig .tc .vmem S1x1024 .f32) (harg2 : arg2.IsWhole) (arg6 : Memref sig .tc .vmem S1024x1024 .f32) (harg6 : arg6.IsWhole) (arg7 : Memref sig .tc .vmem S1024x2816 .bf16) (harg7 : arg7.IsWhole) (arg8 : Memref sig .tc .vmem S1024x2816 .bf16) (harg8 : arg8.IsWhole) (arg9 : Memref sig .tc .vmem S2816x1024 .bf16) (harg9 : arg9.IsWhole) (alloca_r0 : Memref sig .tc .vmem S6x128x2816 .f32) (halloca_r0 : alloca_r0.IsWhole) (alloca_r1 : Memref sig .tc .vmem S6x128x2816 .f32) (halloca_r1 : alloca_r1.IsWhole) (alloca_r2 : Memref sig .tc .vmem S6x352x1024 .f32) (halloca_r2 : alloca_r2.IsWhole) (hc0 : atStart i)
    (x0 : Vec F S1024x1024 .f32) (x1 : Vec F S1x1024 .f32) (fh0 : BufOf (F := F) c hbG) (fh1 : BufOf (F := F) c hbU) (fh2 : BufOf (F := F) c hbD)
    (W : Waits sig Unit) (K : PUnit → sProp 𝕄) :
    iprop(owns (c : Thread nD τ) arg1 fullShare x0 ∗ owns (c : Thread nD τ) arg2 fullShare x1 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) alloca_r0 fullShare d) ∗ (∃ d, owns (c : Thread nD τ) alloca_r1 fullShare d) ∗ (∃ d, owns (c : Thread nD τ) alloca_r2 fullShare d) ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ held c hbG fh0 ∗ held c hbU fh1 ∗ held c hbD fh2 ∗ owes (c : Thread nD τ) 0 W
        ∗ (iprop(owns (c : Thread nD τ) arg1 fullShare x0 ∗ owns (c : Thread nD τ) arg2 fullShare x1 ∗ owns (c : Thread nD τ) arg6 fullShare (tileOut x0 x1 (Tile.layerRows 0 (hbG.view.read (Elt F) fh0)) (Tile.layerRows 0 (hbU.view.read (Elt F) fh1)) (Tile.layerRows 0 (hbD.view.read (Elt F) fh2))) ∗ owns (c : Thread nD τ) arg7 fullShare (Tile.layerRows 0 (hbG.view.read (Elt F) fh0)) ∗ owns (c : Thread nD τ) arg8 fullShare (Tile.layerRows 0 (hbU.view.read (Elt F) fh1)) ∗ owns (c : Thread nD τ) arg9 fullShare (Tile.layerRows 0 (hbD.view.read (Elt F) fh2)) ∗ (∃ d, owns (c : Thread nD τ) alloca_r0 fullShare d) ∗ (∃ d, owns (c : Thread nD τ) alloca_r1 fullShare d) ∗ (∃ d, owns (c : Thread nD τ) alloca_r2 fullShare d) ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ held c hbG fh0 ∗ held c hbU fh1 ∗ held c hbD fh2 ∗ (∃ W', owes (c : Thread nD τ) 0 W')) -∗ K ⟨⟩))
      ⊢ wp frame (wpE (defs₀ (F := F)) Variants.none c none) Set.univ (cc0_ffn i arg1 harg1 arg2 harg2 (Memref.whole main_arg2) (Memref.isWhole_whole _) (Memref.whole main_arg3) (Memref.isWhole_whole _) (Memref.whole main_arg4) (Memref.isWhole_whole _) arg6 harg6 arg7 harg7 arg8 harg8 arg9 harg9 alloca_r0 halloca_r0 cc0_scoped1 alloca_r1 halloca_r1 cc0_scoped3 alloca_r2 halloca_r2 cc0_scoped5) K := by
  simp only [cc0_ffn_eq_skeleton]; unfold cc0_ffn_skel
  simp only [k0_part17_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold owns
  iintro ⟨⟨%f0, %hf0, H0⟩, ⟨%f1, %hf1, H1⟩, ⟨%d3, %f3, -, H3⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hq0, Hq1, Hq2, Hq3, Hq4, Hq5, Hq6, Hq7, Hq8, Hq9, Hq10, Hq11, Hq12, Hq13, Hq14, Hq15, Hq16, Hq17, Hh0, Hh1, Hh2, HW, Hk⟩
  obtain rfl := harg1.eq_unread hf0; obtain rfl := harg2.eq_unread hf1
  sl_exec (disch := first | sl_exact hc0)
  sl_step
  have hG : ∀ p ∈ load_run.sl.HS0_8 c alloca_r0 fh0 fs3, ∀ x : p.1.shape.Idx, p.2 x = Tile.layerRows 0 (hbG.view.read (Elt F) fh0) (p.1.emb x) := by
    delta load_run.sl.HS0_8 load_run.sl.r
    simp only [List.forall_mem_cons, List.not_mem_nil, false_implies, implies_true, _root_.and_true]
    refine ⟨?_, ?_, ?_, ?_, ?_, ?_, ?_, ?_⟩ <;> intro x
    all_goals
      delta load_run.sl.v108_r0 load_run.sl.v126_r0 load_run.sl.v144_r0 load_run.sl.v156_r0 load_run.sl.v168_r0 load_run.sl.v180_r0 load_run.sl.v192_r0 load_run.sl.v204_r0
      simp (disch := decide) only [k0_pay2, k0_pay3, k0_pay4, k0_pay5, k0_pay6, k0_pay7, k0_pay8, k0_pay9, k0_pay10, shapeCast_self, Ring.slot_hit, Ring.slot_miss]
      refine Tile.layerRows_congr 0 _ _ x _ (Ring.stack_row hbG 0 _ _ _ _ fh0 x (Fin.cons (0 : Fin 2) _) rfl ?_ ?_)
      · exact congrArg _ (Nat.one_mul _)
      · exact (Nat.zero_add _).trans (Nat.one_mul _)
  have hGc : ∀ y : S1024x2816.Idx, ∃ p ∈ load_run.sl.HS0_8 c alloca_r0 fh0 fs3, y ∈ p.1.set := by
    refine View.cover_of_tiled _ S128x2816.size ?_
    delta load_run.sl.HS0_8
    rfl
  have hU : ∀ p ∈ load_run.sl.HS1_8 c alloca_r1 fh1 fs4, ∀ x : p.1.shape.Idx, p.2 x = Tile.layerRows 0 (hbU.view.read (Elt F) fh1) (p.1.emb x) := by
    delta load_run.sl.HS1_8
    simp only [List.forall_mem_cons, List.not_mem_nil, false_implies, implies_true, _root_.and_true]
    refine ⟨?_, ?_, ?_, ?_, ?_, ?_, ?_, ?_⟩ <;> intro x
    all_goals
      delta load_run.sl.v108_r1 load_run.sl.v126_r1 load_run.sl.v144_r1 load_run.sl.v156_r1 load_run.sl.v168_r1 load_run.sl.v180_r1 load_run.sl.v192_r1 load_run.sl.v204_r1
      simp (disch := decide) only [k0_pay11, k0_pay12, k0_pay13, k0_pay14, k0_pay15, k0_pay16, k0_pay17, k0_pay18, shapeCast_self, Ring.slot_hit, Ring.slot_miss]
      refine Tile.layerRows_congr 0 _ _ x _ (Ring.stack_row hbU 0 _ _ _ _ fh1 x (Fin.cons (0 : Fin 2) _) rfl ?_ ?_)
      · exact congrArg _ (Nat.one_mul _)
      · exact (Nat.zero_add _).trans (Nat.one_mul _)
  have hUc : ∀ y : S1024x2816.Idx, ∃ p ∈ load_run.sl.HS1_8 c alloca_r1 fh1 fs4, y ∈ p.1.set := by
    refine View.cover_of_tiled _ S128x2816.size ?_
    delta load_run.sl.HS1_8
    rfl
  have hD : ∀ p ∈ load_run.sl.HS2_8 c alloca_r2 fh2 fs5, ∀ x : p.1.shape.Idx, p.2 x = Tile.layerRows 0 (hbD.view.read (Elt F) fh2) (p.1.emb x) := by
    delta load_run.sl.HS2_8
    simp only [List.forall_mem_cons, List.not_mem_nil, false_implies, implies_true, _root_.and_true]
    refine ⟨?_, ?_, ?_, ?_, ?_, ?_, ?_, ?_⟩ <;> intro x
    all_goals
      delta load_run.sl.v108_r2 load_run.sl.v126_r2 load_run.sl.v144_r2 load_run.sl.v156_r2 load_run.sl.v168_r2 load_run.sl.v load_run.sl.v192_r2 load_run.sl.v204_r2
      simp (disch := decide) only [k0_pay19, k0_pay20, k0_pay21, k0_pay22, k0_pay23, k0_pay24, k0_pay25, k0_pay26, shapeCast_self, Ring.slot_hit, Ring.slot_miss]
      refine Tile.layerRows_congr 0 _ _ x _ (Ring.stack_row hbD 0 _ _ _ _ fh2 x (Fin.cons (0 : Fin 2) _) rfl ?_ ?_)
      · exact congrArg _ (Nat.one_mul _)
      · exact (Nat.zero_add _).trans (Nat.one_mul _)
  have hDc : ∀ y : S2816x1024.Idx, ∃ p ∈ load_run.sl.HS2_8 c alloca_r2 fh2 fs5, y ∈ p.1.set := by
    refine View.cover_of_tiled _ S352x1024.size ?_
    delta load_run.sl.HS2_8
    rfl
  have eG : load_run.sl.v20 c arg7 alloca_r0 fh0 fs3 = Tile.layerRows 0 (hbG.view.read (Elt F) fh0) := Ring.readCov_all _ _ hG hGc _
  have eU : load_run.sl.v22 c arg8 alloca_r1 fh1 fs4 = Tile.layerRows 0 (hbU.view.read (Elt F) fh1) := Ring.readCov_all _ _ hU hUc _
  have eD : load_run.sl.v28 c arg9 alloca_r2 fh2 fs5 = Tile.layerRows 0 (hbD.view.read (Elt F) fh2) := Ring.readCov_all _ _ hD hDc _
  have eG2 : load_run.sl.v51 c arg7 alloca_r0 fh0 fs3 = Tile.layerRows 0 (hbG.view.read (Elt F) fh0) := Ring.readCov_all _ _ hG hGc _
  have eU2 : load_run.sl.v53 c arg8 alloca_r1 fh1 fs4 = Tile.layerRows 0 (hbU.view.read (Elt F) fh1) := Ring.readCov_all _ _ hU hUc _
  have eD2 : load_run.sl.v59 c arg9 alloca_r2 fh2 fs5 = Tile.layerRows 0 (hbD.view.read (Elt F) fh2) := Ring.readCov_all _ _ hD hDc _
  rw [eG, eU, eD, eG2, eU2, eD2]

  rw [Ring.readAt_all harg2, Tile.readAt_rows harg1 x0 0 (by omega), Tile.readAt_rows harg1 x0 512 (by omega)]
  iapply Hk
  isplitl [H0]
  · iexists _; isplitr; swap; · iexact H0
    ipureintro; exact harg1.read_unread _
  isplitl [H1]
  · iexists _; isplitr; swap; · iexact H1
    ipureintro; exact harg2.read_unread _
  isplitl [H3]
  · iexists _; isplitr; swap; · iexact H3
    ipureintro
    refine Tile.read_halves arg6 f3 _ _ _ _ _ ?_ ?_
    · intro x
      refine (congrFun (halfOut_second x1 (Tile.layerRows 0 (hbG.view.read (Elt F) fh0)) (Tile.layerRows 0 (hbU.view.read (Elt F) fh1)) (Tile.layerRows 0 (hbD.view.read (Elt F) fh2)) (Tile.rowsAt 512 x0)) x).trans (Tile.halves_high (halfOut x1 (Tile.layerRows 0 (hbG.view.read (Elt F) fh0)) (Tile.layerRows 0 (hbU.view.read (Elt F) fh1)) (Tile.layerRows 0 (hbD.view.read (Elt F) fh2))) x0 x _ ?_ ?_).symm
      · exact congrArg _ (Nat.one_mul _)
      · exact (Nat.zero_add _).trans (Nat.one_mul _)
    · intro x; exact (Tile.halves_low (halfOut x1 _ _ _) x0 x _ ((Nat.zero_add _).trans (Nat.one_mul _)) ((Nat.zero_add _).trans (Nat.one_mul _))).symm
  isplitl [HS0]
  · iexists _; isplitr; swap; · iexact HS0
    ipureintro; funext y; exact View.read_writes_apply_of_pieces _ _ _ _ hG y (hGc y)
  isplitl [HS1]
  · iexists _; isplitr; swap; · iexact HS1
    ipureintro; funext y; exact View.read_writes_apply_of_pieces _ _ _ _ hU y (hUc y)
  isplitl [HS2]
  · iexists _; isplitr; swap; · iexact HS2
    ipureintro; funext y; exact View.read_writes_apply_of_pieces _ _ _ _ hD y (hDc y)
  isplitl [HS3]
  · iexists _, _; isplitr; swap; · iexact HS3
    ipureintro; rfl
  isplitl [HS4]
  · iexists _, _; isplitr; swap; · iexact HS4
    ipureintro; rfl
  isplitl [HS5]
  · iexists _, _; isplitr; swap; · iexact HS5
    ipureintro; rfl
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hh0]; · iexact Hh0
  isplitl [Hh1]; · iexact Hh1
  isplitl [Hh2]; · iexact Hh2
  iexists _; iexact HW

set_option maxHeartbeats 4000000 in
/-- The other points: the weights are resident, and the body writes the tile's result from them. -/
theorem keep_run (c : Dev nD) (i : grid0.Coords) (arg1 : Memref sig .tc .vmem S1024x1024 .f32) (harg1 : arg1.IsWhole) (arg2 : Memref sig .tc .vmem S1x1024 .f32) (harg2 : arg2.IsWhole) (arg6 : Memref sig .tc .vmem S1024x1024 .f32) (harg6 : arg6.IsWhole) (arg7 : Memref sig .tc .vmem S1024x2816 .bf16) (harg7 : arg7.IsWhole) (arg8 : Memref sig .tc .vmem S1024x2816 .bf16) (harg8 : arg8.IsWhole) (arg9 : Memref sig .tc .vmem S2816x1024 .bf16) (harg9 : arg9.IsWhole) (alloca_r0 : Memref sig .tc .vmem S6x128x2816 .f32) (halloca_r0 : alloca_r0.IsWhole) (alloca_r1 : Memref sig .tc .vmem S6x128x2816 .f32) (halloca_r1 : alloca_r1.IsWhole) (alloca_r2 : Memref sig .tc .vmem S6x352x1024 .f32) (halloca_r2 : alloca_r2.IsWhole) (hc0 : ¬ atStart i)
    (x0 : Vec F S1024x1024 .f32) (x1 : Vec F S1x1024 .f32) (w0 w1 : Vec F S1024x2816 .bf16) (w2 : Vec F S2816x1024 .bf16)
    (K : PUnit → sProp 𝕄) :
    iprop(owns (c : Thread nD τ) arg1 fullShare x0 ∗ owns (c : Thread nD τ) arg2 fullShare x1 ∗ (∃ d, owns (c : Thread nD τ) arg6 fullShare d) ∗ owns (c : Thread nD τ) arg7 fullShare w0 ∗ owns (c : Thread nD τ) arg8 fullShare w1 ∗ owns (c : Thread nD τ) arg9 fullShare w2
        ∗ (iprop(owns (c : Thread nD τ) arg1 fullShare x0 ∗ owns (c : Thread nD τ) arg2 fullShare x1 ∗ owns (c : Thread nD τ) arg6 fullShare (tileOut x0 x1 w0 w1 w2) ∗ owns (c : Thread nD τ) arg7 fullShare w0 ∗ owns (c : Thread nD τ) arg8 fullShare w1 ∗ owns (c : Thread nD τ) arg9 fullShare w2) -∗ K ⟨⟩))
      ⊢ wp frame (wpE (defs₀ (F := F)) Variants.none c none) Set.univ (cc0_ffn i arg1 harg1 arg2 harg2 (Memref.whole main_arg2) (Memref.isWhole_whole _) (Memref.whole main_arg3) (Memref.isWhole_whole _) (Memref.whole main_arg4) (Memref.isWhole_whole _) arg6 harg6 arg7 harg7 arg8 harg8 arg9 harg9 alloca_r0 halloca_r0 cc0_scoped1 alloca_r1 halloca_r1 cc0_scoped3 alloca_r2 halloca_r2 cc0_scoped5) K := by
  simp only [cc0_ffn_eq_skeleton]; unfold cc0_ffn_skel
  simp only [k0_part17_eq_skeleton]
  unfold owns
  iintro ⟨⟨%f0, %hf0, H0⟩, ⟨%f1, %hf1, H1⟩, ⟨%d3, %f3, -, H3⟩, ⟨%fs0, %hs0, HS0⟩, ⟨%fs1, %hs1, HS1⟩, ⟨%fs2, %hs2, HS2⟩, Hk⟩
  obtain rfl := harg1.eq_unread hf0; obtain rfl := harg2.eq_unread hf1
  obtain rfl := harg7.eq_unread hs0; obtain rfl := harg8.eq_unread hs1; obtain rfl := harg9.eq_unread hs2
  sl_exec (disch := first | sl_exact hc0)
  sl_step

  rw [Ring.readAt_all harg7, Ring.readAt_all harg8, Ring.readAt_all harg9, Ring.readAt_all harg2, Tile.readAt_rows harg1 x0 0 (by omega), Tile.readAt_rows harg1 x0 512 (by omega)]
  iapply Hk
  isplitl [H0]
  · iexists _; isplitr; swap; · iexact H0
    ipureintro; exact harg1.read_unread _
  isplitl [H1]
  · iexists _; isplitr; swap; · iexact H1
    ipureintro; exact harg2.read_unread _
  isplitl [H3]
  · iexists _; isplitr; swap; · iexact H3
    ipureintro
    refine Tile.read_halves arg6 f3 _ _ _ _ _ ?_ ?_
    · intro x
      refine (congrFun (halfOut_second x1 w0 w1 w2 (Tile.rowsAt 512 x0)) x).trans (Tile.halves_high (halfOut x1 w0 w1 w2) x0 x _ ?_ ?_).symm
      · exact congrArg _ (Nat.one_mul _)
      · exact (Nat.zero_add _).trans (Nat.one_mul _)
    · intro x; exact (Tile.halves_low (halfOut x1 _ _ _) x0 x _ ((Nat.zero_add _).trans (Nat.one_mul _)) ((Nat.zero_add _).trans (Nat.one_mul _))).symm
  isplitl [HS0]
  · iexists _; isplitr; swap; · iexact HS0
    ipureintro; exact harg7.read_unread _
  isplitl [HS1]
  · iexists _; isplitr; swap; · iexact HS1
    ipureintro; exact harg8.read_unread _
  iexists _; isplitr; swap; · iexact HS2
  ipureintro; exact harg9.read_unread _

end Cert.Kernel2Ideal.Ffn

end
-- ==== Proof.Run2.lean ====
/- The feed-forward call's run: what the launch passes from point to point, and what the arrays hold at the end. -/
module

public import proofs.«01_k».proof.Proof.Body2
public import proofs.«01_k».proof.Proof.Gen.Kernel2Ideal.Points
public import Idealize.ShloMosaic.Lib.Pipeline.FrameBody

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The layer's weights as the first point leaves them in the resident scratch. -/
def wGate (c : Dev nD) : Vec F S1024x2816 .bf16 := Tile.layerRows 0 (hbG.view.read (Elt F) (V m c main_arg2))
def wUp (c : Dev nD) : Vec F S1024x2816 .bf16 := Tile.layerRows 0 (hbU.view.read (Elt F) (V m c main_arg3))
def wDown (c : Dev nD) : Vec F S2816x1024 .bf16 := Tile.layerRows 0 (hbD.view.read (Elt F) (V m c main_arg4))

/-- Tile `t` of the result. -/
def outTile (c : Dev nD) (t : Fin cfg0.N) : Vec F S1024x1024 .f32 := tileOut (iblk m c 0 t) (iblk m c 1 t) (wGate m c) (wUp m c) (wDown m c)

/-- What stands between points `t - 1` and `t`: the resident scratch at the layer's weights once the first point has run. -/
def between (c : Dev nD) (t : ℕ) : sProp 𝕄 :=
  iprop(iprop((∃ d, iprop(⌜0 < t → d = wGate m c⌝ ∗ owns (c : Thread nD τ) resG fullShare d)) ∗ (∃ d, iprop(⌜0 < t → d = wUp m c⌝ ∗ owns (c : Thread nD τ) resU fullShare d)) ∗ (∃ d, iprop(⌜0 < t → d = wDown m c⌝ ∗ owns (c : Thread nD τ) resD fullShare d)) ∗ (∃ d, owns (c : Thread nD τ) ringG fullShare d) ∗ (∃ d, owns (c : Thread nD τ) ringU fullShare d) ∗ (∃ d, owns (c : Thread nD τ) ringD fullShare d)) ∗ (∃ r, prngReg c r) ∗ iprop(semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0)
        ∗ iprop(held c hbG (V m c main_arg2) ∗ held c hbU (V m c main_arg3) ∗ held c hbD (V m c main_arg4)))

/-- The proof data: the arrays as the region finds them; after each point every input at its block and the result at its tile. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => outTile m c t
  Φ t := between m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = outTile m c t := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-- What the body is called with at point `t`, and what it hands back. -/
def pre (c : Dev nD) (t : Fin cfg0.N) : sProp 𝕄 :=
  iprop((dats m 0 c).Φ t.castSucc ∗ (dats m 0 c).owesAt () t.castSucc
    ∗ (∃ d, owns (c : Thread nD τ) (stX t) fullShare ((dats m 0 c).before 0 t d))
    ∗ (∃ d, owns (c : Thread nD τ) (stG t) fullShare ((dats m 0 c).before 1 t d))
    ∗ (∃ d, owns (c : Thread nD τ) (stO t) fullShare ((dats m 0 c).before 2 t d)))
def post (c : Dev nD) (t : Fin cfg0.N) : sProp 𝕄 :=
  iprop((dats m 0 c).Φ t.succ ∗ (dats m 0 c).owesAt () t.succ
    ∗ owns (c : Thread nD τ) (stX t) fullShare ((dats m 0 c).after 0 t)
    ∗ owns (c : Thread nD τ) (stG t) fullShare ((dats m 0 c).after 1 t)
    ∗ owns (c : Thread nD τ) (stO t) fullShare ((dats m 0 c).after 2 t))

set_option maxHeartbeats 1600000 in
/-- The body at any point: the first loads the weights, a later one finds them. -/
theorem sound (c : Dev nD) (t : Fin cfg0.N) :
    pre m c t ⊢ wp frame (wpE (defs₀ (F := F)) Variants.none c none) Set.univ (bodyAt0 t) (fun _ => post m c t) := by
  unfold pre post bodyAt0
  simp only [before_0, before_1]
  rw [show (dats m 0 c).Φ t.castSucc = between m c t.val from rfl, show (dats m 0 c).Φ t.succ = between m c (t.val + 1) from rfl,
    after_0, after_1, after_2]
  unfold between Dat.owesAt Pipeline.owesWithin
  rw [show (dats m 0 c).owed t.castSucc = 0 from rfl, show (dats m 0 c).owed t.succ = 0 from rfl]
  by_cases h0 : t.val = 0
  · iintro ⟨⟨⟨⟨%e0, -, HS0⟩, ⟨%e1, -, HS1⟩, ⟨%e2, -, HS2⟩, HS3, HS4, HS5⟩, Hg, ⟨Hq0, Hq1, Hq2, Hq3, Hq4, Hq5, Hq6, Hq7, Hq8, Hq9, Hq10, Hq11, Hq12, Hq13, Hq14, Hq15, Hq16, Hq17⟩, ⟨Hh0, Hh1, Hh2⟩⟩, ⟨%W, -, HW⟩, ⟨%d0, H0⟩, ⟨%d1, H1⟩, ⟨%d3, H3⟩⟩
    iapply (load_run c (grid0.coords t) _ _ _ _ _ _ _ _ _ _ _ _ _ _ _ _ _ _ ((atStart_iff t).mpr h0) (iblk m c 0 t) (iblk m c 1 t) (V m c main_arg2) (V m c main_arg3) (V m c main_arg4) W _)
    isplitl [H0]; · iexact H0
    isplitl [H1]; · iexact H1
    isplitl [H3]; · iexists _; iexact H3
    isplitl [HS0]; · iexists _; iexact HS0
    isplitl [HS1]; · iexists _; iexact HS1
    isplitl [HS2]; · iexists _; iexact HS2
    isplitl [HS3]; · iexact HS3
    isplitl [HS4]; · iexact HS4
    isplitl [HS5]; · iexact HS5
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hh0]; · iexact Hh0
    isplitl [Hh1]; · iexact Hh1
    isplitl [Hh2]; · iexact Hh2
    isplitl [HW]; · iexact HW
    iintro ⟨H0, H1, H3, HS0, HS1, HS2, HS3, HS4, HS5, Hq0, Hq1, Hq2, Hq3, Hq4, Hq5, Hq6, Hq7, Hq8, Hq9, Hq10, Hq11, Hq12, Hq13, Hq14, Hq15, Hq16, Hq17, Hh0, Hh1, Hh2, ⟨%W', HW⟩⟩
    isplitl [HS0 HS1 HS2 HS3 HS4 HS5 Hg Hq0 Hq1 Hq2 Hq3 Hq4 Hq5 Hq6 Hq7 Hq8 Hq9 Hq10 Hq11 Hq12 Hq13 Hq14 Hq15 Hq16 Hq17 Hh0 Hh1 Hh2]
    · isplitl [HS0 HS1 HS2 HS3 HS4 HS5]
      · isplitl [HS0]
        · iexists _; isplitr; swap; · iexact HS0
          ipureintro; exact fun _ => rfl
        isplitl [HS1]
        · iexists _; isplitr; swap; · iexact HS1
          ipureintro; exact fun _ => rfl
        isplitl [HS2]
        · iexists _; isplitr; swap; · iexact HS2
          ipureintro; exact fun _ => rfl
        isplitl [HS3]; · iexact HS3
        isplitl [HS4]; · iexact HS4
        iexact HS5
      isplitl [Hg]; · iexact Hg
      isplitl [Hq0 Hq1 Hq2 Hq3 Hq4 Hq5 Hq6 Hq7 Hq8 Hq9 Hq10 Hq11 Hq12 Hq13 Hq14 Hq15 Hq16 Hq17]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        isplitl [Hq11]; · iexact Hq11
        isplitl [Hq12]; · iexact Hq12
        isplitl [Hq13]; · iexact Hq13
        isplitl [Hq14]; · iexact Hq14
        isplitl [Hq15]; · iexact Hq15
        isplitl [Hq16]; · iexact Hq16
        iexact Hq17
      isplitl [Hh0]; · iexact Hh0
      isplitl [Hh1]; · iexact Hh1
      iexact Hh2
    isplitl [HW]
    · iexists W'; isplitr; · ipureintro; exact fun _ _ => Or.inl trivial
      iexact HW
    isplitl [H0]; · iexact H0
    isplitl [H1]; · iexact H1
    iexact H3
  · iintro ⟨⟨⟨⟨%e0, %he0, HS0⟩, ⟨%e1, %he1, HS1⟩, ⟨%e2, %he2, HS2⟩, HS3, HS4, HS5⟩, Hg, ⟨Hq0, Hq1, Hq2, Hq3, Hq4, Hq5, Hq6, Hq7, Hq8, Hq9, Hq10, Hq11, Hq12, Hq13, Hq14, Hq15, Hq16, Hq17⟩, ⟨Hh0, Hh1, Hh2⟩⟩, ⟨%W', -, HW⟩, ⟨%d0, H0⟩, ⟨%d1, H1⟩, ⟨%d3, H3⟩⟩
    obtain rfl := he0 (Nat.pos_of_ne_zero h0); obtain rfl := he1 (Nat.pos_of_ne_zero h0); obtain rfl := he2 (Nat.pos_of_ne_zero h0)
    iapply (keep_run c (grid0.coords t) _ _ _ _ _ _ _ _ _ _ _ _ _ _ _ _ _ _ (fun h => h0 ((atStart_iff t).mp h)) (iblk m c 0 t) (iblk m c 1 t) (wGate m c) (wUp m c) (wDown m c) _)
    isplitl [H0]; · iexact H0
    isplitl [H1]; · iexact H1
    isplitl [H3]; · iexists _; iexact H3
    isplitl [HS0]; · iexact HS0
    isplitl [HS1]; · iexact HS1
    isplitl [HS2]; · iexact HS2
    iintro ⟨H0, H1, H3, HS0, HS1, HS2⟩
    isplitl [HS0 HS1 HS2 HS3 HS4 HS5 Hg Hq0 Hq1 Hq2 Hq3 Hq4 Hq5 Hq6 Hq7 Hq8 Hq9 Hq10 Hq11 Hq12 Hq13 Hq14 Hq15 Hq16 Hq17 Hh0 Hh1 Hh2]
    · isplitl [HS0 HS1 HS2 HS3 HS4 HS5]
      · isplitl [HS0]
        · iexists _; isplitr; swap; · iexact HS0
          ipureintro; exact fun _ => rfl
        isplitl [HS1]
        · iexists _; isplitr; swap; · iexact HS1
          ipureintro; exact fun _ => rfl
        isplitl [HS2]
        · iexists _; isplitr; swap; · iexact HS2
          ipureintro; exact fun _ => rfl
        isplitl [HS3]; · iexact HS3
        isplitl [HS4]; · iexact HS4
        iexact HS5
      isplitl [Hg]; · iexact Hg
      isplitl [Hq0 Hq1 Hq2 Hq3 Hq4 Hq5 Hq6 Hq7 Hq8 Hq9 Hq10 Hq11 Hq12 Hq13 Hq14 Hq15 Hq16 Hq17]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        isplitl [Hq11]; · iexact Hq11
        isplitl [Hq12]; · iexact Hq12
        isplitl [Hq13]; · iexact Hq13
        isplitl [Hq14]; · iexact Hq14
        isplitl [Hq15]; · iexact Hq15
        isplitl [Hq16]; · iexact Hq16
        iexact Hq17
      isplitl [Hh0]; · iexact Hh0
      isplitl [Hh1]; · iexact Hh1
      iexact Hh2
    isplitl [HW]
    · iexists W'; isplitr; · ipureintro; exact fun _ _ => Or.inl trivial
      iexact HW
    isplitl [H0]; · iexact H0
    isplitl [H1]; · iexact H1
    iexact H3

/-- The body table's row at point `t`'s slots is the body at the point's buffers. -/
theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (sound m c t) rfl .rfl fun _ => .rfl

/-- What the launch hands over is what stands before the first point, -/
theorem enter (c : Dev nD) : Pipeline.ΦD ringSem spec0 hbm (V m) c ⊢ between m c 0 := by
  rw [between_eq]; unfold between
  iintro ⟨⟨⟨%e0, HS0⟩, ⟨%e1, HS1⟩, ⟨%e2, HS2⟩, HS3, HS4, HS5⟩, Hr⟩
  isplitr [Hr]; swap; · iexact Hr
  isplitl [HS0]
  · iexists _; isplitr; swap; · iexact HS0
    ipureintro; exact fun h => absurd h (lt_irrefl 0)
  isplitl [HS1]
  · iexists _; isplitr; swap; · iexact HS1
    ipureintro; exact fun h => absurd h (lt_irrefl 0)
  isplitl [HS2]
  · iexists _; isplitr; swap; · iexact HS2
    ipureintro; exact fun h => absurd h (lt_irrefl 0)
  isplitl [HS3]; · iexact HS3
  isplitl [HS4]; · iexact HS4
  iexact HS5

/-- and what stands after any point can be handed back. -/
theorem leave (c : Dev nD) (t : ℕ) : between m c t ⊢ Pipeline.ΦD ringSem spec0 hbm (V m) c := by
  rw [between_eq]; unfold between
  iintro ⟨⟨⟨%e0, -, HS0⟩, ⟨%e1, -, HS1⟩, ⟨%e2, -, HS2⟩, HS3, HS4, HS5⟩, Hr⟩
  isplitr [Hr]; swap; · iexact Hr
  isplitl [HS0]; · iexists _; iexact HS0
  isplitl [HS1]; · iexists _; iexact HS1
  isplitl [HS2]; · iexists _; iexact HS2
  isplitl [HS3]; · iexact HS3
  isplitl [HS4]; · iexact HS4
  iexact HS5

set_option backward.isDefEq.respectTransparency.types false in
/-- Every run of the program ends, the arrays at what the proof data say and every counter at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 ringSem defs₀ Variants.none ringSem_facts hbm hbm_sub m ρ main
    (hbody := fun c => (obligation m c).loose) (hshare := fun c => (dats m 0 c).share_full fun _ => rfl)
    (howed := fun _ _ => rfl) (V := V m) (hmain := Pipeline.hmain_prefix cfgs 0 defs₀ Variants.none m main hostOps0 hostOps0_sub hostOps0_fresh main_chain) (hA := A_eq m) (hin := fun c => enter m c) (hout := fun c => leave m c _)

/-- No argument is an array the launch writes. -/
theorem args_kept {r : PUnit × MemSt nD τ sig (Elt F)} (h : Pipeline.FramePost cfgs (dats m) 0 (V m) r ∧ r.2.sem = fun _ => 0) (c : Dev nD) :
    r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) :=
  ⟨((h.1 c).2 main_arg0 (Pipeline.mem_restRefs_of main_arg0 (by decide) (by decide))).trans (V_main_arg0 m c), ((h.1 c).2 main_arg1 (Pipeline.mem_restRefs_of main_arg1 (by decide) (by decide))).trans (V_main_arg1 m c), ((h.1 c).2 main_arg2 (Pipeline.mem_restRefs_of main_arg2 (by decide) (by decide))).trans (V_main_arg2 m c), ((h.1 c).2 main_arg3 (Pipeline.mem_restRefs_of main_arg3 (by decide) (by decide))).trans (V_main_arg3 m c), ((h.1 c).2 main_arg4 (Pipeline.mem_restRefs_of main_arg4 (by decide) (by decide))).trans (V_main_arg4 m c)⟩

/-- The frame: the arguments end as they were and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4))
      ∧ r.2.sem = fun _ => 0) :=
  (θ_run defs _ _).mono (fun _ h => ⟨args_kept m h, h.2⟩) (run_main m ρ)

end Cert.Kernel2Ideal.Ffn

end
-- ==== Proof.Value2.lean ====
/- The inner feed-forward block over the reals, a row at a time: what the kernel makes of a row of tokens, and what the reference does. -/
module

public import proofs.«01_k».proof.Proof.Body2
public import proofs.«01_k».proof.Proof.Value
public import proofs.«01_k».proof.Proof.Gen.Reference2Ideal.Run
public import Idealize.ShloMosaic.Lib.Pointwise

@[expose] public section

set_option maxRecDepth 16384

noncomputable section

namespace Cert.Kernel2Ideal.Ffn

open Idealize.ShloMosaic Idealize.ShloMosaic.TcCoe Idealize.ShloMosaic.Tactic
open Cert.Kernel2Ideal Cert.Kernel2Ideal.Gen
open Cert.KernelIdeal.Ffn (normRow mulRow hiddenRow ffnRow)

/-- A half of a tile, row by row. -/
theorem half_apply (g : Vec Ideal S1x1024 .f32) (wg wu : Vec Ideal S1024x2816 .bf16) (wd : Vec Ideal S2816x1024 .bf16) (x : Vec Ideal S512x1024 .f32) (r : Fin 512) (j : Fin 1024) :
    halfOut g wg wu wd x (ix2 r j)
      = ffnRow (fun k => x (ix2 r k)) (fun k => g (ix2 0 k)) (fun k n => wg (ix2 k n)) (fun k n => wu (ix2 k n)) (fun k n => wd (ix2 k n)) j := by
  unfold halfOut k0_pay27
  pointwise
  rfl

/-- A tile, row by row. -/
theorem tile_apply (x : Vec Ideal S1024x1024 .f32) (g : Vec Ideal S1x1024 .f32) (wg wu : Vec Ideal S1024x2816 .bf16) (wd : Vec Ideal S2816x1024 .bf16) (r j : Fin 1024) :
    tileOut x g wg wu wd (ix2 r j)
      = ffnRow (fun k => x (ix2 r k)) (fun k => g (ix2 0 k)) (fun k n => wg (ix2 k n)) (fun k n => wu (ix2 k n)) (fun k n => wd (ix2 k n)) j := by
  exact Tile.halves_rows (halfOut g wg wu wd) (fun v => ffnRow v (fun k => g (ix2 0 k)) (fun k n => wg (ix2 k n)) (fun k n => wu (ix2 k n)) (fun k n => wd (ix2 k n)))
    (half_apply g wg wu wd) x r j

end Cert.Kernel2Ideal.Ffn

namespace Cert.Reference2Ideal.Ffn

open Idealize.ShloMosaic Idealize.ShloMosaic.TcCoe Idealize.ShloMosaic.Tactic
open Idealize.SL.Sem
open Cert.Reference2Ideal Cert.Reference2Ideal.Gen
open Cert.KernelIdeal.Ffn (normRow mulRow hiddenRow ffnRow)
open Cert.ReferenceIdeal.Ffn (norm mid silu norm_apply mid_apply)

/-- The reference's result of its arguments. -/
def res (m : (ℓ : Loc nD τ sig) → Buf (Elt Ideal) ℓ) (c : Dev nD) : FVec Ideal S16384x1024 .f32 :=
  shapeCast _ (mid (m ((c.tc : Thread nD τ).loc main_arg0)) (norm (m ((c.tc : Thread nD τ).loc main_arg0)) (shapeCast _ (extractStridedSlice S1x1024 ![0, 0] (m ((c.tc : Thread nD τ).loc main_arg1)) slices_S2x1024_S1x1024_0_0) shapeCasts_S1x1024_S1024))
      (shapeCast _ (extractStridedSlice S1x1024x2816 ![0, 0, 0] (m ((c.tc : Thread nD τ).loc main_arg2)) slices_S2x1024x2816_S1x1024x2816_0_0_0) shapeCasts_S1x1024x2816_S1024x2816)
      (shapeCast _ (extractStridedSlice S1x1024x2816 ![0, 0, 0] (m ((c.tc : Thread nD τ).loc main_arg3)) slices_S2x1024x2816_S1x1024x2816_0_0_0) shapeCasts_S1x1024x2816_S1024x2816)
      (shapeCast _ (extractStridedSlice S1x2816x1024 ![0, 0, 0] (m ((c.tc : Thread nD τ).loc main_arg4)) slices_S2x2816x1024_S1x2816x1024_0_0_0) shapeCasts_S1x2816x1024_S2816x1024)) shapeCasts_S4x4096x1024_S16384x1024

set_option maxHeartbeats 1600000 in
/-- The reference's run ends with it, its arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v29) = res m c
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4)) :=
  (θ_run defs _ _).mono (fun r h c => ⟨(h c).1.trans (by unfold res ReferenceIdeal.Ffn.norm mid silu; rfl), (h c).2⟩) (Value.run (F := Ideal) m ρ)

/-- The reference's result, row by row. -/
theorem res_apply (m : (ℓ : Loc nD τ sig) → Buf (Elt Ideal) ℓ) (c : Dev nD) (A0 : FVec Ideal S4x4096x1024 .f32) (A1 : FVec Ideal S2x1024 .f32) (A2 A3 : FVec Ideal S2x1024x2816 .f32) (A4 : FVec Ideal S2x2816x1024 .f32)
    (h0 : m ((c.tc : Thread nD τ).loc main_arg0) = A0) (h1 : m ((c.tc : Thread nD τ).loc main_arg1) = A1) (h2 : m ((c.tc : Thread nD τ).loc main_arg2) = A2) (h3 : m ((c.tc : Thread nD τ).loc main_arg3) = A3) (h4 : m ((c.tc : Thread nD τ).loc main_arg4) = A4)
    (i : Fin 16384) (j : Fin 1024) :
    res m c (ix2 i j)
      = ffnRow (fun k => A0 (ix3 (⟨i.val / 4096, by omega⟩ : Fin 4) (⟨i.val % 4096, by omega⟩ : Fin 4096) k)) (fun k => A1 (ix2 0 k)) (fun k n => A2 (ix3 0 k n)) (fun k n => A3 (ix3 0 k n)) (fun k n => A4 (ix3 0 k n)) j := by
  unfold res
  rw [h0, h1, h2, h3, h4]
  pointwise [norm_apply, mid_apply]
  rfl

end Cert.Reference2Ideal.Ffn
-- ==== Proof.Final2.lean ====
/- The inner feed-forward call's result over the reals: the launch's blocks put together, row by row. -/
module

public import proofs.«01_k».proof.Proof.Run2
public import proofs.«01_k».proof.Proof.Value2
public import Idealize.ShloMosaic.Lib.Pipeline.Value
public import Idealize.ShloMosaic.Lib.StableHlo.ReadAt

@[expose] public section

set_option maxRecDepth 16384

noncomputable section

namespace Cert.Kernel2Ideal.Ffn

open Idealize.ShloMosaic Idealize.ShloMosaic.TcCoe Idealize.ShloMosaic.Tactic
open Idealize.SL.Sem
open Idealize.ShloMosaic.Pipeline (Dat)
open Cert.Kernel2Ideal Cert.Kernel2Ideal.Gen
open Cert.KernelIdeal.Ffn (normRow mulRow hiddenRow ffnRow)

variable (m : (ℓ : Loc nD τ sig) → Buf (Elt Ideal) ℓ) (ρ : Dev nD → PrngReg)

/-- The arguments as arrays. -/
abbrev aX (c : Dev nD) : FVec Ideal S4x4096x1024 .f32 := m ((c.tc : Thread nD τ).loc main_arg0)
abbrev aG (c : Dev nD) : FVec Ideal S2x1024 .f32 := m ((c.tc : Thread nD τ).loc main_arg1)
abbrev aWg (c : Dev nD) : FVec Ideal S2x1024x2816 .f32 := m ((c.tc : Thread nD τ).loc main_arg2)
abbrev aWu (c : Dev nD) : FVec Ideal S2x1024x2816 .f32 := m ((c.tc : Thread nD τ).loc main_arg3)
abbrev aWd (c : Dev nD) : FVec Ideal S2x2816x1024 .f32 := m ((c.tc : Thread nD τ).loc main_arg4)

/-- The result at row `i`, column `j`. -/
def resRow (c : Dev nD) (i : Fin 16384) (j : Fin 1024) : EReal :=
  ffnRow (fun k => aX m c (ix3 (⟨i.val / 4096, by omega⟩ : Fin 4) (⟨i.val % 4096, by omega⟩ : Fin 4096) k)) (fun k => aG m c (ix2 0 k)) (fun k n => aWg m c (ix3 0 k n)) (fun k n => aWu m c (ix3 0 k n)) (fun k n => aWd m c (ix3 0 k n)) j

/-- The result as an array. -/
def result (c : Dev nD) : FVec Ideal S16384x1024 .f32 := fun i => resRow m c (i 0) (i 1)

/-- The arrays the windows read, as the host left them. -/
theorem V_x (c : Dev nD) (i : Fin 16384) (k : Fin 1024) :
    (V m c main_v0 : FVec Ideal S16384x1024 .f32) (ix2 i k) = aX m c (ix3 (⟨i.val / 4096, by omega⟩ : Fin 4) (⟨i.val % 4096, by omega⟩ : Fin 4096) k) := by
  unfold V
  after_reads_at
theorem V_g (c : Dev nD) (k : Fin 1024) : (V m c main_v3 : FVec Ideal S1x1024 .f32) (ix2 0 k) = aG m c (ix2 0 k) := by
  unfold V
  after_reads_at

/-- The layer's weights, element by element. -/
theorem wGate_apply (c : Dev nD) (k : Fin 1024) (n : Fin 2816) : wGate m c (ix2 k n) = aWg m c (ix3 0 k n) := by
  show V m c main_arg2 _ = _
  rw [V_main_arg2]
  refine congrArg (aWg m c) (funext fun a => ?_)
  fin_cases a <;> rfl
theorem wUp_apply (c : Dev nD) (k : Fin 1024) (n : Fin 2816) : wUp m c (ix2 k n) = aWu m c (ix3 0 k n) := by
  show V m c main_arg3 _ = _
  rw [V_main_arg3]
  refine congrArg (aWu m c) (funext fun a => ?_)
  fin_cases a <;> rfl
theorem wDown_apply (c : Dev nD) (k : Fin 2816) (n : Fin 1024) : wDown m c (ix2 k n) = aWd m c (ix3 0 k n) := by
  show V m c main_arg4 _ = _
  rw [V_main_arg4]
  refine congrArg (aWd m c) (funext fun a => ?_)
  fin_cases a <;> rfl

/-- The windows' index maps: the token windows take the tile of the point's number, the gains' windows their one block. -/
theorem index_x : ∀ t : Fin cfg0.N, win0_0.index t 0 = t.val ∧ win0_0.index t 1 = 0 := by decide +kernel
theorem index_g : ∀ t : Fin cfg0.N, win0_1.index t 0 = 0 ∧ win0_1.index t 1 = 0 := by decide +kernel
theorem index_o : ∀ t : Fin cfg0.N, win0_2.index t 0 = t.val ∧ win0_2.index t 1 = 0 ∧ win0_2.xsize (grid0.coords t) 0 = 1024 ∧ win0_2.xsize (grid0.coords t) 1 = 1024 := by decide +kernel

theorem points (t : Fin cfg0.N) : t.val < 16 := lt_of_lt_of_eq t.isLt (by decide +kernel)

theorem iblk_x (c : Dev nD) (t : Fin cfg0.N) (r k : Fin 1024) :
    (iblk m c 0 t : Vec Ideal S1024x1024 .f32) (ix2 r k) = (V m c main_v0 : FVec Ideal S16384x1024 .f32) (ix2 (⟨t.val * 1024 + r.val, by have := points t; omega⟩ : Fin 16384) k) := by
  show (V m c main_v0 : FVec Ideal S16384x1024 .f32) _ = _
  refine congrArg (V m c main_v0 : FVec Ideal S16384x1024 .f32) (funext fun a => Fin.ext ?_)
  fin_cases a
  · show win0_0.index t 0 * 1024 + 1 * r.val = _
    rw [(index_x t).1, Nat.one_mul]; rfl
  · show win0_0.index t 1 * 1024 + 1 * k.val = _
    rw [(index_x t).2, Nat.one_mul, Nat.zero_mul, Nat.zero_add]; rfl
theorem iblk_g (c : Dev nD) (t : Fin cfg0.N) (k : Fin 1024) :
    (iblk m c 1 t : Vec Ideal S1x1024 .f32) (ix2 0 k) = (V m c main_v3 : FVec Ideal S1x1024 .f32) (ix2 0 k) := by
  show (V m c main_v3 : FVec Ideal S1x1024 .f32) _ = _
  refine congrArg (V m c main_v3 : FVec Ideal S1x1024 .f32) (funext fun a => Fin.ext ?_)
  fin_cases a
  · show win0_1.index t 0 * 1 + 1 * 0 = _
    rw [(index_g t).1]; rfl
  · show win0_1.index t 1 * 1024 + 1 * k.val = _
    rw [(index_g t).2, Nat.one_mul, Nat.zero_mul, Nat.zero_add]; rfl

/-- Tile `t` of the result, row by row. -/
theorem outTile_apply (c : Dev nD) (t : Fin cfg0.N) (r j : Fin 1024) :
    outTile m c t (ix2 r j) = resRow m c (⟨t.val * 1024 + r.val, by have := points t; omega⟩ : Fin 16384) j := by
  unfold outTile resRow
  rw [tile_apply]
  have ex (k : Fin 1024) := (iblk_x m c t r k).trans (V_x m c _ k)
  have eg (k : Fin 1024) := (iblk_g m c t k).trans (V_g m c k)
  simp only [ex, eg, wGate_apply, wUp_apply, wDown_apply]

/-- What point `t` writes back is its block of the result. -/
theorem flushed_eq (c : Dev nD) (t : Fin cfg0.N) : (dats m 0 c).flushed 2 t = (win0_2.blk t).view.read (Elt Ideal) (result m c) := by
  show (cfg0.win 2).cut (grid0.coords t) ((dats m 0 c).after 2 t) = _
  rw [after_2]
  funext z
  show outTile m c t _ = resRow m c _ _
  obtain ⟨r, j, rfl⟩ : ∃ (r j : Fin 1024), z = (ix2 r j : S1024x1024.Idx) := ⟨z 0, z 1, eq_ix2 z⟩
  refine (outTile_apply m c t r j).trans ?_
  refine congrArg₂ (resRow m c) (Fin.ext ?_) (Fin.ext ?_)
  · show t.val * 1024 + r.val = win0_2.index t 0 * 1024 + 1 * r.val
    rw [(index_o t).1, Nat.one_mul]
  · show j.val = win0_2.index t 1 * 1024 + 1 * j.val
    rw [(index_o t).2.1, Nat.one_mul, Nat.zero_mul, Nat.zero_add]

/-- An element of the result is in the block of the tile its row is in. -/
theorem mem_blk (t : Fin cfg0.N) (i : S16384x1024.Idx) (h : t.val = (i 0).val / 1024) : i ∈ ((cfg0.win 2).blk t).view.set := by
  show i ∈ ((View.whole main_v4).slice (win0_2.rect t)).set
  rw [View.set_slice_whole, Rect.mem_set_unit]
  have h1 : (i 1 : Nat) < 1024 := (i 1).isLt
  intro a
  match a with
  | ⟨0, _⟩ =>
    show win0_2.index t 0 * 1024 ≤ (i 0 : Nat) ∧ (i 0 : Nat) < win0_2.index t 0 * 1024 + win0_2.xsize (grid0.coords t) 0
    rw [(index_o t).1, (index_o t).2.2.1]; omega
  | ⟨1, _⟩ =>
    show win0_2.index t 1 * 1024 ≤ (i 1 : Nat) ∧ (i 1 : Nat) < win0_2.index t 1 * 1024 + win0_2.xsize (grid0.coords t) 1
    rw [(index_o t).2.1, (index_o t).2.2.2]; omega

theorem cover (i : S16384x1024.Idx) : ∃ t : Fin cfg0.N, (cfg0.win 2).flush t = true ∧ i ∈ ((cfg0.win 2).blk t).view.set := by
  have h0 : (i 0 : Nat) < 16384 := (i 0).isLt
  have hN : cfg0.N = 16 := by decide +kernel
  exact ⟨⟨(i 0).val / 1024, by omega⟩, flush0_2 _, mem_blk _ i rfl⟩

/-- So the result array ends holding the result. -/
theorem final (c : Dev nD) : (dats m 0 c).arrAt 2 cfg0.N = result m c :=
  (dats m 0 c).arrAt_eq_of_cover 2 (result m c) (fun t _ => flushed_eq m c t) cover

/-- The run, read: the result array at the result, the arguments unchanged. -/
theorem run : θ_run defs (onTc (τ := τ) (main (F := Ideal))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4)) :=
  (θ_run defs _ _).mono (fun _ h c => ⟨((h.1 c).1 2).trans (final m c), args_kept m h c⟩) (run_main m ρ)

end Cert.Kernel2Ideal.Ffn

end
-- ==== Proof.Setup3.lean ====
/- The output call's launch: its two branch conditions over the grid, its buffers, its own copy semaphores and the weights it fetches from HBM itself. -/
module

public import proofs.«01_k».proof.Proof.Gen.Kernel3Ideal.Frame
public import Idealize.ShloMosaic.Lib.Claim

@[expose] public section

set_option maxRecDepth 16384

noncomputable section

namespace Cert.Kernel3Ideal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (Pipeline.UD sig nD τ) ℕ

/-- The body loads its weights where this holds: both grid coordinates are zero. -/
abbrev atStart (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

/-- It computes the keys and values of the memory where this holds: the second coordinate is zero. -/
abbrev atBatch (i : grid0.Coords) : Prop := (Scalar.cmpi .ne (Scalar.extui (Scalar.cmpi .eq (BitVec.ofNat 32 (i 1).val) 0#32)) 0#32) = 1#1

/-- The weights are loaded at the first point and at no other. -/
theorem atStart_iff : ∀ t : Fin cfg0.N, atStart (grid0.coords t) ↔ t.val = 0 :=
  (fun t => by
    have ht : t.val < 16 := Nat.lt_of_lt_of_eq t.isLt N_0
    have e0 : (grid0.coords t 0).val = t.val / 4 % 4 := Pipeline.Grid.coords_val t 0 (by decide) rfl
    have e1 : (grid0.coords t 1).val = t.val / 1 % 4 := Pipeline.Grid.coords_val t 1 (by decide) rfl
    simp only [atStart, e0, e1]
    word_cmp
   : ∀ t : Fin grid0.N, atStart (grid0.coords t) ↔ t.val = 0)

/-- The keys and values are computed at the first point of each batch entry. -/
theorem atBatch_iff : ∀ t : Fin cfg0.N, atBatch (grid0.coords t) ↔ t.val % 4 = 0 :=
  (fun t => by
    have ht : t.val < 16 := Nat.lt_of_lt_of_eq t.isLt N_0
    have e1 : (grid0.coords t 1).val = t.val / 1 % 4 := Pipeline.Grid.coords_val t 1 (by decide) rfl
    simp only [atBatch, e1]
    word_cmp
   : ∀ t : Fin grid0.N, atBatch (grid0.coords t) ↔ t.val % 4 = 0)

/-- The staging buffers that the body is handed at a point: the residual rows, the attention slabs, the convolved rows,
    the memory, the two gains, the result. -/
abbrev stX (t : Fin cfg0.N) : Memref sig .tc .vmem S1x1024x1024 .f32 := win0_0.stage (cfg0.slots t 0)
abbrev stA (t : Fin cfg0.N) : Memref sig .tc .vmem S1x2x512x512 .bf16 := win0_1.stage (cfg0.slots t 1)
abbrev stC (t : Fin cfg0.N) : Memref sig .tc .vmem S1x1024x512 .bf16 := win0_2.stage (cfg0.slots t 2)
abbrev stM (t : Fin cfg0.N) : Memref sig .tc .vmem S1x256x1024 .f32 := win0_3.stage (cfg0.slots t 3)
abbrev stH (t : Fin cfg0.N) : Memref sig .tc .vmem S1x1024 .f32 := win0_4.stage (cfg0.slots t 4)
abbrev stG (t : Fin cfg0.N) : Memref sig .tc .vmem S1x1024 .f32 := win0_5.stage (cfg0.slots t 5)
abbrev stO (t : Fin cfg0.N) : Memref sig .tc .vmem S1x1024x1024 .f32 := win0_6.stage (cfg0.slots t 6)

/-- The memory's keys and values, the resident weights (output, query, second output, key and value) and the four rings
    that their rows arrive in. -/
abbrev resV : Memref sig .tc .vmem S256x2048 .bf16 := Memref.whole cc0_scratch0
abbrev resO : Memref sig .tc .vmem S1024x1024 .bf16 := Memref.whole cc0_scratch1
abbrev resQ : Memref sig .tc .vmem S1024x1024 .bf16 := Memref.whole cc0_scratch2
abbrev resX : Memref sig .tc .vmem S1024x1024 .bf16 := Memref.whole cc0_scratch3
abbrev resK : Memref sig .tc .vmem S1024x2048 .bf16 := Memref.whole cc0_scratch4
abbrev ringO : Memref sig .tc .vmem S6x256x1024 .f32 := Memref.whole cc0_scoped0
abbrev ringQ : Memref sig .tc .vmem S6x256x1024 .f32 := Memref.whole cc0_scoped2
abbrev ringX : Memref sig .tc .vmem S6x256x1024 .f32 := Memref.whole cc0_scoped4
abbrev ringK : Memref sig .tc .vmem S6x128x2048 .f32 := Memref.whole cc0_scoped6

/-- The stacked weights, left in HBM. -/
abbrev hbO : Memref sig .tc .hbm S2x1024x1024 .f32 := Memref.whole main_arg5
abbrev hbQ : Memref sig .tc .hbm S2x1024x1024 .f32 := Memref.whole main_arg8
abbrev hbX : Memref sig .tc .hbm S2x1024x1024 .f32 := Memref.whole main_arg10
abbrev hbK : Memref sig .tc .hbm S2x1024x2048 .f32 := Memref.whole main_arg9

/-- The contents of a memref's buffer, and the buffer held whole at them. -/
abbrev BufOf (c : Dev nD) {sp : Space} {S : Shape} {e : EltTy} (M : Memref sig .tc sp S e) : Type := Buf (Elt F) (M.view.loc (c : Thread nD τ))
abbrev held (c : Dev nD) {sp : Space} {S : Shape} {e : EltTy} (M : Memref sig .tc sp S e) (f : BufOf (F := F) c M) : sProp 𝕄 :=
  M.view.loc (c : Thread nD τ) ↦{fullShare} f

/-- The semaphores of the four rings. -/
abbrev ringSem : Fin 24 → SemLoc sig := fun j => (![SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28, SemLoc.dma 29, SemLoc.dma 30, SemLoc.dma 31, SemLoc.dma 32, SemLoc.dma 33, SemLoc.dma 34, SemLoc.dma 35] : Fin 24 → SemLoc sig) j
theorem ringSem_facts : Pipeline.OwnSemFacts spec0 ringSem := by decide
/-- All of them at zero, one by one. -/
theorem ringSem_zero (c : Dev nD) :
    (Pipeline.ownSems0 (Ix := Unit) (Name := ℕ) (U := Pipeline.UD sig nD τ) (Lvl := ℕ) (Val := Elt F) (τ := τ) ringSem c : sProp 𝕄)
      = iprop(semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0) := by
  rw [Pipeline.ownSems0_eq_of_list c ringSem [0, 1, 2, 3, 4, 5, 6, 7, 8, 9, 10, 11, 12, 13, 14, 15, 16, 17, 18, 19, 20, 21, 22, 23] (by decide) (by decide)]; rfl

/-- The HBM arrays that the body reads itself. -/
def hbm : Finset (Ref sig .tc) := {main_arg5, main_arg8, main_arg10, main_arg9}
theorem hbm_sub : hbm ⊆ Pipeline.restRefs sig spec0 := by decide

variable (m : (ℓ : Loc nD τ sig) → Buf (Elt F) ℓ)

theorem hbm_pts (c : Dev nD) :
    (bigSep hbm (fun b => ((c : Thread nD τ).loc b) ↦{fullShare} V m c b) : sProp 𝕄) = iprop(held c hbO (V m c main_arg5) ∗ held c hbQ (V m c main_arg8) ∗ held c hbX (V m c main_arg10) ∗ held c hbK (V m c main_arg9)) := by
  rw [BI.bigSep_eq_bigSepL_of_eq [main_arg5, main_arg8, main_arg10, main_arg9] (by decide) (by decide)]; rfl

/-- What the launch hands the body between points, written out: scratch at some contents, the generator register, the
    semaphores at zero, the weights in HBM as launched. -/
theorem between_eq (c : Dev nD) :
    (Pipeline.ΦD ringSem spec0 hbm (V m) c : sProp 𝕄)
      = iprop(iprop((∃ d, owns (c : Thread nD τ) resV fullShare d) ∗ (∃ d, owns (c : Thread nD τ) resO fullShare d) ∗ (∃ d, owns (c : Thread nD τ) resQ fullShare d) ∗ (∃ d, owns (c : Thread nD τ) resX fullShare d) ∗ (∃ d, owns (c : Thread nD τ) resK fullShare d) ∗ (∃ d, owns (c : Thread nD τ) ringO fullShare d) ∗ (∃ d, owns (c : Thread nD τ) ringQ fullShare d) ∗ (∃ d, owns (c : Thread nD τ) ringX fullShare d) ∗ (∃ d, owns (c : Thread nD τ) ringK fullShare d)) ∗ (∃ r, prngReg c r) ∗ iprop(semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0)
        ∗ iprop(held c hbO (V m c main_arg5) ∗ held c hbQ (V m c main_arg8) ∗ held c hbX (V m c main_arg10) ∗ held c hbK (V m c main_arg9))) := by
  rw [Pipeline.ΦD_eq, scopedRest0_eq, ringSem_zero, hbm_pts]; simp only [resV, resO, resQ, resX, resK, ringO, ringQ, ringX, ringK, owns_whole]; try rfl

end Cert.Kernel3Ideal.Mix

end
-- ==== Proof.Body3.lean ====
/- The output call's body: what it makes of a tile, and its runs at the first point, at the first point of a batch entry and at the others. -/
module

public import proofs.«01_k».proof.Proof.Setup3
public import proofs.«01_k».proof.Proof.Tile
public import proofs.«01_k».proof.Proof.Gen.Kernel3Ideal.Skeleton

@[expose] public section

set_option maxRecDepth 16384

noncomputable section

namespace Cert.Kernel3Ideal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (Pipeline.UD sig nD τ) ℕ

/-- Keys and values of one memory, every head's side by side. -/
def kvOf (mem : Vec F S1x256x1024 .f32) (h : Vec F S1x1024 .f32) (wk : Vec F S1024x2048 .bf16) : Vec F S256x2048 .bf16 :=
  k0_pay24 mem h wk

/-- A tile after the output projection: the residual rows with the attention's part and the convolutions' part added. -/
def resid (x : Vec F S1x1024x1024 .f32) (a : Vec F S1x2x512x512 .bf16) (o : Vec F S1x1024x512 .bf16) (wo : Vec F S1024x1024 .bf16) : FVec F S1024x1024 .f32 :=
  k0_pay25 (Tile.part (Rect.unit (s := S1024x1024) ![0, 0] S512x1024.size inb_S1024x1024_S512x1024_0_0) wo)
    (Tile.part (Rect.unit (s := S1x2x512x512) ![0, 0, 0, 0] S1x1x512x512.size inb_S1x2x512x512_S1x1x512x512_0_0_0_0) a)
    (Tile.part (Rect.unit (s := S1x2x512x512) ![0, 1, 0, 0] S1x1x512x512.size inb_S1x2x512x512_S1x1x512x512_0_1_0_0) a) x o
    (Tile.part (Rect.unit (s := S1024x1024) ![512, 0] S512x1024.size inb_S1024x1024_S512x1024_512_0) wo)

/-- The tile's queries, every head's side by side. -/
def queries (x : FVec F S1024x1024 .f32) (g : Vec F S1x1024 .f32) (wq : Vec F S1024x1024 .bf16) : FVec F S1024x1024 .bf16 :=
  k0_pay28 x (k0_pay26 g) (mulf x x) wq

/-- What the body makes of a tile. -/
def tileOut (x : Vec F S1x1024x1024 .f32) (a : Vec F S1x2x512x512 .bf16) (o : Vec F S1x1024x512 .bf16) (g : Vec F S1x1024 .f32) (wo wq wx : Vec F S1024x1024 .bf16) (kv : Vec F S256x2048 .bf16) : Vec F S1x1024x1024 .f32 :=
  k0_pay1 (resid x a o wo)
    (k0_pay29 (resid x a o wo) (k0_pay26 g) (mulf (resid x a o wo) (resid x a o wo)) wq (Tile.part (Rect.unit (s := S256x2048) ![0, 0] S256x256.size inb_S256x2048_S256x256_0_0) kv) (Tile.part (Rect.unit (s := S256x2048) ![0, 1024] S256x256.size inb_S256x2048_S256x256_0_1024) kv))
    (k0_pay32 (k0_pay30 (resid x a o wo) (k0_pay26 g) (mulf (resid x a o wo) (resid x a o wo)) wq (Tile.part (Rect.unit (s := S256x2048) ![0, 256] S256x256.size inb_S256x2048_S256x256_0_256) kv))
      (k0_pay31 (resid x a o wo) (k0_pay26 g) (mulf (resid x a o wo) (resid x a o wo)) wq (Tile.part (Rect.unit (s := S256x2048) ![0, 256] S256x256.size inb_S256x2048_S256x256_0_256) kv))
      (Tile.part (Rect.unit (s := S256x2048) ![0, 1280] S256x256.size inb_S256x2048_S256x256_0_1280) kv))
    (k0_pay33 (queries (resid x a o wo) g wq) (Tile.part (Rect.unit (s := S256x2048) ![0, 512] S256x256.size inb_S256x2048_S256x256_0_512) kv) (Tile.part (Rect.unit (s := S256x2048) ![0, 1536] S256x256.size inb_S256x2048_S256x256_0_1536) kv))
    (k0_pay34 (queries (resid x a o wo) g wq) (Tile.part (Rect.unit (s := S256x2048) ![0, 768] S256x256.size inb_S256x2048_S256x256_0_768) kv))
    (k0_pay35 (queries (resid x a o wo) g wq) (Tile.part (Rect.unit (s := S256x2048) ![0, 768] S256x256.size inb_S256x2048_S256x256_0_768) kv))
    (Scalar.ofBits .f32 0x3F800000#32)
    (Tile.part (Rect.unit (s := S256x2048) ![0, 1792] S256x256.size inb_S256x2048_S256x256_0_1792) kv) wx

set_option maxHeartbeats 4000000 in
/-- The other points: weights, keys and values are resident, and the body writes the tile's result from them. -/
theorem keep_run (c : Dev nD) (i : grid0.Coords) (arg2 : Memref sig .tc .vmem S1x1024x1024 .f32) (harg2 : arg2.IsWhole) (arg3 : Memref sig .tc .vmem S1x2x512x512 .bf16) (harg3 : arg3.IsWhole) (arg4 : Memref sig .tc .vmem S1x1024x512 .bf16) (harg4 : arg4.IsWhole) (arg5 : Memref sig .tc .vmem S1x256x1024 .f32) (harg5 : arg5.IsWhole) (arg6 : Memref sig .tc .vmem S1x1024 .f32) (harg6 : arg6.IsWhole) (arg7 : Memref sig .tc .vmem S1x1024 .f32) (harg7 : arg7.IsWhole) (arg12 : Memref sig .tc .vmem S1x1024x1024 .f32) (harg12 : arg12.IsWhole) (arg13 : Memref sig .tc .vmem S256x2048 .bf16) (harg13 : arg13.IsWhole) (arg14 : Memref sig .tc .vmem S1024x1024 .bf16) (harg14 : arg14.IsWhole) (arg15 : Memref sig .tc .vmem S1024x1024 .bf16) (harg15 : arg15.IsWhole) (arg16 : Memref sig .tc .vmem S1024x1024 .bf16) (harg16 : arg16.IsWhole) (arg17 : Memref sig .tc .vmem S1024x2048 .bf16) (harg17 : arg17.IsWhole) (alloca_r0 : Memref sig .tc .vmem S6x256x1024 .f32) (halloca_r0 : alloca_r0.IsWhole) (alloca_r1 : Memref sig .tc .vmem S6x256x1024 .f32) (halloca_r1 : alloca_r1.IsWhole) (alloca_r2 : Memref sig .tc .vmem S6x256x1024 .f32) (halloca_r2 : alloca_r2.IsWhole) (alloca_r3 : Memref sig .tc .vmem S6x128x2048 .f32) (halloca_r3 : alloca_r3.IsWhole) (hc0 : ¬ atStart i) (hc1 : ¬ atBatch i)
    (x0 : Vec F S1x1024x1024 .f32) (x1 : Vec F S1x2x512x512 .bf16) (x2 : Vec F S1x1024x512 .bf16) (x3 : Vec F S1x256x1024 .f32) (x4 x5 : Vec F S1x1024 .f32) (w0 w1 w2 : Vec F S1024x1024 .bf16) (kv : Vec F S256x2048 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg12 fullShare d) ∗ owns (c : Thread nD τ) arg13 fullShare kv ∗ owns (c : Thread nD τ) arg14 fullShare w0 ∗ owns (c : Thread nD τ) arg15 fullShare w1 ∗ owns (c : Thread nD τ) arg16 fullShare w2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg12 fullShare (tileOut x0 x1 x2 x5 w0 w1 w2 kv) ∗ owns (c : Thread nD τ) arg13 fullShare kv ∗ owns (c : Thread nD τ) arg14 fullShare w0 ∗ owns (c : Thread nD τ) arg15 fullShare w1 ∗ owns (c : Thread nD τ) arg16 fullShare w2) -∗ K ⟨⟩))
      ⊢ wp frame (wpE (defs₀ (F := F)) Variants.none c none) Set.univ (cc0_mix_out i arg2 harg2 arg3 harg3 arg4 harg4 arg5 harg5 arg6 harg6 arg7 harg7 (Memref.whole main_arg5) (Memref.isWhole_whole _) (Memref.whole main_arg8) (Memref.isWhole_whole _) (Memref.whole main_arg10) (Memref.isWhole_whole _) (Memref.whole main_arg9) (Memref.isWhole_whole _) arg12 harg12 arg13 harg13 arg14 harg14 arg15 harg15 arg16 harg16 arg17 harg17 alloca_r0 halloca_r0 cc0_scoped1 alloca_r1 halloca_r1 cc0_scoped3 alloca_r2 halloca_r2 cc0_scoped5 alloca_r3 halloca_r3 cc0_scoped7) K := by
  simp only [cc0_mix_out_eq_skeleton]; unfold cc0_mix_out_skel
  simp only [k0_part14_eq_skeleton, k0_part15_eq_skeleton, k0_part16_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hs0, HS0⟩, ⟨%fs1, %hs1, HS1⟩, ⟨%fs2, %hs2, HS2⟩, ⟨%fs3, %hs3, HS3⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg13.eq_unread hs0; obtain rfl := harg14.eq_unread hs1; obtain rfl := harg15.eq_unread hs2; obtain rfl := harg16.eq_unread hs3
  sl_exec (disch := first | sl_exact hc0 | sl_exact hc1)
  sl_step
  delta keep_run.sl.r keep_run.sl.r_1 keep_run.sl.r_2 keep_run.sl.r_3 keep_run.sl.r_4 keep_run.sl.r_5 keep_run.sl.r_6 keep_run.sl.r_7 keep_run.sl.r_8 keep_run.sl.r_9 keep_run.sl.r_10 keep_run.sl.cst_57
  rw [Tile.readAt_full harg2 _ _ _ (by decide), Tile.readAt_full harg4 _ _ _ (by decide), Tile.readAt_full harg7 _ _ _ (by decide), Tile.readAt_full harg15 _ _ _ (by decide), Tile.readAt_full harg16 _ _ _ (by decide)]
  simp only [Tile.readAt_part harg3, Tile.readAt_part harg13, Tile.readAt_part harg14]
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [H6]
  · iexists _; isplitr; swap; · iexact H6
    ipureintro
    exact Tile.read_full arg12 f6 _ _ _ (by decide)
  isplitl [HS0]
  · iexists _; isplitr; swap; · iexact HS0
    ipureintro; exact harg13.read_unread _
  isplitl [HS1]
  · iexists _; isplitr; swap; · iexact HS1
    ipureintro; exact harg14.read_unread _
  isplitl [HS2]
  · iexists _; isplitr; swap; · iexact HS2
    ipureintro; exact harg15.read_unread _
  iexists _; isplitr; swap; · iexact HS3
  ipureintro; exact harg16.read_unread _

set_option maxHeartbeats 4000000 in
/-- The first point of a later batch entry: the body computes the entry's keys and values, then the tile's result. -/
theorem batch_run (c : Dev nD) (i : grid0.Coords) (arg2 : Memref sig .tc .vmem S1x1024x1024 .f32) (harg2 : arg2.IsWhole) (arg3 : Memref sig .tc .vmem S1x2x512x512 .bf16) (harg3 : arg3.IsWhole) (arg4 : Memref sig .tc .vmem S1x1024x512 .bf16) (harg4 : arg4.IsWhole) (arg5 : Memref sig .tc .vmem S1x256x1024 .f32) (harg5 : arg5.IsWhole) (arg6 : Memref sig .tc .vmem S1x1024 .f32) (harg6 : arg6.IsWhole) (arg7 : Memref sig .tc .vmem S1x1024 .f32) (harg7 : arg7.IsWhole) (arg12 : Memref sig .tc .vmem S1x1024x1024 .f32) (harg12 : arg12.IsWhole) (arg13 : Memref sig .tc .vmem S256x2048 .bf16) (harg13 : arg13.IsWhole) (arg14 : Memref sig .tc .vmem S1024x1024 .bf16) (harg14 : arg14.IsWhole) (arg15 : Memref sig .tc .vmem S1024x1024 .bf16) (harg15 : arg15.IsWhole) (arg16 : Memref sig .tc .vmem S1024x1024 .bf16) (harg16 : arg16.IsWhole) (arg17 : Memref sig .tc .vmem S1024x2048 .bf16) (harg17 : arg17.IsWhole) (alloca_r0 : Memref sig .tc .vmem S6x256x1024 .f32) (halloca_r0 : alloca_r0.IsWhole) (alloca_r1 : Memref sig .tc .vmem S6x256x1024 .f32) (halloca_r1 : alloca_r1.IsWhole) (alloca_r2 : Memref sig .tc .vmem S6x256x1024 .f32) (halloca_r2 : alloca_r2.IsWhole) (alloca_r3 : Memref sig .tc .vmem S6x128x2048 .f32) (halloca_r3 : alloca_r3.IsWhole) (hc0 : ¬ atStart i) (hc1 : atBatch i)
    (x0 : Vec F S1x1024x1024 .f32) (x1 : Vec F S1x2x512x512 .bf16) (x2 : Vec F S1x1024x512 .bf16) (x3 : Vec F S1x256x1024 .f32) (x4 x5 : Vec F S1x1024 .f32) (w0 w1 w2 : Vec F S1024x1024 .bf16) (w3 : Vec F S1024x2048 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg12 fullShare d) ∗ (∃ d, owns (c : Thread nD τ) arg13 fullShare d) ∗ owns (c : Thread nD τ) arg14 fullShare w0 ∗ owns (c : Thread nD τ) arg15 fullShare w1 ∗ owns (c : Thread nD τ) arg16 fullShare w2 ∗ owns (c : Thread nD τ) arg17 fullShare w3
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg12 fullShare (tileOut x0 x1 x2 x5 w0 w1 w2 (kvOf x3 x4 w3)) ∗ owns (c : Thread nD τ) arg13 fullShare (kvOf x3 x4 w3) ∗ owns (c : Thread nD τ) arg14 fullShare w0 ∗ owns (c : Thread nD τ) arg15 fullShare w1 ∗ owns (c : Thread nD τ) arg16 fullShare w2 ∗ owns (c : Thread nD τ) arg17 fullShare w3) -∗ K ⟨⟩))
      ⊢ wp frame (wpE (defs₀ (F := F)) Variants.none c none) Set.univ (cc0_mix_out i arg2 harg2 arg3 harg3 arg4 harg4 arg5 harg5 arg6 harg6 arg7 harg7 (Memref.whole main_arg5) (Memref.isWhole_whole _) (Memref.whole main_arg8) (Memref.isWhole_whole _) (Memref.whole main_arg10) (Memref.isWhole_whole _) (Memref.whole main_arg9) (Memref.isWhole_whole _) arg12 harg12 arg13 harg13 arg14 harg14 arg15 harg15 arg16 harg16 arg17 harg17 alloca_r0 halloca_r0 cc0_scoped1 alloca_r1 halloca_r1 cc0_scoped3 alloca_r2 halloca_r2 cc0_scoped5 alloca_r3 halloca_r3 cc0_scoped7) K := by
  simp only [cc0_mix_out_eq_skeleton]; unfold cc0_mix_out_skel
  simp only [k0_part14_eq_skeleton, k0_part15_eq_skeleton, k0_part16_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%fs1, %hs1, HS1⟩, ⟨%fs2, %hs2, HS2⟩, ⟨%fs3, %hs3, HS3⟩, ⟨%fs4, %hs4, HS4⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  obtain rfl := harg14.eq_unread hs1; obtain rfl := harg15.eq_unread hs2; obtain rfl := harg16.eq_unread hs3; obtain rfl := harg17.eq_unread hs4
  sl_exec (disch := first | sl_exact hc0 | sl_exact hc1)
  sl_step
  have hv : ∀ R : Rect S256x2048, arg13.view.readCov (batch_run.sl.HS0_1 c arg5 harg5 arg6 harg6 arg17 harg17 x3 x4 w3) R.toLoadRect = Tile.part R (kvOf x3 x4 w3) := by
    intro R
    delta batch_run.sl.HS0_1
    rw [Tile.readAt_full harg5 _ _ _ (by decide), Tile.readAt_full harg6 _ _ _ (by decide), Tile.readAt_full harg17 _ _ _ (by decide)]
    exact Tile.readCov_full _ _ _ (by decide) R
  delta batch_run.sl.r batch_run.sl.r_1 batch_run.sl.r_2 batch_run.sl.r_3 batch_run.sl.r_4 batch_run.sl.r_5 batch_run.sl.r_6 batch_run.sl.r_7 batch_run.sl.r_8 batch_run.sl.r_9 batch_run.sl.r_10 batch_run.sl.cst_57 batch_run.sl.v111 batch_run.sl.v45 batch_run.sl.v57 batch_run.sl.v63 batch_run.sl.v75 batch_run.sl.v81 batch_run.sl.v93 batch_run.sl.v99
  simp only [hv]
  delta batch_run.sl.HS0_1
  rw [Tile.readAt_full harg2 _ _ _ (by decide), Tile.readAt_full harg4 _ _ _ (by decide), Tile.readAt_full harg7 _ _ _ (by decide), Tile.readAt_full harg15 _ _ _ (by decide), Tile.readAt_full harg16 _ _ _ (by decide), Tile.readAt_full harg5 _ _ _ (by decide), Tile.readAt_full harg6 _ _ _ (by decide), Tile.readAt_full harg17 _ _ _ (by decide)]
  simp only [Tile.readAt_part harg3, Tile.readAt_part harg14]
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [H6]
  · iexists _; isplitr; swap; · iexact H6
    ipureintro
    exact Tile.read_full arg12 f6 _ _ _ (by decide)
  isplitl [HS0]
  · iexists _; isplitr; swap; · iexact HS0
    ipureintro
    exact Tile.read_full arg13 fs0 _ _ _ (by decide)
  isplitl [HS1]
  · iexists _; isplitr; swap; · iexact HS1
    ipureintro; exact harg14.read_unread _
  isplitl [HS2]
  · iexists _; isplitr; swap; · iexact HS2
    ipureintro; exact harg15.read_unread _
  isplitl [HS3]
  · iexists _; isplitr; swap; · iexact HS3
    ipureintro; exact harg16.read_unread _
  iexists _; isplitr; swap; · iexact HS4
  ipureintro; exact harg17.read_unread _

set_option maxHeartbeats 8000000 in set_option sl_exec.dmaWindow true in set_option sl_exec.dmaWindowSet true in
/-- The first point: the body streams the layer's weights through its rings into the resident scratch, computes the first
    entry's keys and values, then writes the tile's result. -/
theorem load_run (c : Dev nD) (i : grid0.Coords) (arg2 : Memref sig .tc .vmem S1x1024x1024 .f32) (harg2 : arg2.IsWhole) (arg3 : Memref sig .tc .vmem S1x2x512x512 .bf16) (harg3 : arg3.IsWhole) (arg4 : Memref sig .tc .vmem S1x1024x512 .bf16) (harg4 : arg4.IsWhole) (arg5 : Memref sig .tc .vmem S1x256x1024 .f32) (harg5 : arg5.IsWhole) (arg6 : Memref sig .tc .vmem S1x1024 .f32) (harg6 : arg6.IsWhole) (arg7 : Memref sig .tc .vmem S1x1024 .f32) (harg7 : arg7.IsWhole) (arg12 : Memref sig .tc .vmem S1x1024x1024 .f32) (harg12 : arg12.IsWhole) (arg13 : Memref sig .tc .vmem S256x2048 .bf16) (harg13 : arg13.IsWhole) (arg14 : Memref sig .tc .vmem S1024x1024 .bf16) (harg14 : arg14.IsWhole) (arg15 : Memref sig .tc .vmem S1024x1024 .bf16) (harg15 : arg15.IsWhole) (arg16 : Memref sig .tc .vmem S1024x1024 .bf16) (harg16 : arg16.IsWhole) (arg17 : Memref sig .tc .vmem S1024x2048 .bf16) (harg17 : arg17.IsWhole) (alloca_r0 : Memref sig .tc .vmem S6x256x1024 .f32) (halloca_r0 : alloca_r0.IsWhole) (alloca_r1 : Memref sig .tc .vmem S6x256x1024 .f32) (halloca_r1 : alloca_r1.IsWhole) (alloca_r2 : Memref sig .tc .vmem S6x256x1024 .f32) (halloca_r2 : alloca_r2.IsWhole) (alloca_r3 : Memref sig .tc .vmem S6x128x2048 .f32) (halloca_r3 : alloca_r3.IsWhole) (hc0 : atStart i) (hc1 : atBatch i)
    (x0 : Vec F S1x1024x1024 .f32) (x1 : Vec F S1x2x512x512 .bf16) (x2 : Vec F S1x1024x512 .bf16) (x3 : Vec F S1x256x1024 .f32) (x4 x5 : Vec F S1x1024 .f32) (fh0 : BufOf (F := F) c hbO) (fh1 : BufOf (F := F) c hbQ) (fh2 : BufOf (F := F) c hbX) (fh3 : BufOf (F := F) c hbK)
    (W : Waits sig Unit) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) alloca_r0 fullShare d) ∗ (∃ d, owns (c : Thread nD τ) alloca_r1 fullShare d) ∗ (∃ d, owns (c : Thread nD τ) alloca_r2 fullShare d) ∗ (∃ d, owns (c : Thread nD τ) alloca_r3 fullShare d) ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ held c hbO fh0 ∗ held c hbQ fh1 ∗ held c hbX fh2 ∗ held c hbK fh3 ∗ owes (c : Thread nD τ) 0 W
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg12 fullShare (tileOut x0 x1 x2 x5 (Tile.layerRows 0 (hbO.view.read (Elt F) fh0)) (Tile.layerRows 0 (hbQ.view.read (Elt F) fh1)) (Tile.layerRows 0 (hbX.view.read (Elt F) fh2)) (kvOf x3 x4 (Tile.layerRows 0 (hbK.view.read (Elt F) fh3)))) ∗ owns (c : Thread nD τ) arg13 fullShare (kvOf x3 x4 (Tile.layerRows 0 (hbK.view.read (Elt F) fh3))) ∗ owns (c : Thread nD τ) arg14 fullShare (Tile.layerRows 0 (hbO.view.read (Elt F) fh0)) ∗ owns (c : Thread nD τ) arg15 fullShare (Tile.layerRows 0 (hbQ.view.read (Elt F) fh1)) ∗ owns (c : Thread nD τ) arg16 fullShare (Tile.layerRows 0 (hbX.view.read (Elt F) fh2)) ∗ owns (c : Thread nD τ) arg17 fullShare (Tile.layerRows 0 (hbK.view.read (Elt F) fh3)) ∗ (∃ d, owns (c : Thread nD τ) alloca_r0 fullShare d) ∗ (∃ d, owns (c : Thread nD τ) alloca_r1 fullShare d) ∗ (∃ d, owns (c : Thread nD τ) alloca_r2 fullShare d) ∗ (∃ d, owns (c : Thread nD τ) alloca_r3 fullShare d) ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ held c hbO fh0 ∗ held c hbQ fh1 ∗ held c hbX fh2 ∗ held c hbK fh3 ∗ (∃ W', owes (c : Thread nD τ) 0 W')) -∗ K ⟨⟩))
      ⊢ wp frame (wpE (defs₀ (F := F)) Variants.none c none) Set.univ (cc0_mix_out i arg2 harg2 arg3 harg3 arg4 harg4 arg5 harg5 arg6 harg6 arg7 harg7 (Memref.whole main_arg5) (Memref.isWhole_whole _) (Memref.whole main_arg8) (Memref.isWhole_whole _) (Memref.whole main_arg10) (Memref.isWhole_whole _) (Memref.whole main_arg9) (Memref.isWhole_whole _) arg12 harg12 arg13 harg13 arg14 harg14 arg15 harg15 arg16 harg16 arg17 harg17 alloca_r0 halloca_r0 cc0_scoped1 alloca_r1 halloca_r1 cc0_scoped3 alloca_r2 halloca_r2 cc0_scoped5 alloca_r3 halloca_r3 cc0_scoped7) K := by
  simp only [cc0_mix_out_eq_skeleton]; unfold cc0_mix_out_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hh0, Hh1, Hh2, Hh3, HW, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | sl_exact hc0 | sl_exact hc1)
  sl_step
  have hO : ∀ p ∈ load_run.sl.HS1_4 c alloca_r0 fh0 fs5, ∀ x : p.1.shape.Idx, p.2 x = Tile.layerRows 0 (hbO.view.read (Elt F) fh0) (p.1.emb x) := by
    delta load_run.sl.HS1_4
    simp only [List.forall_mem_cons, List.not_mem_nil, false_implies, implies_true, _root_.and_true]
    refine ⟨?_, ?_, ?_, ?_⟩ <;> intro x
    all_goals
      delta load_run.sl.v154_r0 load_run.sl.v166_r0 load_run.sl.v178_r0 load_run.sl.v190_r0
      simp (disch := decide) only [k0_pay2, k0_pay3, k0_pay4, k0_pay5, shapeCast_self, Ring.slot_hit, Ring.slot_miss]
      refine Tile.layerRows_congr 0 _ _ x _ (Ring.stack_row hbO 0 _ _ _ _ fh0 x (Fin.cons (0 : Fin 2) _) rfl ?_ ?_)
      · exact congrArg _ (Nat.one_mul _)
      · exact (Nat.zero_add _).trans (Nat.one_mul _)
  have hOc : ∀ y : S1024x1024.Idx, ∃ p ∈ load_run.sl.HS1_4 c alloca_r0 fh0 fs5, y ∈ p.1.set := by
    refine View.cover_of_tiled _ S256x1024.size ?_
    delta load_run.sl.HS1_4
    rfl
  have hQ : ∀ p ∈ load_run.sl.HS2_4 c alloca_r1 fh1 fs6, ∀ x : p.1.shape.Idx, p.2 x = Tile.layerRows 0 (hbQ.view.read (Elt F) fh1) (p.1.emb x) := by
    delta load_run.sl.HS2_4 load_run.sl.r
    simp only [List.forall_mem_cons, List.not_mem_nil, false_implies, implies_true, _root_.and_true]
    refine ⟨?_, ?_, ?_, ?_⟩ <;> intro x
    all_goals
      delta load_run.sl.v154_r1 load_run.sl.v166_r1 load_run.sl.v178_r1 load_run.sl.v190_r1
      simp (disch := decide) only [k0_pay6, k0_pay7, k0_pay8, k0_pay9, k0_pay10, shapeCast_self, Ring.slot_hit, Ring.slot_miss]
      refine Tile.layerRows_congr 0 _ _ x _ (Ring.stack_row hbQ 0 _ _ _ _ fh1 x (Fin.cons (0 : Fin 2) _) rfl ?_ ?_)
      · exact congrArg _ (Nat.one_mul _)
      · exact (Nat.zero_add _).trans (Nat.one_mul _)
  have hQc : ∀ y : S1024x1024.Idx, ∃ p ∈ load_run.sl.HS2_4 c alloca_r1 fh1 fs6, y ∈ p.1.set := by
    refine View.cover_of_tiled _ S256x1024.size ?_
    delta load_run.sl.HS2_4
    rfl
  have hX : ∀ p ∈ load_run.sl.HS3_4 c alloca_r2 fh2 fs7, ∀ x : p.1.shape.Idx, p.2 x = Tile.layerRows 0 (hbX.view.read (Elt F) fh2) (p.1.emb x) := by
    delta load_run.sl.HS3_4
    simp only [List.forall_mem_cons, List.not_mem_nil, false_implies, implies_true, _root_.and_true]
    refine ⟨?_, ?_, ?_, ?_⟩ <;> intro x
    all_goals
      delta load_run.sl.v154_r2 load_run.sl.v load_run.sl.v178_r2 load_run.sl.v190_r2
      simp (disch := decide) only [k0_pay11, k0_pay12, k0_pay13, k0_pay14, shapeCast_self, Ring.slot_hit, Ring.slot_miss]
      refine Tile.layerRows_congr 0 _ _ x _ (Ring.stack_row hbX 0 _ _ _ _ fh2 x (Fin.cons (0 : Fin 2) _) rfl ?_ ?_)
      · exact congrArg _ (Nat.one_mul _)
      · exact (Nat.zero_add _).trans (Nat.one_mul _)
  have hXc : ∀ y : S1024x1024.Idx, ∃ p ∈ load_run.sl.HS3_4 c alloca_r2 fh2 fs7, y ∈ p.1.set := by
    refine View.cover_of_tiled _ S256x1024.size ?_
    delta load_run.sl.HS3_4
    rfl
  have hK : ∀ p ∈ load_run.sl.HS4_8 c alloca_r3 fh3 fs8, ∀ x : p.1.shape.Idx, p.2 x = Tile.layerRows 0 (hbK.view.read (Elt F) fh3) (p.1.emb x) := by
    delta load_run.sl.HS4_8 load_run.sl.r_1
    simp only [List.forall_mem_cons, List.not_mem_nil, false_implies, implies_true, _root_.and_true]
    refine ⟨?_, ?_, ?_, ?_, ?_, ?_, ?_, ?_⟩ <;> intro x
    all_goals
      delta load_run.sl.v166_r3 load_run.sl.v184_r3 load_run.sl.v202_r3 load_run.sl.v214_r3 load_run.sl.v226_r3 load_run.sl.v238_r3 load_run.sl.v250_r3 load_run.sl.v262_r3
      simp (disch := decide) only [k0_pay15, k0_pay16, k0_pay17, k0_pay18, k0_pay19, k0_pay20, k0_pay21, k0_pay22, k0_pay23, shapeCast_self, Ring.slot_hit, Ring.slot_miss]
      refine Tile.layerRows_congr 0 _ _ x _ (Ring.stack_row hbK 0 _ _ _ _ fh3 x (Fin.cons (0 : Fin 2) _) rfl ?_ ?_)
      · exact congrArg _ (Nat.one_mul _)
      · exact (Nat.zero_add _).trans (Nat.one_mul _)
  have hKc : ∀ y : S1024x2048.Idx, ∃ p ∈ load_run.sl.HS4_8 c alloca_r3 fh3 fs8, y ∈ p.1.set := by
    refine View.cover_of_tiled _ S128x2048.size ?_
    delta load_run.sl.HS4_8
    rfl
  have eO : ∀ R : Rect S1024x1024, arg14.view.readCov (load_run.sl.HS1_4 c alloca_r0 fh0 fs5) R.toLoadRect = Tile.part R (Tile.layerRows 0 (hbO.view.read (Elt F) fh0)) :=
    Tile.readCov_part _ _ hO hOc
  have eQ : arg15.view.readCov (load_run.sl.HS2_4 c alloca_r1 fh1 fs6) (Rect.unit (s := S1024x1024) ![0, 0] S1024x1024.size inb_S1024x1024_S1024x1024_0_0).toLoadRect = Tile.layerRows 0 (hbQ.view.read (Elt F) fh1) :=
    (Tile.readCov_part _ _ hQ hQc _).trans (Tile.part_full _ _ (by decide) _)
  have eX : arg16.view.readCov (load_run.sl.HS3_4 c alloca_r2 fh2 fs7) (Rect.unit (s := S1024x1024) ![0, 0] S1024x1024.size inb_S1024x1024_S1024x1024_0_0).toLoadRect = Tile.layerRows 0 (hbX.view.read (Elt F) fh2) :=
    (Tile.readCov_part _ _ hX hXc _).trans (Tile.part_full _ _ (by decide) _)
  have eK : arg17.view.readCov (load_run.sl.HS4_8 c alloca_r3 fh3 fs8) (Rect.unit (s := S1024x2048) ![0, 0] S1024x2048.size inb_S1024x2048_S1024x2048_0_0).toLoadRect = Tile.layerRows 0 (hbK.view.read (Elt F) fh3) :=
    (Tile.readCov_part _ _ hK hKc _).trans (Tile.part_full _ _ (by decide) _)
  have eL : load_run.sl.HS0_1 c arg5 harg5 arg6 harg6 arg17 alloca_r3 x3 x4 fh3 fs8 = [⟨Rect.unit (s := S256x2048) ![0, 0] S256x2048.size inb_S256x2048_S256x2048_0_0, kvOf x3 x4 (Tile.layerRows 0 (hbK.view.read (Elt F) fh3))⟩] := by
    delta load_run.sl.HS0_1 load_run.sl.v140
    rw [Tile.readAt_full harg5 _ _ _ (by decide), Tile.readAt_full harg6 _ _ _ (by decide), eK]
    rfl
  have hv : ∀ R : Rect S256x2048, arg13.view.readCov (load_run.sl.HS0_1 c arg5 harg5 arg6 harg6 arg17 alloca_r3 x3 x4 fh3 fs8) R.toLoadRect = Tile.part R (kvOf x3 x4 (Tile.layerRows 0 (hbK.view.read (Elt F) fh3))) := by
    intro R
    rw [eL]
    exact Tile.readCov_full _ _ _ (by decide) R
  delta load_run.sl.r_2 load_run.sl.r_3 load_run.sl.r_4 load_run.sl.r_5 load_run.sl.r_6 load_run.sl.r_7 load_run.sl.r_8 load_run.sl.r_9 load_run.sl.r_10 load_run.sl.r_11 load_run.sl.r_12 load_run.sl.cst_57 load_run.sl.v111 load_run.sl.v45 load_run.sl.v57 load_run.sl.v63 load_run.sl.v75 load_run.sl.v81 load_run.sl.v93 load_run.sl.v99 load_run.sl.v117 load_run.sl.v39 load_run.sl.v8 load_run.sl.v21
  simp only [hv]
  rw [eQ, eX, eL, Tile.readAt_full harg2 _ _ _ (by decide), Tile.readAt_full harg4 _ _ _ (by decide), Tile.readAt_full harg7 _ _ _ (by decide)]
  simp only [Tile.readAt_part harg3, eO]
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [H6]
  · iexists _; isplitr; swap; · iexact H6
    ipureintro
    exact Tile.read_full arg12 f6 _ _ _ (by decide)
  isplitl [HS0]
  · iexists _; isplitr; swap; · iexact HS0
    ipureintro
    exact Tile.read_full arg13 fs0 _ _ _ (by decide)
  isplitl [HS1]
  · iexists _; isplitr; swap; · iexact HS1
    ipureintro; funext y; exact View.read_writes_apply_of_pieces _ _ _ _ hO y (hOc y)
  isplitl [HS2]
  · iexists _; isplitr; swap; · iexact HS2
    ipureintro; funext y; exact View.read_writes_apply_of_pieces _ _ _ _ hQ y (hQc y)
  isplitl [HS3]
  · iexists _; isplitr; swap; · iexact HS3
    ipureintro; funext y; exact View.read_writes_apply_of_pieces _ _ _ _ hX y (hXc y)
  isplitl [HS4]
  · iexists _; isplitr; swap; · iexact HS4
    ipureintro; funext y; exact View.read_writes_apply_of_pieces _ _ _ _ hK y (hKc y)
  isplitl [HS5]
  · iexists _, _; isplitr; swap; · iexact HS5
    ipureintro; rfl
  isplitl [HS6]
  · iexists _, _; isplitr; swap; · iexact HS6
    ipureintro; rfl
  isplitl [HS7]
  · iexists _, _; isplitr; swap; · iexact HS7
    ipureintro; rfl
  isplitl [HS8]
  · iexists _, _; isplitr; swap; · iexact HS8
    ipureintro; rfl
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  isplitl [Hq23]; · iexact Hq23
  isplitl [Hh0]; · iexact Hh0
  isplitl [Hh1]; · iexact Hh1
  isplitl [Hh2]; · iexact Hh2
  isplitl [Hh3]; · iexact Hh3
  iexists _; iexact HW

end Cert.Kernel3Ideal.Mix

end
-- ==== Proof.Run3.lean ====
/- The output call's run: what the launch passes from point to point, and what the arrays hold at the end. -/
module

public import proofs.«01_k».proof.Proof.Body3
public import proofs.«01_k».proof.Proof.Gen.Kernel3Ideal.Points
public import Idealize.ShloMosaic.Lib.Pipeline.FrameBody

@[expose] public section

set_option maxRecDepth 16384

noncomputable section

namespace Cert.Kernel3Ideal.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The layer's weights as the first point leaves them in the resident scratch. -/
def wO (c : Dev nD) : Vec F S1024x1024 .bf16 := Tile.layerRows 0 (hbO.view.read (Elt F) (V m c main_arg5))
def wQ (c : Dev nD) : Vec F S1024x1024 .bf16 := Tile.layerRows 0 (hbQ.view.read (Elt F) (V m c main_arg8))
def wX (c : Dev nD) : Vec F S1024x1024 .bf16 := Tile.layerRows 0 (hbX.view.read (Elt F) (V m c main_arg10))
def wK (c : Dev nD) : Vec F S1024x2048 .bf16 := Tile.layerRows 0 (hbK.view.read (Elt F) (V m c main_arg9))

/-- The memory's keys and values at point `t`. -/
def kvAt (c : Dev nD) (t : Fin cfg0.N) : Vec F S256x2048 .bf16 := kvOf (iblk m c 3 t) (iblk m c 4 t) (wK m c)

/-- The memory's window moves with the batch entry, its gains' window not at all. -/
theorem index_m : ∀ t : Fin cfg0.N, win0_3.index t 0 = t.val / 4 ∧ win0_3.index t 1 = 0 ∧ win0_3.index t 2 = 0 := by decide +kernel
theorem index_h : ∀ t : Fin cfg0.N, win0_4.index t 0 = 0 ∧ win0_4.index t 1 = 0 := by decide +kernel

/-- Two points of one batch entry have the same keys and values. -/
theorem kvAt_eq (c : Dev nD) (t t' : Fin cfg0.N) (h : t.val / 4 = t'.val / 4) : kvAt m c t = kvAt m c t' := by
  have e3 : (iblk m c 3 t : Vec F S1x256x1024 .f32) = iblk m c 3 t' := by
    funext z
    show (V m c main_arg4 : Vec F S4x256x1024 .f32) _ = (V m c main_arg4 : Vec F S4x256x1024 .f32) _
    refine congrArg (V m c main_arg4 : Vec F S4x256x1024 .f32) (funext fun a => Fin.ext ?_)
    fin_cases a
    · show win0_3.index t 0 * 1 + 1 * (z 0).val = win0_3.index t' 0 * 1 + 1 * (z 0).val
      rw [(index_m t).1, (index_m t').1, h]
    · show win0_3.index t 1 * 256 + 1 * (z 1).val = win0_3.index t' 1 * 256 + 1 * (z 1).val
      rw [(index_m t).2.1, (index_m t').2.1]
    · show win0_3.index t 2 * 1024 + 1 * (z 2).val = win0_3.index t' 2 * 1024 + 1 * (z 2).val
      rw [(index_m t).2.2, (index_m t').2.2]
  have e4 : (iblk m c 4 t : Vec F S1x1024 .f32) = iblk m c 4 t' := by
    funext z
    show (V m c main_v7 : Vec F S1x1024 .f32) _ = (V m c main_v7 : Vec F S1x1024 .f32) _
    refine congrArg (V m c main_v7 : Vec F S1x1024 .f32) (funext fun a => Fin.ext ?_)
    fin_cases a
    · show win0_4.index t 0 * 1 + 1 * (z 0).val = win0_4.index t' 0 * 1 + 1 * (z 0).val
      rw [(index_h t).1, (index_h t').1]
    · show win0_4.index t 1 * 1024 + 1 * (z 1).val = win0_4.index t' 1 * 1024 + 1 * (z 1).val
      rw [(index_h t).2, (index_h t').2]
  unfold kvAt
  rw [e3, e4]

/-- The keys and values of a point serve the next one unless a new entry starts there. -/
theorem kv_next (c : Dev nD) (t : Fin cfg0.N) : ∀ h : t.val + 1 < cfg0.N, (t.val + 1) % 4 ≠ 0 → kvAt m c t = kvAt m c ⟨t.val + 1, h⟩ :=
  fun _ hn => kvAt_eq m c _ _ (by show t.val / 4 = (t.val + 1) / 4; omega)

/-- Tile `t` of the result. -/
def outTile (c : Dev nD) (t : Fin cfg0.N) : Vec F S1x1024x1024 .f32 :=
  tileOut (iblk m c 0 t) (iblk m c 1 t) (iblk m c 2 t) (iblk m c 5 t) (wO m c) (wQ m c) (wX m c) (kvAt m c t)

/-- What stands between points `t - 1` and `t`: the resident weights once the first point has run, and the keys and values
    of the batch entry that the two points share. -/
def between (c : Dev nD) (t : ℕ) : sProp 𝕄 :=
  iprop(iprop((∃ d, iprop(⌜∀ h : t < cfg0.N, t % 4 ≠ 0 → d = kvAt m c ⟨t, h⟩⌝ ∗ owns (c : Thread nD τ) resV fullShare d)) ∗ (∃ d, iprop(⌜0 < t → d = wO m c⌝ ∗ owns (c : Thread nD τ) resO fullShare d)) ∗ (∃ d, iprop(⌜0 < t → d = wQ m c⌝ ∗ owns (c : Thread nD τ) resQ fullShare d)) ∗ (∃ d, iprop(⌜0 < t → d = wX m c⌝ ∗ owns (c : Thread nD τ) resX fullShare d)) ∗ (∃ d, iprop(⌜0 < t → d = wK m c⌝ ∗ owns (c : Thread nD τ) resK fullShare d)) ∗ (∃ d, owns (c : Thread nD τ) ringO fullShare d) ∗ (∃ d, owns (c : Thread nD τ) ringQ fullShare d) ∗ (∃ d, owns (c : Thread nD τ) ringX fullShare d) ∗ (∃ d, owns (c : Thread nD τ) ringK fullShare d)) ∗ (∃ r, prngReg c r) ∗ iprop(semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0)
        ∗ iprop(held c hbO (V m c main_arg5) ∗ held c hbQ (V m c main_arg8) ∗ held c hbX (V m c main_arg10) ∗ held c hbK (V m c main_arg9)))

/-- The proof data: the arrays as the region finds them; after each point every input at its block and the result at its tile. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outTile m c t
  Φ t := between m c t.val
  q _ := fullShare
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outTile m c t := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

/-- What the body is called with at point `t`, and what it hands back. -/
def pre (c : Dev nD) (t : Fin cfg0.N) : sProp 𝕄 :=
  iprop((dats m 0 c).Φ t.castSucc ∗ (dats m 0 c).owesAt () t.castSucc
    ∗ (∃ d, owns (c : Thread nD τ) (stX t) fullShare ((dats m 0 c).before 0 t d))
    ∗ (∃ d, owns (c : Thread nD τ) (stA t) fullShare ((dats m 0 c).before 1 t d))
    ∗ (∃ d, owns (c : Thread nD τ) (stC t) fullShare ((dats m 0 c).before 2 t d))
    ∗ (∃ d, owns (c : Thread nD τ) (stM t) fullShare ((dats m 0 c).before 3 t d))
    ∗ (∃ d, owns (c : Thread nD τ) (stH t) fullShare ((dats m 0 c).before 4 t d))
    ∗ (∃ d, owns (c : Thread nD τ) (stG t) fullShare ((dats m 0 c).before 5 t d))
    ∗ (∃ d, owns (c : Thread nD τ) (stO t) fullShare ((dats m 0 c).before 6 t d)))
def post (c : Dev nD) (t : Fin cfg0.N) : sProp 𝕄 :=
  iprop((dats m 0 c).Φ t.succ ∗ (dats m 0 c).owesAt () t.succ
    ∗ owns (c : Thread nD τ) (stX t) fullShare ((dats m 0 c).after 0 t)
    ∗ owns (c : Thread nD τ) (stA t) fullShare ((dats m 0 c).after 1 t)
    ∗ owns (c : Thread nD τ) (stC t) fullShare ((dats m 0 c).after 2 t)
    ∗ owns (c : Thread nD τ) (stM t) fullShare ((dats m 0 c).after 3 t)
    ∗ owns (c : Thread nD τ) (stH t) fullShare ((dats m 0 c).after 4 t)
    ∗ owns (c : Thread nD τ) (stG t) fullShare ((dats m 0 c).after 5 t)
    ∗ owns (c : Thread nD τ) (stO t) fullShare ((dats m 0 c).after 6 t))

set_option maxHeartbeats 3200000 in
/-- The body at any point: the first loads the weights, the first of a batch entry makes its keys and values, a later one finds all of them. -/
theorem sound (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4, before_5]
  rw [show (dats m 0 c).Φ t.castSucc = between m c t.val from rfl, show (dats m 0 c).Φ t.succ = between m c (t.val + 1) from rfl,
    after_0, after_1, after_2, after_3, after_4, after_5, after_6]
  unfold between Dat.owesAt Pipeline.owesWithin
  rw [show (dats m 0 c).owed t.castSucc = 0 from rfl, show (dats m 0 c).owed t.succ = 0 from rfl]
  by_cases h0 : t.val = 0
  · iintro ⟨⟨⟨⟨%e0, -, HS0⟩, ⟨%e1, -, HS1⟩, ⟨%e2, -, HS2⟩, ⟨%e3, -, HS3⟩, ⟨%e4, -, HS4⟩, HS5, HS6, HS7, HS8⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23⟩, ⟨Hh0, Hh1, Hh2, Hh3⟩⟩, ⟨%W', -, HW⟩, ⟨%d0, H0⟩, ⟨%d1, H1⟩, ⟨%d2, H2⟩, ⟨%d3, H3⟩, ⟨%d4, H4⟩, ⟨%d5, H5⟩, ⟨%d6, H6⟩⟩
    iapply (load_run c (grid0.coords t) _ _ _ _ _ _ _ _ _ _ _ _ _ _ _ _ _ _ _ _ _ _ _ _ _ _ _ _ _ _ _ _ ((atStart_iff t).mpr h0) ((atBatch_iff t).mpr (by rw [h0])) (iblk m c 0 t) (iblk m c 1 t) (iblk m c 2 t) (iblk m c 3 t) (iblk m c 4 t) (iblk m c 5 t) (V m c main_arg5) (V m c main_arg8) (V m c main_arg10) (V m c main_arg9) _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexact HS5
    isplitl [HS6]; · iexact HS6
    isplitl [HS7]; · iexact HS7
    isplitl [HS8]; · iexact HS8
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hh0]; · iexact Hh0
    isplitl [Hh1]; · iexact Hh1
    isplitl [Hh2]; · iexact Hh2
    isplitl [Hh3]; · iexact Hh3
    isplitl [HW]; · iexact HW
    iintro ⟨H0, H1, H2, H3, H4, H5, H6, HS0, HS1, HS2, HS3, HS4, HS5, HS6, HS7, HS8, Hq0, Hq1, Hq2, Hq3, Hq4, Hq5, Hq6, Hq7, Hq8, Hq9, Hq10, Hq11, Hq12, Hq13, Hq14, Hq15, Hq16, Hq17, Hq18, Hq19, Hq20, Hq21, Hq22, Hq23, Hh0, Hh1, Hh2, Hh3, ⟨%W', HW⟩⟩
    isplitl [HS0 HS1 HS2 HS3 HS4 HS5 HS6 HS7 HS8 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hh0 Hh1 Hh2 Hh3]
    · isplitl [HS0 HS1 HS2 HS3 HS4 HS5 HS6 HS7 HS8]
      · isplitl [HS0]
        · iexists _; isplitr; swap; · iexact HS0
          ipureintro; exact kv_next m c t
        isplitl [HS1]
        · iexists _; isplitr; swap; · iexact HS1
          ipureintro; exact fun _ => rfl
        isplitl [HS2]
        · iexists _; isplitr; swap; · iexact HS2
          ipureintro; exact fun _ => rfl
        isplitl [HS3]
        · iexists _; isplitr; swap; · iexact HS3
          ipureintro; exact fun _ => rfl
        isplitl [HS4]
        · iexists _; isplitr; swap; · iexact HS4
          ipureintro; exact fun _ => rfl
        isplitl [HS5]; · iexact HS5
        isplitl [HS6]; · iexact HS6
        isplitl [HS7]; · iexact HS7
        iexact HS8
      isplitl [Hg]; · iexact Hg
      isplitl [Hq0 Hq1 Hq2 Hq3 Hq4 Hq5 Hq6 Hq7 Hq8 Hq9 Hq10 Hq11 Hq12 Hq13 Hq14 Hq15 Hq16 Hq17 Hq18 Hq19 Hq20 Hq21 Hq22 Hq23]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        isplitl [Hq11]; · iexact Hq11
        isplitl [Hq12]; · iexact Hq12
        isplitl [Hq13]; · iexact Hq13
        isplitl [Hq14]; · iexact Hq14
        isplitl [Hq15]; · iexact Hq15
        isplitl [Hq16]; · iexact Hq16
        isplitl [Hq17]; · iexact Hq17
        isplitl [Hq18]; · iexact Hq18
        isplitl [Hq19]; · iexact Hq19
        isplitl [Hq20]; · iexact Hq20
        isplitl [Hq21]; · iexact Hq21
        isplitl [Hq22]; · iexact Hq22
        iexact Hq23
      isplitl [Hh0]; · iexact Hh0
      isplitl [Hh1]; · iexact Hh1
      isplitl [Hh2]; · iexact Hh2
      iexact Hh3
    isplitl [HW]
    · iexists W'; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    iexact H6
  have hpos : 0 < t.val := Nat.pos_of_ne_zero h0
  by_cases h1 : t.val % 4 = 0
  · iintro ⟨⟨⟨⟨%e0, -, HS0⟩, ⟨%e1, %he1, HS1⟩, ⟨%e2, %he2, HS2⟩, ⟨%e3, %he3, HS3⟩, ⟨%e4, %he4, HS4⟩, HS5, HS6, HS7, HS8⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23⟩, ⟨Hh0, Hh1, Hh2, Hh3⟩⟩, ⟨%W', -, HW⟩, ⟨%d0, H0⟩, ⟨%d1, H1⟩, ⟨%d2, H2⟩, ⟨%d3, H3⟩, ⟨%d4, H4⟩, ⟨%d5, H5⟩, ⟨%d6, H6⟩⟩
    obtain rfl := he1 hpos; obtain rfl := he2 hpos; obtain rfl := he3 hpos; obtain rfl := he4 hpos
    iapply (batch_run c (grid0.coords t) _ _ _ _ _ _ _ _ _ _ _ _ _ _ _ _ _ _ _ _ _ _ _ _ _ _ _ _ _ _ _ _ (fun h => h0 ((atStart_iff t).mp h)) ((atBatch_iff t).mpr h1) (iblk m c 0 t) (iblk m c 1 t) (iblk m c 2 t) (iblk m c 3 t) (iblk m c 4 t) (iblk m c 5 t) (wO m c) (wQ m c) (wX m c) (wK m c) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexists _; iexact HS0
    isplitl [HS1]; · iexact HS1
    isplitl [HS2]; · iexact HS2
    isplitl [HS3]; · iexact HS3
    isplitl [HS4]; · iexact HS4
    iintro ⟨H0, H1, H2, H3, H4, H5, H6, HS0, HS1, HS2, HS3, HS4⟩
    isplitl [HS0 HS1 HS2 HS3 HS4 HS5 HS6 HS7 HS8 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hh0 Hh1 Hh2 Hh3]
    · isplitl [HS0 HS1 HS2 HS3 HS4 HS5 HS6 HS7 HS8]
      · isplitl [HS0]
        · iexists _; isplitr; swap; · iexact HS0
          ipureintro; exact kv_next m c t
        isplitl [HS1]
        · iexists _; isplitr; swap; · iexact HS1
          ipureintro; exact fun _ => rfl
        isplitl [HS2]
        · iexists _; isplitr; swap; · iexact HS2
          ipureintro; exact fun _ => rfl
        isplitl [HS3]
        · iexists _; isplitr; swap; · iexact HS3
          ipureintro; exact fun _ => rfl
        isplitl [HS4]
        · iexists _; isplitr; swap; · iexact HS4
          ipureintro; exact fun _ => rfl
        isplitl [HS5]; · iexact HS5
        isplitl [HS6]; · iexact HS6
        isplitl [HS7]; · iexact HS7
        iexact HS8
      isplitl [Hg]; · iexact Hg
      isplitl [Hq0 Hq1 Hq2 Hq3 Hq4 Hq5 Hq6 Hq7 Hq8 Hq9 Hq10 Hq11 Hq12 Hq13 Hq14 Hq15 Hq16 Hq17 Hq18 Hq19 Hq20 Hq21 Hq22 Hq23]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        isplitl [Hq11]; · iexact Hq11
        isplitl [Hq12]; · iexact Hq12
        isplitl [Hq13]; · iexact Hq13
        isplitl [Hq14]; · iexact Hq14
        isplitl [Hq15]; · iexact Hq15
        isplitl [Hq16]; · iexact Hq16
        isplitl [Hq17]; · iexact Hq17
        isplitl [Hq18]; · iexact Hq18
        isplitl [Hq19]; · iexact Hq19
        isplitl [Hq20]; · iexact Hq20
        isplitl [Hq21]; · iexact Hq21
        isplitl [Hq22]; · iexact Hq22
        iexact Hq23
      isplitl [Hh0]; · iexact Hh0
      isplitl [Hh1]; · iexact Hh1
      isplitl [Hh2]; · iexact Hh2
      iexact Hh3
    isplitl [HW]
    · iexists W'; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    iexact H6
  · iintro ⟨⟨⟨⟨%e0, %he0, HS0⟩, ⟨%e1, %he1, HS1⟩, ⟨%e2, %he2, HS2⟩, ⟨%e3, %he3, HS3⟩, ⟨%e4, %he4, HS4⟩, HS5, HS6, HS7, HS8⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23⟩, ⟨Hh0, Hh1, Hh2, Hh3⟩⟩, ⟨%W', -, HW⟩, ⟨%d0, H0⟩, ⟨%d1, H1⟩, ⟨%d2, H2⟩, ⟨%d3, H3⟩, ⟨%d4, H4⟩, ⟨%d5, H5⟩, ⟨%d6, H6⟩⟩
    obtain rfl := he0 t.isLt h1; obtain rfl := he1 hpos; obtain rfl := he2 hpos; obtain rfl := he3 hpos; obtain rfl := he4 hpos
    iapply (keep_run c (grid0.coords t) _ _ _ _ _ _ _ _ _ _ _ _ _ _ _ _ _ _ _ _ _ _ _ _ _ _ _ _ _ _ _ _ (fun h => h0 ((atStart_iff t).mp h)) (fun h => h1 ((atBatch_iff t).mp h)) (iblk m c 0 t) (iblk m c 1 t) (iblk m c 2 t) (iblk m c 3 t) (iblk m c 4 t) (iblk m c 5 t) (wO m c) (wQ m c) (wX m c) (kvAt m c t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HS3]; · iexact HS3
    iintro ⟨H0, H1, H2, H3, H4, H5, H6, HS0, HS1, HS2, HS3⟩
    isplitl [HS0 HS1 HS2 HS3 HS4 HS5 HS6 HS7 HS8 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hh0 Hh1 Hh2 Hh3]
    · isplitl [HS0 HS1 HS2 HS3 HS4 HS5 HS6 HS7 HS8]
      · isplitl [HS0]
        · iexists _; isplitr; swap; · iexact HS0
          ipureintro; exact kv_next m c t
        isplitl [HS1]
        · iexists _; isplitr; swap; · iexact HS1
          ipureintro; exact fun _ => rfl
        isplitl [HS2]
        · iexists _; isplitr; swap; · iexact HS2
          ipureintro; exact fun _ => rfl
        isplitl [HS3]
        · iexists _; isplitr; swap; · iexact HS3
          ipureintro; exact fun _ => rfl
        isplitl [HS4]
        · iexists _; isplitr; swap; · iexact HS4
          ipureintro; exact fun _ => rfl
        isplitl [HS5]; · iexact HS5
        isplitl [HS6]; · iexact HS6
        isplitl [HS7]; · iexact HS7
        iexact HS8
      isplitl [Hg]; · iexact Hg
      isplitl [Hq0 Hq1 Hq2 Hq3 Hq4 Hq5 Hq6 Hq7 Hq8 Hq9 Hq10 Hq11 Hq12 Hq13 Hq14 Hq15 Hq16 Hq17 Hq18 Hq19 Hq20 Hq21 Hq22 Hq23]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        isplitl [Hq11]; · iexact Hq11
        isplitl [Hq12]; · iexact Hq12
        isplitl [Hq13]; · iexact Hq13
        isplitl [Hq14]; · iexact Hq14
        isplitl [Hq15]; · iexact Hq15
        isplitl [Hq16]; · iexact Hq16
        isplitl [Hq17]; · iexact Hq17
        isplitl [Hq18]; · iexact Hq18
        isplitl [Hq19]; · iexact Hq19
        isplitl [Hq20]; · iexact Hq20
        isplitl [Hq21]; · iexact Hq21
        isplitl [Hq22]; · iexact Hq22
        iexact Hq23
      isplitl [Hh0]; · iexact Hh0
      isplitl [Hh1]; · iexact Hh1
      isplitl [Hh2]; · iexact Hh2
      iexact Hh3
    isplitl [HW]
    · iexists W'; isplitr; · ipureintro; exact fun _ _ => Or.inl trivial
      iexact HW
    isplitl [H0]; · iexact H0
    isplitl [H1]; · iexact H1
    isplitl [H2]; · iexact H2
    isplitl [H3]; · iexact H3
    isplitl [H4]; · iexact H4
    isplitl [H5]; · iexact H5
    iexact H6

/-- The body table's row at point `t`'s slots is the body at the point's buffers. -/
theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (sound m c t) rfl .rfl fun _ => .rfl

/-- What the launch hands over is what stands before the first point, -/
theorem enter (c : Dev nD) : Pipeline.ΦD ringSem spec0 hbm (V m) c ⊢ between m c 0 := by
  rw [between_eq]; unfold between
  iintro ⟨⟨⟨%e0, HS0⟩, ⟨%e1, HS1⟩, ⟨%e2, HS2⟩, ⟨%e3, HS3⟩, ⟨%e4, HS4⟩, HS5, HS6, HS7, HS8⟩, Hr⟩
  isplitr [Hr]; swap; · iexact Hr
  isplitl [HS0]
  · iexists _; isplitr; swap; · iexact HS0
    ipureintro; exact fun _ h => absurd rfl h
  isplitl [HS1]
  · iexists _; isplitr; swap; · iexact HS1
    ipureintro; exact fun h => absurd h (lt_irrefl 0)
  isplitl [HS2]
  · iexists _; isplitr; swap; · iexact HS2
    ipureintro; exact fun h => absurd h (lt_irrefl 0)
  isplitl [HS3]
  · iexists _; isplitr; swap; · iexact HS3
    ipureintro; exact fun h => absurd h (lt_irrefl 0)
  isplitl [HS4]
  · iexists _; isplitr; swap; · iexact HS4
    ipureintro; exact fun h => absurd h (lt_irrefl 0)
  isplitl [HS5]; · iexact HS5
  isplitl [HS6]; · iexact HS6
  isplitl [HS7]; · iexact HS7
  iexact HS8

/-- and what stands after any point can be handed back. -/
theorem leave (c : Dev nD) (t : ℕ) : between m c t ⊢ Pipeline.ΦD ringSem spec0 hbm (V m) c := by
  rw [between_eq]; unfold between
  iintro ⟨⟨⟨%e0, -, HS0⟩, ⟨%e1, -, HS1⟩, ⟨%e2, -, HS2⟩, ⟨%e3, -, HS3⟩, ⟨%e4, -, HS4⟩, HS5, HS6, HS7, HS8⟩, Hr⟩
  isplitr [Hr]; swap; · iexact Hr
  isplitl [HS0]; · iexists _; iexact HS0
  isplitl [HS1]; · iexists _; iexact HS1
  isplitl [HS2]; · iexists _; iexact HS2
  isplitl [HS3]; · iexists _; iexact HS3
  isplitl [HS4]; · iexists _; iexact HS4
  isplitl [HS5]; · iexact HS5
  isplitl [HS6]; · iexact HS6
  isplitl [HS7]; · iexact HS7
  iexact HS8

set_option backward.isDefEq.respectTransparency.types false in
/-- Every run of the program ends, the arrays at what the proof data say and every counter at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 ringSem defs₀ Variants.none ringSem_facts hbm hbm_sub m ρ main
    (hbody := fun c => (obligation m c).loose) (hshare := fun c => (dats m 0 c).share_full fun _ => rfl)
    (howed := fun _ _ => rfl) (V := V m) (hmain := Pipeline.hmain_prefix cfgs 0 defs₀ Variants.none m main hostOps0 hostOps0_sub hostOps0_fresh main_chain) (hA := A_eq m) (hin := fun c => enter m c) (hout := fun c => leave m c _)

/-- No argument is an array the launch writes. -/
theorem args_kept {r : PUnit × MemSt nD τ sig (Elt F)} (h : Pipeline.FramePost cfgs (dats m) 0 (V m) r ∧ r.2.sem = fun _ => 0) (c : Dev nD) :
    r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) :=
  ⟨((h.1 c).1 0).trans (((dats m 0 c).arrAt_in 0 rfl _).trans ((A_eq m c 0).trans (V_main_arg0 m c))), ((h.1 c).2 main_arg1 (Pipeline.mem_restRefs_of main_arg1 (by decide) (by decide))).trans (V_main_arg1 m c), ((h.1 c).2 main_arg2 (Pipeline.mem_restRefs_of main_arg2 (by decide) (by decide))).trans (V_main_arg2 m c), ((h.1 c).2 main_arg3 (Pipeline.mem_restRefs_of main_arg3 (by decide) (by decide))).trans (V_main_arg3 m c), ((h.1 c).1 3).trans (((dats m 0 c).arrAt_in 3 rfl _).trans ((A_eq m c 3).trans (V_main_arg4 m c))), ((h.1 c).2 main_arg5 (Pipeline.mem_restRefs_of main_arg5 (by decide) (by decide))).trans (V_main_arg5 m c), ((h.1 c).2 main_arg6 (Pipeline.mem_restRefs_of main_arg6 (by decide) (by decide))).trans (V_main_arg6 m c), ((h.1 c).2 main_arg7 (Pipeline.mem_restRefs_of main_arg7 (by decide) (by decide))).trans (V_main_arg7 m c), ((h.1 c).2 main_arg8 (Pipeline.mem_restRefs_of main_arg8 (by decide) (by decide))).trans (V_main_arg8 m c), ((h.1 c).2 main_arg9 (Pipeline.mem_restRefs_of main_arg9 (by decide) (by decide))).trans (V_main_arg9 m c), ((h.1 c).2 main_arg10 (Pipeline.mem_restRefs_of main_arg10 (by decide) (by decide))).trans (V_main_arg10 m c)⟩

/-- The frame: the arguments end as they were and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10))
      ∧ r.2.sem = fun _ => 0) :=
  (θ_run defs _ _).mono (fun _ h => ⟨args_kept m h, h.2⟩) (run_main m ρ)

end Cert.Kernel3Ideal.Mix

end
-- ==== Proof.Value3.lean ====
/- The output call over the reals, a row at a time: what the kernel makes of a row of tokens. -/
module

public import proofs.«01_k».proof.Proof.Body3
public import proofs.«01_k».proof.Proof.Value
public import Idealize.ShloMosaic.Lib.Pointwise

@[expose] public section

set_option maxRecDepth 16384

noncomputable section

namespace Cert.Kernel3Ideal.Mix

open Idealize.ShloMosaic Idealize.ShloMosaic.TcCoe Idealize.ShloMosaic.Tactic
open Cert.Kernel3Ideal Cert.Kernel3Ideal.Gen
open Cert.KernelIdeal.Ffn (normRow mulRow)

/-- The largest of a row of scores. -/
def peak (s : Fin 256 → EReal) : EReal := Finset.univ.fold max (Ideal.ofBits .f32 0xFF800000#32) s

/-- The weights of a row of scores, not yet divided by their sum. -/
def weight (s : Fin 256 → EReal) (j : Fin 256) : EReal := Ideal.exp (s j - peak s)

/-- A column of values averaged with the weights, as the kernel does it: the sum first, then the reciprocal. -/
def averaged (s v : Fin 256 → EReal) : EReal := (∑ j, weight s j * v j) * Ideal.div 1 (∑ j, weight s j)

/-- Column `d` of the head that begins at column `n`. -/
def col (n : ℕ) (hn : n ≤ 768) (d : Fin 256) : Fin 1024 := ⟨n + d.val, by omega⟩

/-- The column of the head that a column belongs to. -/
def mate (k : Fin 1024) (d : Fin 256) : Fin 1024 := ⟨k.val / 256 * 256 + d.val, by omega⟩

/-- Key columns and value columns lie side by side. -/
def keyCol (k : Fin 1024) : Fin 2048 := ⟨k.val, by omega⟩
def valCol (k : Fin 1024) : Fin 2048 := ⟨1024 + k.val, by omega⟩

/-- The scores of one row of queries in one head. -/
def scores (q : Fin 256 → EReal) (k : Fin 256 → Fin 256 → EReal) (j : Fin 256) : EReal := ∑ d, q d * k j d

/-- Column `k` of what a row of queries gathers from the memory. -/
def gathered (q : Fin 1024 → EReal) (kv : Fin 256 → Fin 2048 → EReal) (k : Fin 1024) : EReal :=
  averaged (scores (fun d => q (mate k d)) (fun j d => kv j (keyCol (mate k d)))) (fun j => kv j (valCol k))

theorem kv_apply (mem : Vec Ideal S1x256x1024 .f32) (h : Vec Ideal S1x1024 .f32) (wk : Vec Ideal S1024x2048 .bf16) (j : Fin 256) (n : Fin 2048) :
    kvOf mem h wk (ix2 j n) = mulRow (normRow (fun k => mem (ix3 0 j k)) (fun k => h (ix2 0 k))) (fun k n => wk (ix2 k n)) n := by
  unfold kvOf k0_pay24
  pointwise
  rfl

theorem queries_apply (x : FVec Ideal S1024x1024 .f32) (g : Vec Ideal S1x1024 .f32) (wq : Vec Ideal S1024x1024 .bf16) (r n : Fin 1024) :
    queries x g wq (ix2 r n) = mulRow (normRow (fun k => x (ix2 r k)) (fun k => g (ix2 0 k))) (fun k n => wq (ix2 k n)) n * Ideal.ofBits .f32 0x3D800000#32 := by
  unfold queries k0_pay28 k0_pay26
  pointwise
  rfl

/-- The head that begins at column 0. -/
theorem head0_apply (x : FVec Ideal S1024x1024 .f32) (g : Vec Ideal S1x1024 .f32) (wq : Vec Ideal S1024x1024 .bf16) (k v : Vec Ideal S256x256 .bf16) (r : Fin 1024) (d : Fin 256) :
    k0_pay29 x (k0_pay26 g) (mulf x x) wq k v (ix2 r d)
      = averaged (scores (fun d => queries x g wq (ix2 r (col 0 (by omega) d))) (fun j d => k (ix2 j d))) (fun j => v (ix2 j d)) := by
  unfold k0_pay29 queries
  pointwise
  have e (d : Fin 256) : (⟨d.val, by omega⟩ : Fin 1024) = col 0 (by omega) d := Fin.ext (Nat.zero_add _).symm
  simp only [e]
  rfl

/-- The head that begins at column 256. -/
theorem head256_apply (x : FVec Ideal S1024x1024 .f32) (g : Vec Ideal S1x1024 .f32) (wq : Vec Ideal S1024x1024 .bf16) (k v : Vec Ideal S256x256 .bf16) (r : Fin 1024) (d : Fin 256) :
    k0_pay32 (k0_pay30 x (k0_pay26 g) (mulf x x) wq k) (k0_pay31 x (k0_pay26 g) (mulf x x) wq k) v (ix2 r d)
      = averaged (scores (fun d => queries x g wq (ix2 r (col 256 (by omega) d))) (fun j d => k (ix2 j d))) (fun j => v (ix2 j d)) := by
  unfold k0_pay32 k0_pay31 k0_pay30 queries
  pointwise
  unfold averaged weight peak scores col
  rfl

/-- The head that begins at column 512. -/
theorem head512_apply (x : FVec Ideal S1024x1024 .f32) (g : Vec Ideal S1x1024 .f32) (wq : Vec Ideal S1024x1024 .bf16) (k v : Vec Ideal S256x256 .bf16) (r : Fin 1024) (d : Fin 256) :
    k0_pay33 (queries x g wq) k v (ix2 r d)
      = averaged (scores (fun d => queries x g wq (ix2 r (col 512 (by omega) d))) (fun j d => k (ix2 j d))) (fun j => v (ix2 j d)) := by
  unfold k0_pay33
  pointwise
  unfold averaged weight peak scores col
  rfl

/-- A part of the keys and values, element by element. -/
theorem cols_apply (n : ℕ) (hn : n ≤ 1792) (inb) (kv : Vec Ideal S256x2048 .bf16) (j d : Fin 256) :
    Tile.part (Val := Elt Ideal) (e := .bf16) (Rect.unit (s := S256x2048) ![0, n] S256x256.size inb) kv (ix2 j d) = kv (ix2 j (⟨n + d.val, by omega⟩ : Fin 2048)) := by
  refine congrArg kv (funext fun a => Fin.ext ?_)
  fin_cases a
  · show 0 + 1 * j.val = j.val
    omega
  · show n + 1 * d.val = n + d.val
    omega

/-- The tile after the output projection, row by row. -/
theorem last_apply (x : FVec Ideal S1024x1024 .f32) (g : Vec Ideal S1x1024 .f32) (wq wx : Vec Ideal S1024x1024 .bf16) (a b e : FVec Ideal S1024x256 .bf16) (k v : Vec Ideal S256x256 .bf16) (r j : Fin 1024) :
    k0_pay1 x a b e (k0_pay34 (queries x g wq) k) (k0_pay35 (queries x g wq) k) (Scalar.ofBits .f32 0x3F800000#32) v wx (ix3 0 r j)
      = x (ix2 r j) + ∑ n : Fin 1024, (if h : n.val < 256 then a (ix2 r ⟨n.val, h⟩) else if h : n.val - 256 < 256 then b (ix2 r ⟨n.val - 256, h⟩) else if h : n.val - 256 - 256 < 256 then e (ix2 r ⟨n.val - 256 - 256, h⟩) else
        averaged (scores (fun d => queries x g wq (ix2 r (col 768 (by omega) d))) (fun j d => k (ix2 j d))) (fun j => v (ix2 j (⟨n.val - 256 - 256 - 256, by omega⟩ : Fin 256)))) * wx (ix2 n j) := by
  unfold k0_pay1 k0_pay35 k0_pay34
  pointwise
  unfold averaged weight peak scores col
  rfl

/-- A half of the rows of a weight matrix, and a slab of the tile's attention heads, element by element. -/
theorem rows_apply (n : ℕ) (hn : n ≤ 512) (inb) (w : Vec Ideal S1024x1024 .bf16) (k : Fin 512) (j : Fin 1024) :
    Tile.part (Val := Elt Ideal) (e := .bf16) (Rect.unit (s := S1024x1024) ![n, 0] S512x1024.size inb) w (ix2 k j) = w (ix2 (⟨n + k.val, by omega⟩ : Fin 1024) j) := by
  refine congrArg w (funext fun a => Fin.ext ?_)
  fin_cases a
  · show n + 1 * k.val = n + k.val
    omega
  · show 0 + 1 * j.val = j.val
    omega
theorem slab_apply (n : ℕ) (hn : n < 2) (inb) (a : Vec Ideal S1x2x512x512 .bf16) (k r : Fin 512) :
    Tile.part (Val := Elt Ideal) (e := .bf16) (Rect.unit (s := S1x2x512x512) ![0, n, 0, 0] S1x1x512x512.size inb) a (ix4 0 0 k r) = a (ix4 0 (⟨n, hn⟩ : Fin 2) k r) := by
  refine congrArg a (funext fun b => Fin.ext ?_)
  fin_cases b
  · rfl
  · show n + 1 * 0 = n
    omega
  · show 0 + 1 * k.val = k.val
    omega
  · show 0 + 1 * r.val = r.val
    omega

/-- A row of the tile after the first projection. -/
def residRow (x : Fin 1024 → EReal) (a o : Fin 512 → EReal) (wo : Fin 1024 → Fin 1024 → EReal) (j : Fin 1024) : EReal :=
  x j + (∑ k : Fin 512, a k * wo ⟨k.val, by omega⟩ j) + ∑ k : Fin 512, o k * wo ⟨512 + k.val, by omega⟩ j

/-- The two convolutions' channels, side by side. -/
def sides (b e : Fin 256 → EReal) (k : Fin 512) : EReal := if h : k.val < 256 then b ⟨k.val, h⟩ else e ⟨k.val - 256, by omega⟩

theorem resid_apply (x : Vec Ideal S1x1024x1024 .f32) (a : Vec Ideal S1x2x512x512 .bf16) (o : Vec Ideal S1x1024x512 .bf16) (wo : Vec Ideal S1024x1024 .bf16) (r j : Fin 1024) :
    resid x a o wo (ix2 r j) = residRow (fun j => x (ix3 0 r j)) (fun k => a (ix4 0 (⟨r.val / 512, by omega⟩ : Fin 2) k (⟨r.val % 512, by omega⟩ : Fin 512))) (fun k => o (ix3 0 r k)) (fun k j => wo (ix2 k j)) j := by
  unfold resid k0_pay25 residRow
  pointwise
  have e0 (k r : Fin 512) := slab_apply 0 (by omega) inb_S1x2x512x512_S1x1x512x512_0_0_0_0 a k r
  have e1 (k r : Fin 512) := slab_apply 1 (by omega) inb_S1x2x512x512_S1x1x512x512_0_1_0_0 a k r
  have f0 (k : Fin 512) (j : Fin 1024) := rows_apply 0 (by omega) inb_S1024x1024_S512x1024_0_0 wo k j
  have f1 (k : Fin 512) (j : Fin 1024) := rows_apply 512 (by omega) inb_S1024x1024_S512x1024_512_0 wo k j
  simp only [e0, e1, f0, f1]
  have f (k : Fin 512) : (⟨0 + k.val, by omega⟩ : Fin 1024) = ⟨k.val, by omega⟩ := Fin.ext (Nat.zero_add _)
  simp only [f]
  refine congrArg₂ (· + ·) (congrArg₂ (· + ·) rfl ?_) rfl
  by_cases h : r.val < 512
  · rw [dif_pos h]
    refine Finset.sum_congr rfl fun k _ => congrArg (· * _) (congrArg a ?_)
    exact congrArg₂ (fun (p : Fin 2) (q : Fin 512) => (ix4 0 p k q : S1x2x512x512.Idx)) (Fin.ext (by show 0 = r.val / 512; omega)) (Fin.ext (by show r.val = r.val % 512; omega))
  · rw [dif_neg h]
    refine Finset.sum_congr rfl fun k _ => congrArg (· * _) (congrArg a ?_)
    exact congrArg₂ (fun (p : Fin 2) (q : Fin 512) => (ix4 0 p k q : S1x2x512x512.Idx)) (Fin.ext (by show 1 = r.val / 512; omega)) (Fin.ext (by show r.val - 512 = r.val % 512; omega))

/-- A tile, row by row. -/
def mixRow (x g : Fin 1024 → EReal) (wq wx : Fin 1024 → Fin 1024 → EReal) (kv : Fin 256 → Fin 2048 → EReal) (j : Fin 1024) : EReal :=
  x j + mulRow (gathered (fun n => mulRow (normRow x g) wq n * Ideal.ofBits .f32 0x3D800000#32) kv) wx j

theorem mate_col (n : ℕ) (hn : n ≤ 768) (h : n % 256 = 0) (d e : Fin 256) : mate (col n hn d) e = col n hn e :=
  Fin.ext (by show (n + d.val) / 256 * 256 + e.val = n + e.val; omega)

/-- A head, its keys and values cut out of the memory's. -/
theorem head_gathered (n : ℕ) (hn : n ≤ 768) (h : n % 256 = 0) (inb inb') (q : Fin 1024 → EReal) (kv : Vec Ideal S256x2048 .bf16) (d : Fin 256) :
    averaged (scores (fun d => q (col n hn d)) (fun j d => Tile.part (Val := Elt Ideal) (e := .bf16) (Rect.unit (s := S256x2048) ![0, n] S256x256.size inb) kv (ix2 j d)))
        (fun j => Tile.part (Val := Elt Ideal) (e := .bf16) (Rect.unit (s := S256x2048) ![0, 1024 + n] S256x256.size inb') kv (ix2 j d))
      = gathered q (fun j n => kv (ix2 j n)) (col n hn d) := by
  have e0 (j d : Fin 256) := cols_apply n (by omega) inb kv j d
  have e1 (j d : Fin 256) := cols_apply (1024 + n) (by omega) inb' kv j d
  simp only [e0, e1]
  unfold gathered
  simp only [mate_col n hn h]
  refine congrArg (averaged _) (funext fun j => congrArg kv (congrArg (ix2 j) (Fin.ext ?_)))
  show 1024 + n + d.val = 1024 + (n + d.val)
  omega

set_option maxHeartbeats 1600000 in
theorem tile_apply (x : Vec Ideal S1x1024x1024 .f32) (a : Vec Ideal S1x2x512x512 .bf16) (o : Vec Ideal S1x1024x512 .bf16) (g : Vec Ideal S1x1024 .f32) (wo wq wx : Vec Ideal S1024x1024 .bf16) (kv : Vec Ideal S256x2048 .bf16) (r j : Fin 1024) :
    tileOut x a o g wo wq wx kv (ix3 0 r j)
      = mixRow (residRow (fun j => x (ix3 0 r j)) (fun k => a (ix4 0 (⟨r.val / 512, by omega⟩ : Fin 2) k (⟨r.val % 512, by omega⟩ : Fin 512))) (fun k => o (ix3 0 r k)) (fun k j => wo (ix2 k j)))
          (fun k => g (ix2 0 k)) (fun k n => wq (ix2 k n)) (fun k n => wx (ix2 k n)) (fun j n => kv (ix2 j n)) j := by
  have eq (n : Fin 1024) := queries_apply (resid x a o wo) g wq r n
  simp only [resid_apply] at eq
  unfold tileOut mixRow
  rw [last_apply, resid_apply]
  refine congrArg₂ (· + ·) rfl (Finset.sum_congr rfl fun n _ => congrArg (· * _) ?_)
  simp only [← eq]
  by_cases h0 : n.val < 256
  · rw [dif_pos h0, head0_apply]
    exact (head_gathered 0 (by omega) rfl _ _ (fun n => queries (resid x a o wo) g wq (ix2 r n)) kv _).trans (congrArg _ (Fin.ext (Nat.zero_add _)))
  rw [dif_neg h0]
  by_cases h1 : n.val - 256 < 256
  · rw [dif_pos h1, head256_apply]
    exact (head_gathered 256 (by omega) rfl _ _ (fun n => queries (resid x a o wo) g wq (ix2 r n)) kv _).trans (congrArg _ (Fin.ext (by show 256 + (n.val - 256) = n.val; omega)))
  rw [dif_neg h1]
  by_cases h2 : n.val - 256 - 256 < 256
  · rw [dif_pos h2, head512_apply]
    exact (head_gathered 512 (by omega) rfl _ _ (fun n => queries (resid x a o wo) g wq (ix2 r n)) kv _).trans (congrArg _ (Fin.ext (by show 512 + (n.val - 256 - 256) = n.val; omega)))
  rw [dif_neg h2]
  exact (head_gathered 768 (by omega) rfl _ _ (fun n => queries (resid x a o wo) g wq (ix2 r n)) kv _).trans (congrArg _ (Fin.ext (by show 768 + (n.val - 256 - 256 - 256) = n.val; omega)))

end Cert.Kernel3Ideal.Mix
-- ==== Proof.Final3.lean ====
/- The output call's result over the reals: the launch's blocks put together, row by row. -/
module

public import proofs.«01_k».proof.Proof.Run3
public import proofs.«01_k».proof.Proof.Value3
public import Idealize.ShloMosaic.Lib.Pipeline.Value
public import Idealize.ShloMosaic.Lib.StableHlo.ReadAt

@[expose] public section

set_option maxRecDepth 16384

noncomputable section

namespace Cert.Kernel3Ideal.Mix

open Idealize.ShloMosaic Idealize.ShloMosaic.TcCoe Idealize.ShloMosaic.Tactic
open Idealize.SL.Sem
open Idealize.ShloMosaic.Pipeline (Dat)
open Cert.Kernel3Ideal Cert.Kernel3Ideal.Gen
open Cert.KernelIdeal.Ffn (normRow mulRow)

variable (m : (ℓ : Loc nD τ sig) → Buf (Elt Ideal) ℓ) (ρ : Dev nD → PrngReg)

/-- The arguments as arrays. -/
abbrev aX (c : Dev nD) : FVec Ideal S4x4096x1024 .f32 := m ((c.tc : Thread nD τ).loc main_arg0)
abbrev aA (c : Dev nD) : FVec Ideal S4x4096x512 .f32 := m ((c.tc : Thread nD τ).loc main_arg1)
abbrev aB (c : Dev nD) : FVec Ideal S4x4096x256 .f32 := m ((c.tc : Thread nD τ).loc main_arg2)
abbrev aE (c : Dev nD) : FVec Ideal S4x4096x256 .f32 := m ((c.tc : Thread nD τ).loc main_arg3)
abbrev aM (c : Dev nD) : FVec Ideal S4x256x1024 .f32 := m ((c.tc : Thread nD τ).loc main_arg4)
abbrev aO (c : Dev nD) : FVec Ideal S2x1024x1024 .f32 := m ((c.tc : Thread nD τ).loc main_arg5)
abbrev aG (c : Dev nD) : FVec Ideal S2x1024 .f32 := m ((c.tc : Thread nD τ).loc main_arg6)
abbrev aH (c : Dev nD) : FVec Ideal S2x1024 .f32 := m ((c.tc : Thread nD τ).loc main_arg7)
abbrev aQ (c : Dev nD) : FVec Ideal S2x1024x1024 .f32 := m ((c.tc : Thread nD τ).loc main_arg8)
abbrev aK (c : Dev nD) : FVec Ideal S2x1024x2048 .f32 := m ((c.tc : Thread nD τ).loc main_arg9)
abbrev aW (c : Dev nD) : FVec Ideal S2x1024x1024 .f32 := m ((c.tc : Thread nD τ).loc main_arg10)

/-- A token's row after the output projection, and the memory's keys and values. -/
def midRow (c : Dev nD) (b : Fin 4) (t : Fin 4096) : Fin 1024 → EReal :=
  residRow (fun k => aX m c (ix3 b t k)) (fun k => aA m c (ix3 b t k)) (sides (fun k => aB m c (ix3 b t k)) (fun k => aE m c (ix3 b t k))) (fun k n => aO m c (ix3 0 k n))
def memRows (c : Dev nD) (b : Fin 4) (i : Fin 256) : Fin 2048 → EReal :=
  mulRow (normRow (fun k => aM m c (ix3 b i k)) (fun k => aH m c (ix2 0 k))) (fun k n => aK m c (ix3 0 k n))

/-- The result at batch entry `b`, token `t`, column `j`. -/
def resRow (c : Dev nD) (b : Fin 4) (t : Fin 4096) (j : Fin 1024) : EReal :=
  mixRow (midRow m c b t) (fun k => aG m c (ix2 0 k)) (fun k n => aQ m c (ix3 0 k n)) (fun k n => aW m c (ix3 0 k n)) (memRows m c b) j

/-- The result as an array. -/
def result (c : Dev nD) : FVec Ideal S4x4096x1024 .f32 := fun i => resRow m c (i 0) (i 1) (i 2)

/-- The arrays the windows read, as the host left them. -/
theorem V_a (c : Dev nD) (b : Fin 4) (s : Fin 8) (k r : Fin 512) :
    (V m c main_v2 : FVec Ideal S4x8x512x512 .bf16) (ix4 b s k r) = aA m c (ix3 b (⟨s.val * 512 + r.val, by omega⟩ : Fin 4096) k) := by
  unfold V
  after_reads_at
theorem V_o (c : Dev nD) (b : Fin 4) (t : Fin 4096) (k : Fin 512) :
    (V m c main_v4 : FVec Ideal S4x4096x512 .bf16) (ix3 b t k) = sides (fun k => aB m c (ix3 b t k)) (fun k => aE m c (ix3 b t k)) k := by
  unfold V sides
  after_reads_at
  split <;> after_reads_at
theorem V_h (c : Dev nD) (k : Fin 1024) : (V m c main_v7 : FVec Ideal S1x1024 .f32) (ix2 0 k) = aH m c (ix2 0 k) := by
  unfold V
  after_reads_at
theorem V_g (c : Dev nD) (k : Fin 1024) : (V m c main_v10 : FVec Ideal S1x1024 .f32) (ix2 0 k) = aG m c (ix2 0 k) := by
  unfold V
  after_reads_at

/-- The layer's weights, element by element. -/
theorem wO_apply (c : Dev nD) (k : Fin 1024) (n : Fin 1024) : wO m c (ix2 k n) = aO m c (ix3 0 k n) := by
  show V m c main_arg5 _ = _
  rw [V_main_arg5]
  refine congrArg (aO m c) (funext fun a => ?_)
  fin_cases a <;> rfl
theorem wQ_apply (c : Dev nD) (k : Fin 1024) (n : Fin 1024) : wQ m c (ix2 k n) = aQ m c (ix3 0 k n) := by
  show V m c main_arg8 _ = _
  rw [V_main_arg8]
  refine congrArg (aQ m c) (funext fun a => ?_)
  fin_cases a <;> rfl
theorem wX_apply (c : Dev nD) (k : Fin 1024) (n : Fin 1024) : wX m c (ix2 k n) = aW m c (ix3 0 k n) := by
  show V m c main_arg10 _ = _
  rw [V_main_arg10]
  refine congrArg (aW m c) (funext fun a => ?_)
  fin_cases a <;> rfl
theorem wK_apply (c : Dev nD) (k : Fin 1024) (n : Fin 2048) : wK m c (ix2 k n) = aK m c (ix3 0 k n) := by
  show V m c main_arg9 _ = _
  rw [V_main_arg9]
  refine congrArg (aK m c) (funext fun a => ?_)
  fin_cases a <;> rfl

/-- The windows' index maps: the tokens' windows take the tile of the point, the gains' their one block. -/
theorem index_x : ∀ t : Fin cfg0.N, win0_0.index t 0 = t.val / 4 ∧ win0_0.index t 1 = t.val % 4 ∧ win0_0.index t 2 = 0 := by decide +kernel
theorem index_a : ∀ t : Fin cfg0.N, win0_1.index t 0 = t.val / 4 ∧ win0_1.index t 1 = t.val % 4 ∧ win0_1.index t 2 = 0 ∧ win0_1.index t 3 = 0 := by decide +kernel
theorem index_c : ∀ t : Fin cfg0.N, win0_2.index t 0 = t.val / 4 ∧ win0_2.index t 1 = t.val % 4 ∧ win0_2.index t 2 = 0 := by decide +kernel
theorem index_g : ∀ t : Fin cfg0.N, win0_5.index t 0 = 0 ∧ win0_5.index t 1 = 0 := by decide +kernel
theorem index_o : ∀ t : Fin cfg0.N, win0_6.index t 0 = t.val / 4 ∧ win0_6.index t 1 = t.val % 4 ∧ win0_6.index t 2 = 0 := by decide +kernel
theorem size_o : ∀ t : Fin cfg0.N, win0_6.xsize (grid0.coords t) 0 = 1 ∧ win0_6.xsize (grid0.coords t) 1 = 1024 ∧ win0_6.xsize (grid0.coords t) 2 = 1024 := by decide +kernel

theorem points (t : Fin cfg0.N) : t.val < 16 := lt_of_lt_of_eq t.isLt (by decide +kernel)

/-- The batch entry of a point, and the token of a row of its tile. -/
def entry (t : Fin cfg0.N) : Fin 4 := ⟨t.val / 4, by have := points t; omega⟩
def token (t : Fin cfg0.N) (r : Fin 1024) : Fin 4096 := ⟨t.val % 4 * 1024 + r.val, by omega⟩

theorem iblk_x (c : Dev nD) (t : Fin cfg0.N) (r k : Fin 1024) :
    (iblk m c 0 t : Vec Ideal S1x1024x1024 .f32) (ix3 0 r k) = (V m c main_arg0 : FVec Ideal S4x4096x1024 .f32) (ix3 (entry t) (token t r) (k)) := by
  show (V m c main_arg0 : FVec Ideal S4x4096x1024 .f32) _ = _
  refine congrArg (V m c main_arg0 : FVec Ideal S4x4096x1024 .f32) (funext fun a => Fin.ext ?_)
  fin_cases a
  · show win0_0.index t 0 * 1 + 1 * 0 = t.val / 4
    rw [(index_x t).1]
    omega
  · show win0_0.index t 1 * 1024 + 1 * r.val = t.val % 4 * 1024 + r.val
    rw [(index_x t).2.1]
    omega
  · show win0_0.index t 2 * 1024 + 1 * k.val = k.val
    rw [(index_x t).2.2]
    omega
theorem iblk_a (c : Dev nD) (t : Fin cfg0.N) (s : Fin 2) (k r : Fin 512) :
    (iblk m c 1 t : Vec Ideal S1x2x512x512 .bf16) (ix4 0 s k r) = (V m c main_v2 : FVec Ideal S4x8x512x512 .bf16) (ix4 (entry t) ((⟨t.val % 4 * 2 + s.val, by omega⟩ : Fin 8)) (k) (r)) := by
  show (V m c main_v2 : FVec Ideal S4x8x512x512 .bf16) _ = _
  refine congrArg (V m c main_v2 : FVec Ideal S4x8x512x512 .bf16) (funext fun a => Fin.ext ?_)
  fin_cases a
  · show win0_1.index t 0 * 1 + 1 * 0 = t.val / 4
    rw [(index_a t).1]
    omega
  · show win0_1.index t 1 * 2 + 1 * s.val = t.val % 4 * 2 + s.val
    rw [(index_a t).2.1]
    omega
  · show win0_1.index t 2 * 512 + 1 * k.val = k.val
    rw [(index_a t).2.2.1]
    omega
  · show win0_1.index t 3 * 512 + 1 * r.val = r.val
    rw [(index_a t).2.2.2]
    omega
theorem iblk_o (c : Dev nD) (t : Fin cfg0.N) (r : Fin 1024) (k : Fin 512) :
    (iblk m c 2 t : Vec Ideal S1x1024x512 .bf16) (ix3 0 r k) = (V m c main_v4 : FVec Ideal S4x4096x512 .bf16) (ix3 (entry t) (token t r) (k)) := by
  show (V m c main_v4 : FVec Ideal S4x4096x512 .bf16) _ = _
  refine congrArg (V m c main_v4 : FVec Ideal S4x4096x512 .bf16) (funext fun a => Fin.ext ?_)
  fin_cases a
  · show win0_2.index t 0 * 1 + 1 * 0 = t.val / 4
    rw [(index_c t).1]
    omega
  · show win0_2.index t 1 * 1024 + 1 * r.val = t.val % 4 * 1024 + r.val
    rw [(index_c t).2.1]
    omega
  · show win0_2.index t 2 * 512 + 1 * k.val = k.val
    rw [(index_c t).2.2]
    omega
theorem iblk_m (c : Dev nD) (t : Fin cfg0.N) (r : Fin 256) (k : Fin 1024) :
    (iblk m c 3 t : Vec Ideal S1x256x1024 .f32) (ix3 0 r k) = (V m c main_arg4 : FVec Ideal S4x256x1024 .f32) (ix3 (entry t) (r) (k)) := by
  show (V m c main_arg4 : FVec Ideal S4x256x1024 .f32) _ = _
  refine congrArg (V m c main_arg4 : FVec Ideal S4x256x1024 .f32) (funext fun a => Fin.ext ?_)
  fin_cases a
  · show win0_3.index t 0 * 1 + 1 * 0 = t.val / 4
    rw [(index_m t).1]
    omega
  · show win0_3.index t 1 * 256 + 1 * r.val = r.val
    rw [(index_m t).2.1]
    omega
  · show win0_3.index t 2 * 1024 + 1 * k.val = k.val
    rw [(index_m t).2.2]
    omega
theorem iblk_h (c : Dev nD) (t : Fin cfg0.N) (k : Fin 1024) :
    (iblk m c 4 t : Vec Ideal S1x1024 .f32) (ix2 0 k) = (V m c main_v7 : FVec Ideal S1x1024 .f32) (ix2 (0) (k)) := by
  show (V m c main_v7 : FVec Ideal S1x1024 .f32) _ = _
  refine congrArg (V m c main_v7 : FVec Ideal S1x1024 .f32) (funext fun a => Fin.ext ?_)
  fin_cases a
  · show win0_4.index t 0 * 1 + 1 * 0 = 0
    rw [(index_h t).1]
  · show win0_4.index t 1 * 1024 + 1 * k.val = k.val
    rw [(index_h t).2]
    omega
theorem iblk_g (c : Dev nD) (t : Fin cfg0.N) (k : Fin 1024) :
    (iblk m c 5 t : Vec Ideal S1x1024 .f32) (ix2 0 k) = (V m c main_v10 : FVec Ideal S1x1024 .f32) (ix2 (0) (k)) := by
  show (V m c main_v10 : FVec Ideal S1x1024 .f32) _ = _
  refine congrArg (V m c main_v10 : FVec Ideal S1x1024 .f32) (funext fun a => Fin.ext ?_)
  fin_cases a
  · show win0_5.index t 0 * 1 + 1 * 0 = 0
    rw [(index_g t).1]
  · show win0_5.index t 1 * 1024 + 1 * k.val = k.val
    rw [(index_g t).2]
    omega

/-- A point's keys and values are its batch entry's. -/
theorem kvAt_apply (c : Dev nD) (t : Fin cfg0.N) (i : Fin 256) (n : Fin 2048) : kvAt m c t (ix2 i n) = memRows m c (entry t) i n := by
  unfold kvAt memRows
  rw [kv_apply]
  have em (k : Fin 1024) : (iblk m c 3 t : Vec Ideal S1x256x1024 .f32) (ix3 0 i k) = aM m c (ix3 (entry t) i k) :=
    (iblk_m m c t i k).trans (congrFun (V_main_arg4 m c) _)
  have eh (k : Fin 1024) := (iblk_h m c t k).trans (V_h m c k)
  simp only [em, eh, wK_apply]

/-- The tile of the result at a point, row by row. -/
theorem outTile_apply (c : Dev nD) (t : Fin cfg0.N) (r j : Fin 1024) : outTile m c t (ix3 0 r j) = resRow m c (entry t) (token t r) j := by
  unfold outTile resRow midRow
  rw [tile_apply]
  have ex (k : Fin 1024) : (iblk m c 0 t : Vec Ideal S1x1024x1024 .f32) (ix3 0 r k) = aX m c (ix3 (entry t) (token t r) k) :=
    (iblk_x m c t r k).trans (congrFun (V_main_arg0 m c) _)
  have ea (k : Fin 512) : (iblk m c 1 t : Vec Ideal S1x2x512x512 .bf16) (ix4 0 (⟨r.val / 512, by omega⟩ : Fin 2) k (⟨r.val % 512, by omega⟩ : Fin 512)) = aA m c (ix3 (entry t) (token t r) k) := by
    refine ((iblk_a m c t _ k _).trans (V_a m c _ _ _ _)).trans (congrArg (fun s => aA m c (ix3 (entry t) s k)) (Fin.ext ?_))
    show (t.val % 4 * 2 + r.val / 512) * 512 + r.val % 512 = t.val % 4 * 1024 + r.val
    omega
  have eo (k : Fin 512) := (iblk_o m c t r k).trans (V_o m c _ _ k)
  have eg (k : Fin 1024) := (iblk_g m c t k).trans (V_g m c k)
  simp only [ex, ea, eo, eg, wO_apply, wQ_apply, wX_apply, kvAt_apply]

/-- What point `t` writes back is its block of the result. -/
theorem flushed_eq (c : Dev nD) (t : Fin cfg0.N) : (dats m 0 c).flushed 6 t = (win0_6.blk t).view.read (Elt Ideal) (result m c) := by
  show (cfg0.win 6).cut (grid0.coords t) ((dats m 0 c).after 6 t) = _
  rw [after_6]
  funext z
  show outTile m c t _ = resRow m c _ _ _
  obtain ⟨b, r, j, rfl⟩ : ∃ (b : Fin 1) (r j : Fin 1024), z = (ix3 b r j : S1x1024x1024.Idx) := ⟨z 0, z 1, z 2, eq_ix3 z⟩
  obtain rfl : b = 0 := Subsingleton.elim _ _
  refine (outTile_apply m c t r j).trans ?_
  have e (b b' : Fin 4) (s s' : Fin 4096) (k k' : Fin 1024) (hb : b = b') (hs : s = s') (hk : k = k') : resRow m c b s k = resRow m c b' s' k' := by rw [hb, hs, hk]
  refine e _ _ _ _ _ _ (Fin.ext ?_) (Fin.ext ?_) (Fin.ext ?_)
  · show t.val / 4 = win0_6.index t 0 * 1 + 1 * 0
    rw [(index_o t).1]
    omega
  · show t.val % 4 * 1024 + r.val = win0_6.index t 1 * 1024 + 1 * r.val
    rw [(index_o t).2.1]
    omega
  · show j.val = win0_6.index t 2 * 1024 + 1 * j.val
    rw [(index_o t).2.2]
    omega

/-- An element of the result is in the block of the tile that its row is in. -/
theorem mem_blk (t : Fin cfg0.N) (i : S4x4096x1024.Idx) (h : t.val = (i 0).val * 4 + (i 1).val / 1024) : i ∈ ((cfg0.win 6).blk t).view.set := by
  show i ∈ ((View.whole main_v11).slice (win0_6.rect t)).set
  rw [View.set_slice_whole, Rect.mem_set_unit]
  have h0 : (i 0 : Nat) < 4 := (i 0).isLt
  have h1 : (i 1 : Nat) < 4096 := (i 1).isLt
  have h2 : (i 2 : Nat) < 1024 := (i 2).isLt
  intro a
  match a with
  | ⟨0, _⟩ =>
    show win0_6.index t 0 * 1 ≤ (i 0 : Nat) ∧ (i 0 : Nat) < win0_6.index t 0 * 1 + win0_6.xsize (grid0.coords t) 0
    rw [(index_o t).1, (size_o t).1]; omega
  | ⟨1, _⟩ =>
    show win0_6.index t 1 * 1024 ≤ (i 1 : Nat) ∧ (i 1 : Nat) < win0_6.index t 1 * 1024 + win0_6.xsize (grid0.coords t) 1
    rw [(index_o t).2.1, (size_o t).2.1]; omega
  | ⟨2, _⟩ =>
    show win0_6.index t 2 * 1024 ≤ (i 2 : Nat) ∧ (i 2 : Nat) < win0_6.index t 2 * 1024 + win0_6.xsize (grid0.coords t) 2
    rw [(index_o t).2.2, (size_o t).2.2]; omega

theorem cover (i : S4x4096x1024.Idx) : ∃ t : Fin cfg0.N, (cfg0.win 6).flush t = true ∧ i ∈ ((cfg0.win 6).blk t).view.set := by
  have h0 : (i 0 : Nat) < 4 := (i 0).isLt
  have h1 : (i 1 : Nat) < 4096 := (i 1).isLt
  have hN : cfg0.N = 16 := by decide +kernel
  exact ⟨⟨(i 0).val * 4 + (i 1).val / 1024, by omega⟩, flush0_6 _, mem_blk _ i rfl⟩

/-- So the result array ends holding the result. -/
theorem final (c : Dev nD) : (dats m 0 c).arrAt 6 cfg0.N = result m c :=
  (dats m 0 c).arrAt_eq_of_cover 6 (result m c) (fun t _ => flushed_eq m c t) cover

/-- The run, read: the result array at the result, the arguments unchanged. -/
theorem run : θ_run defs (onTc (τ := τ) (main (F := Ideal))) ⟨m, fun _ => 0, ρ⟩ (fun r => ∀ c : Dev nD,
      r.2.mem ((c.tc : Thread nD τ).loc main_v11) = result m c
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10)) :=
  (θ_run defs _ _).mono (fun _ h c => ⟨((h.1 c).1 6).trans (final m c), args_kept m h c⟩) (run_main m ρ)

end Cert.Kernel3Ideal.Mix

end
-- ==== Proof.Real3.lean ====
/- Averages over real scores: summing first and multiplying by the reciprocal is weighing each value by its share. -/
module

public import proofs.«01_k».proof.Proof.Value3

@[expose] public section

noncomputable section

namespace Cert.Kernel3Ideal.Mix

open Idealize.ShloMosaic
open Cert.KernelIdeal.Ffn (normRow mulRow)

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A sum of real numbers, as the real sum. -/
theorem sum_coe {ι : Type} [DecidableEq ι] (s : Finset ι) (f : ι → ℝ) : (∑ i ∈ s, (f i : EReal)) = ((∑ i ∈ s, f i : ℝ) : EReal) := by
  induction s using Finset.induction_on with
  | empty => rw [Finset.sum_empty, Finset.sum_empty]; rfl
  | insert a s h ih => rw [Finset.sum_insert h, Finset.sum_insert h, ih, EReal.coe_add]

theorem IsReal.sum {n : ℕ} {f : Fin n → EReal} (h : ∀ i, IsReal (f i)) : IsReal (∑ i, f i) := by
  choose g hg using h
  exact ⟨∑ i, g i, by simp only [hg]; exact sum_coe _ g⟩

theorem IsReal.mulRow {K N : ℕ} {x : Fin K → EReal} {w : Fin K → Fin N → EReal} (hx : ∀ k, IsReal (x k)) (hw : ∀ k n, IsReal (w k n)) (n : Fin N) : IsReal (mulRow x w n) :=
  IsReal.sum fun k => (hx k).mul (hw k n)

theorem ofBits_1024 : Ideal.ofBits .f32 0x44800000#32 = ((1024 : ℝ) : EReal) := by
  simp [Ideal.ofBits, Ideal.ieee, -EReal.coe_mul]; norm_num

theorem ofBits_sixteenth : Ideal.ofBits .f32 0x3D800000#32 = (((1 : ℝ) / 16 : ℝ) : EReal) := by
  simp [Ideal.ofBits, Ideal.ieee, -EReal.coe_mul]; norm_num

theorem ofBits_small : ∃ e : ℝ, 0 < e ∧ Ideal.ofBits .f32 0x358637BD#32 = (e : EReal) := by
  refine ⟨8796093 / 2 ^ 43, by norm_num, ?_⟩
  simp [Ideal.ofBits, Ideal.ieee, -EReal.coe_mul]; norm_num

theorem ofBits_bot : Ideal.ofBits .f32 0xFF800000#32 = ⊥ := by
  simp [Ideal.ofBits, Ideal.ieee]

/-- The root of a positive real number has a real reciprocal. -/
theorem rsqrt_real {r : ℝ} (h : 0 < r) : IsReal (Ideal.rsqrt (r : EReal)) := by
  refine ⟨(Real.sqrt r)⁻¹, ?_⟩
  show (if r < 0 then (⊥ : EReal) else if r = 0 then ⊤ else (((Real.sqrt r)⁻¹ : ℝ) : EReal)) = _
  rw [if_neg (not_lt.mpr h.le), if_neg h.ne']

/-- A normalised row of real numbers is real: its mean square is not negative, and the small constant is positive. -/
theorem IsReal.normRow {x g : Fin 1024 → EReal} (hx : ∀ k, IsReal (x k)) (hg : ∀ k, IsReal (g k)) (j : Fin 1024) : IsReal (normRow x g j) := by
  refine IsReal.mul (IsReal.mul (hx j) ?_) (hg j)
  choose y hy using hx
  obtain ⟨e, he, h⟩ := ofBits_small
  have hs : (∑ k, x k * x k) = ((∑ k, y k * y k : ℝ) : EReal) := by
    simp only [hy, ← EReal.coe_mul]
    exact sum_coe _ _
  rw [hs, ofBits_1024, h, Ideal.div_coe (by norm_num), ← EReal.coe_mul, ← EReal.coe_add]
  refine rsqrt_real ?_
  have : 0 ≤ ∑ k, y k * y k := Finset.sum_nonneg fun k _ => mul_self_nonneg _
  positivity

/-- The largest of a row of scores is one of them. -/
theorem peak_mem (s : Fin 256 → EReal) : ∃ j, peak s = s j := by
  have h : peak s = Finset.univ.sup s := by
    unfold peak
    rw [ofBits_bot]
    rfl
  obtain ⟨j, -, hj⟩ := Finset.exists_mem_eq_sup Finset.univ Finset.univ_nonempty s
  exact ⟨j, h.trans hj⟩

/-- The weights of real scores have a positive real sum. -/
theorem weights_sum {s : Fin 256 → EReal} (h : ∀ j, IsReal (s j)) : ∃ l : ℝ, 0 < l ∧ (∑ j, weight s j) = (l : EReal) := by
  choose y hy using h
  obtain ⟨i, hi⟩ := peak_mem s
  have hw (j : Fin 256) : weight s j = ((Real.exp (y j - y i) : ℝ) : EReal) := by
    unfold weight
    rw [hi, hy, hy, ← EReal.coe_sub]
    rfl
  refine ⟨∑ j, Real.exp (y j - y i), Finset.sum_pos (fun j _ => Real.exp_pos _) Finset.univ_nonempty, ?_⟩
  simp only [hw]
  exact sum_coe _ _

/-- A sum times a real number that is not negative, term by term. -/
theorem sum_mul_coe {n : ℕ} (f : Fin n → EReal) {c : ℝ} (hc : 0 ≤ c) : (∑ i, f i) * (c : EReal) = ∑ i, f i * (c : EReal) := by
  have (s : Finset (Fin n)) : (∑ i ∈ s, f i) * (c : EReal) = ∑ i ∈ s, f i * (c : EReal) := by
    induction s using Finset.induction_on with
    | empty => rw [Finset.sum_empty, Finset.sum_empty, zero_mul]
    | insert a s h ih => rw [Finset.sum_insert h, Finset.sum_insert h, EReal.right_distrib_of_nonneg_of_ne_top (EReal.coe_nonneg.mpr hc) (EReal.coe_ne_top c), ih]
  exact this _

/-- A column of values averaged with each value's share, as the mathematics has it. -/
def shared (s v : Fin 256 → EReal) : EReal := ∑ j, Ideal.div (weight s j) (∑ i, weight s i) * v j

/-- Over real scores both averages are one. -/
theorem averaged_eq_shared {s : Fin 256 → EReal} (h : ∀ j, IsReal (s j)) (v : Fin 256 → EReal) : averaged s v = shared s v := by
  obtain ⟨l, hl, e⟩ := weights_sum h
  unfold averaged shared
  rw [e, Ideal.div_coe hl.ne', one_mul, sum_mul_coe _ (by positivity)]
  refine Finset.sum_congr rfl fun j _ => ?_
  rw [Ideal.div_coe hl.ne', mul_right_comm]

/-- Scaling the queries scales the scores. -/
theorem scores_scaled (q : Fin 256 → EReal) (k : Fin 256 → Fin 256 → EReal) (j : Fin 256) :
    scores (fun d => q d * Ideal.ofBits .f32 0x3D800000#32) k j = scores q k j * Ideal.ofBits .f32 0x3D800000#32 := by
  unfold scores
  rw [ofBits_sixteenth, sum_mul_coe _ (by norm_num)]
  exact Finset.sum_congr rfl fun d _ => mul_right_comm _ _ _

theorem IsReal.scores {q : Fin 256 → EReal} {k : Fin 256 → Fin 256 → EReal} (hq : ∀ d, IsReal (q d)) (hk : ∀ j d, IsReal (k j d)) (j : Fin 256) : IsReal (scores q k j) :=
  IsReal.sum fun d => (hq d).mul (hk j d)

/-- Column `k` of what a row of queries gathers from the memory, as the mathematics has it. -/
def recalled (q : Fin 1024 → EReal) (kv : Fin 256 → Fin 2048 → EReal) (k : Fin 1024) : EReal :=
  shared (fun j => scores (fun d => q (mate k d)) (fun j d => kv j (keyCol (mate k d))) j * Ideal.ofBits .f32 0x3D800000#32) (fun j => kv j (valCol k))

/-- Cross attention's residual on one row. -/
def crossRow (x g : Fin 1024 → EReal) (wq wx : Fin 1024 → Fin 1024 → EReal) (kv : Fin 256 → Fin 2048 → EReal) (j : Fin 1024) : EReal :=
  x j + mulRow (recalled (mulRow (normRow x g) wq) kv) wx j

/-- Over real numbers the kernel's row is the mathematics' row. -/
theorem mixRow_eq {x g : Fin 1024 → EReal} {wq : Fin 1024 → Fin 1024 → EReal} {kv : Fin 256 → Fin 2048 → EReal} (hx : ∀ k, IsReal (x k)) (hg : ∀ k, IsReal (g k)) (hq : ∀ k n, IsReal (wq k n)) (hkv : ∀ j n, IsReal (kv j n)) (wx : Fin 1024 → Fin 1024 → EReal) (j : Fin 1024) :
    mixRow x g wq wx kv j = crossRow x g wq wx kv j := by
  unfold mixRow crossRow
  refine congrArg₂ (· + ·) rfl (congrArg (fun a => mulRow a wx j) (funext fun k => ?_))
  unfold gathered recalled
  refine (averaged_eq_shared (fun i => IsReal.scores (fun d => ?_) (fun j d => hkv j _) i) _).trans (congrArg (fun s => shared s _) (funext fun i => scores_scaled _ _ i))
  exact IsReal.mul (IsReal.mulRow (fun n => IsReal.normRow hx hg n) hq _) ⟨_, ofBits_sixteenth⟩

theorem IsReal.residRow {x : Fin 1024 → EReal} {a o : Fin 512 → EReal} {wo : Fin 1024 → Fin 1024 → EReal} (hx : ∀ k, IsReal (x k)) (ha : ∀ k, IsReal (a k)) (ho : ∀ k, IsReal (o k)) (hw : ∀ k n, IsReal (wo k n)) (j : Fin 1024) : IsReal (residRow x a o wo j) :=
  IsReal.add (IsReal.add (hx j) (IsReal.sum fun k => (ha k).mul (hw _ _))) (IsReal.sum fun k => (ho k).mul (hw _ _))

theorem IsReal.sides {b e : Fin 256 → EReal} (hb : ∀ k, IsReal (b k)) (he : ∀ k, IsReal (e k)) (k : Fin 512) : IsReal (sides b e k) := by
  unfold Mix.sides
  by_cases h : k.val < 256
  · rw [dif_pos h]
    exact hb _
  · rw [dif_neg h]
    exact he _

end Cert.Kernel3Ideal.Mix

end
-- ==== Proof.Reference3.lean ====
/- The output call's reference, a row at a time: the projection's residual, then cross attention over the memory. -/
module

public import proofs.«01_k».proof.Proof.Real3
public import proofs.«01_k».proof.Proof.Gen.Reference3Ideal.Run
public import Idealize.ShloMosaic.Lib.Pointwise

@[expose] public section

set_option maxRecDepth 16384

noncomputable section

namespace Cert.Reference3Ideal.Mix

open Idealize.ShloMosaic Idealize.ShloMosaic.TcCoe Idealize.ShloMosaic.Tactic
open Cert.Reference3Ideal Cert.Reference3Ideal.Gen
open Cert.KernelIdeal.Ffn (normRow mulRow)
open Cert.Kernel3Ideal.Mix (peak weight shared scores keyCol valCol mate residRow sides recalled crossRow)

/-- The reference's normalisation of the tokens, and of the memory. -/
def norm (x : FVec Ideal S4x4096x1024 .f32) (g : FVec Ideal S1024 .f32) : FVec Ideal S4x4096x1024 .f32 :=
  mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 g))
def memNorm (x : FVec Ideal S4x256x1024 .f32) (g : FVec Ideal S1024 .f32) : FVec Ideal S4x256x1024 .f32 :=
  mulf (mulf x (broadcastInDim S4x256x1024 ![0, 1, 2] bcast_S4x256x1_S4x256x1024_0_1_2 (Host.rsqrt (addf (Host.divf (broadcastInDim S4x256x1 ![0, 1] bcast_S4x256_S4x256x1_0_1 (Host.reduceAdd (mulf x x) (constant S_ .f32 0x00000000#32) reducesTo_S4x256x1024_S4x256_d2 h_S_)) (broadcastInDim S4x256x1 ![] bcast_S_S4x256x1 (constant S_ .f32 0x44800000#32))) (broadcastInDim S4x256x1 ![] bcast_S_S4x256x1 (constant S_ .f32 0x358637BD#32)))))) (broadcastInDim S4x256x1024 ![0, 1, 2] bcast_S1x1x1024_S4x256x1024_0_1_2 (broadcastInDim S1x1x1024 ![2] bcast_S1024_S1x1x1024_2 g))

/-- The residual of the output projection. -/
def mid (x : FVec Ideal S4x4096x1024 .f32) (a : FVec Ideal S4x4096x512 .f32) (b e : FVec Ideal S4x4096x256 .f32) (w : FVec Ideal S1024x1024 .f32) : FVec Ideal S4x4096x1024 .f32 :=
  addf x (Host.dotGeneral dot_S4x4096x1024_S1024x1024_S4x4096x1024_2_0_01_1_n_n none (concatenate S4x4096x1024 2 [⟨S4x4096x512, a⟩, ⟨S4x4096x256, b⟩, ⟨S4x4096x256, e⟩] concatenates_S4x4096x512_S4x4096x256_S4x4096x256_S4x4096x1024_d2) w)

/-- The memory's keys and values side by side, and each of the two by heads. -/
def pairs (mem : FVec Ideal S4x256x1024 .f32) (g : FVec Ideal S1024 .f32) (w : FVec Ideal S1024x2048 .f32) : FVec Ideal S4x256x2048 .f32 :=
  Host.dotGeneral dot_S4x256x1024_S1024x2048_S4x256x2048_2_0_01_1_n_n none (memNorm mem g) w
def keys (kv : FVec Ideal S4x256x2048 .f32) : FVec Ideal S4x256x4x256 .f32 :=
  shapeCast _ (extractStridedSlice S4x256x1x4x256 ![0, 0, 0, 0, 0] (shapeCast _ kv shapeCasts_S4x256x2048_S4x256x2x4x256) slices_S4x256x2x4x256_S4x256x1x4x256_0_0_0_0_0) shapeCasts_S4x256x1x4x256_S4x256x4x256
def values (kv : FVec Ideal S4x256x2048 .f32) : FVec Ideal S4x256x4x256 .f32 :=
  shapeCast _ (extractStridedSlice S4x256x1x4x256 ![0, 0, 1, 0, 0] (shapeCast _ kv shapeCasts_S4x256x2048_S4x256x2x4x256) slices_S4x256x2x4x256_S4x256x1x4x256_0_0_1_0_0) shapeCasts_S4x256x1x4x256_S4x256x4x256

/-- The scaled scores of queries against keys. -/
def logits (q : FVec Ideal S4x4096x1024 .f32) (k : FVec Ideal S4x256x4x256 .f32) : FVec Ideal S4x4x4096x256 .f32 :=
  mulf (Host.dotGeneral dot_S4x4096x4x256_S4x256x4x256_S4x4x4096x256_3_3_1_1_02_02 none (shapeCast _ q shapeCasts_S4x4096x1024_S4x4096x4x256) k) (broadcastInDim S4x4x4096x256 ![] bcast_S_S4x4x4096x256 (constant S_ .f32 0x3D800000#32))

/-- The largest score of each query. -/
def largest (s : FVec Ideal S4x4x4096x256 .f32) : FVec Ideal S4x4x4096 .f32 :=
  Host.reduce FloatOps.maximumf s (constant S_ .f32 0xFF800000#32) reducesTo_S4x4x4096x256_S4x4x4096_d3 h_S_

/-- The softmax: exponentials of what the scores lack of the largest, and their shares. -/
def lowered (s : FVec Ideal S4x4x4096x256 .f32) (l : FVec Ideal S4x4x4096 .f32) : FVec Ideal S4x4x4096x256 .f32 :=
  Host.exp (subf s (broadcastInDim S4x4x4096x256 ![0, 1, 2, 3] bcast_S4x4x4096x1_S4x4x4096x256_0_1_2_3 (broadcastInDim S4x4x4096x1 ![0, 1, 2] bcast_S4x4x4096_S4x4x4096x1_0_1_2 (maximumf (broadcastInDim S4x4x4096 ![] bcast_S_S4x4x4096 (constant S_ .f32 0xFF800000#32)) l))))
def raised (s : FVec Ideal S4x4x4096x256 .f32) : FVec Ideal S4x4x4096x256 .f32 := lowered s (largest s)
def shares (s : FVec Ideal S4x4x4096x256 .f32) : FVec Ideal S4x4x4096x256 .f32 :=
  Host.divf (raised s) (broadcastInDim S4x4x4096x256 ![0, 1, 2, 3] bcast_S4x4x4096x1_S4x4x4096x256_0_1_2_3 (broadcastInDim S4x4x4096x1 ![0, 1, 2] bcast_S4x4x4096_S4x4x4096x1_0_1_2 (Host.reduceAdd (raised s) (constant S_ .f32 0x00000000#32) reducesTo_S4x4x4096x256_S4x4x4096_d3 h_S_)))

/-- The values averaged with the shares, the heads side by side again. -/
def attended (v : FVec Ideal S4x256x4x256 .f32) (p : FVec Ideal S4x4x4096x256 .f32) : FVec Ideal S4x4096x1024 .f32 :=
  shapeCast _ (transpose S4x4096x4x256 [0, 3, 1, 2] (Host.dotGeneral dot_S4x256x4x256_S4x4x4096x256_S4x4x256x4096_1_3_3_2_02_01 none v p) transposes_S4x4x256x4096_S4x4096x4x256_0_3_1_2) shapeCasts_S4x4096x4x256_S4x4096x1024

/-- The cross attention's residual. -/
def cross (x q : FVec Ideal S4x4096x1024 .f32) (kv : FVec Ideal S4x256x2048 .f32) (w : FVec Ideal S1024x1024 .f32) : FVec Ideal S4x4096x1024 .f32 :=
  addf x (Host.dotGeneral dot_S4x4096x1024_S1024x1024_S4x4096x1024_2_0_01_1_n_n none (attended (values kv) (shares (logits q (keys kv)))) w)

/-- A token array times a matrix. -/
def project (x : FVec Ideal S4x4096x1024 .f32) (w : FVec Ideal S1024x1024 .f32) : FVec Ideal S4x4096x1024 .f32 :=
  Host.dotGeneral dot_S4x4096x1024_S1024x1024_S4x4096x1024_2_0_01_1_n_n none x w

/-- A stack's first layer. -/
def matrix (w : FVec Ideal S2x1024x1024 .f32) : FVec Ideal S1024x1024 .f32 :=
  shapeCast _ (extractStridedSlice S1x1024x1024 ![0, 0, 0] w slices_S2x1024x1024_S1x1024x1024_0_0_0) shapeCasts_S1x1024x1024_S1024x1024
def wide (w : FVec Ideal S2x1024x2048 .f32) : FVec Ideal S1024x2048 .f32 :=
  shapeCast _ (extractStridedSlice S1x1024x2048 ![0, 0, 0] w slices_S2x1024x2048_S1x1024x2048_0_0_0) shapeCasts_S1x1024x2048_S1024x2048
def gains (g : FVec Ideal S2x1024 .f32) : FVec Ideal S1024 .f32 :=
  shapeCast _ (extractStridedSlice S1x1024 ![0, 0] g slices_S2x1024_S1x1024_0_0) shapeCasts_S1x1024_S1024

theorem norm_apply (x : FVec Ideal S4x4096x1024 .f32) (g : FVec Ideal S1024 .f32) (b : Fin 4) (t : Fin 4096) (j : Fin 1024) :
    norm x g (ix3 b t j) = normRow (fun k => x (ix3 b t k)) (fun k => g (ix1 k)) j := by
  unfold norm
  pointwise
  rfl

theorem memNorm_apply (x : FVec Ideal S4x256x1024 .f32) (g : FVec Ideal S1024 .f32) (b : Fin 4) (t : Fin 256) (j : Fin 1024) :
    memNorm x g (ix3 b t j) = normRow (fun k => x (ix3 b t k)) (fun k => g (ix1 k)) j := by
  unfold memNorm
  pointwise
  rfl

theorem pairs_apply (mem : FVec Ideal S4x256x1024 .f32) (g : FVec Ideal S1024 .f32) (w : FVec Ideal S1024x2048 .f32) (b : Fin 4) (t : Fin 256) (n : Fin 2048) :
    pairs mem g w (ix3 b t n) = mulRow (normRow (fun k => mem (ix3 b t k)) (fun k => g (ix1 k))) (fun k n => w (ix2 k n)) n := by
  unfold pairs
  pointwise [memNorm_apply]
  rfl

theorem project_apply (x : FVec Ideal S4x4096x1024 .f32) (w : FVec Ideal S1024x1024 .f32) (b : Fin 4) (t : Fin 4096) (n : Fin 1024) :
    project x w (ix3 b t n) = mulRow (fun k => x (ix3 b t k)) (fun k n => w (ix2 k n)) n := by
  unfold project
  pointwise
  rfl

theorem matrix_apply (w : FVec Ideal S2x1024x1024 .f32) (k n : Fin 1024) : matrix w (ix2 k n) = w (ix3 0 k n) := by
  unfold matrix
  pointwise
theorem wide_apply (w : FVec Ideal S2x1024x2048 .f32) (k : Fin 1024) (n : Fin 2048) : wide w (ix2 k n) = w (ix3 0 k n) := by
  unfold wide
  pointwise
theorem gains_apply (g : FVec Ideal S2x1024 .f32) (k : Fin 1024) : gains g (ix1 k) = g (ix2 0 k) := by
  unfold gains
  pointwise

theorem keys_apply (kv : FVec Ideal S4x256x2048 .f32) (b : Fin 4) (j : Fin 256) (h : Fin 4) (d : Fin 256) :
    keys kv (ix4 b j h d) = kv (ix3 b j (⟨h.val * 256 + d.val, by omega⟩ : Fin 2048)) := by
  unfold keys
  pointwise
theorem values_apply (kv : FVec Ideal S4x256x2048 .f32) (b : Fin 4) (j : Fin 256) (h : Fin 4) (d : Fin 256) :
    values kv (ix4 b j h d) = kv (ix3 b j (⟨1024 + (h.val * 256 + d.val), by omega⟩ : Fin 2048)) := by
  unfold values
  pointwise
  exact congrArg kv (congrArg (ix3 b j) (Fin.ext (by show 1024 + h.val * 256 + d.val = 1024 + (h.val * 256 + d.val); omega)))

theorem logits_apply (q : FVec Ideal S4x4096x1024 .f32) (k : FVec Ideal S4x256x4x256 .f32) (b h : Fin 4) (t : Fin 4096) (j : Fin 256) :
    logits q k (ix4 b h t j) = scores (fun d => q (ix3 b t (⟨h.val * 256 + d.val, by omega⟩ : Fin 1024))) (fun j d => k (ix4 b j h d)) j * Ideal.ofBits .f32 0x3D800000#32 := by
  unfold logits
  pointwise
  rfl

theorem largest_apply (s : FVec Ideal S4x4x4096x256 .f32) (b h : Fin 4) (t : Fin 4096) : largest s (ix3 b h t) = peak fun j => s (ix4 b h t j) := by
  unfold largest
  simp only [Host.reduce_eq_fold, Ideal.maximumf_eq_max]
  simp only [Shape.ReducesTo.fold_fiber_r4_a3]
  rfl

theorem lowered_apply (s : FVec Ideal S4x4x4096x256 .f32) (l : FVec Ideal S4x4x4096 .f32) (b h : Fin 4) (t : Fin 4096) (j : Fin 256) :
    lowered s l (ix4 b h t j) = Ideal.exp (s (ix4 b h t j) - l (ix3 b h t)) := by
  unfold lowered
  pointwise
  rw [Cert.Kernel3Ideal.Mix.ofBits_bot, max_eq_right bot_le]

theorem raised_apply (s : FVec Ideal S4x4x4096x256 .f32) (b h : Fin 4) (t : Fin 4096) (j : Fin 256) :
    raised s (ix4 b h t j) = weight (fun j => s (ix4 b h t j)) j :=
  (lowered_apply s (largest s) b h t j).trans (congrArg (fun l => Ideal.exp (s (ix4 b h t j) - l)) (largest_apply s b h t))

theorem attended_apply (v : FVec Ideal S4x256x4x256 .f32) (s : FVec Ideal S4x4x4096x256 .f32) (b : Fin 4) (t : Fin 4096) (n : Fin 1024) :
    attended v (shares s) (ix3 b t n) = shared (fun j => s (ix4 b (⟨n.val / 256, by omega⟩ : Fin 4) t j)) (fun j => v (ix4 b j (⟨n.val / 256, by omega⟩ : Fin 4) (⟨n.val % 256, by omega⟩ : Fin 256))) := by
  unfold attended shares
  pointwise [raised_apply]
  exact Finset.sum_congr rfl fun j _ => mul_comm _ _

/-- A row of the residual: the projection's sum taken in its two halves, the second of them over both convolutions' channels. -/
theorem mid_apply (x : FVec Ideal S4x4096x1024 .f32) (a : FVec Ideal S4x4096x512 .f32) (b e : FVec Ideal S4x4096x256 .f32) (w : FVec Ideal S1024x1024 .f32) (n : Fin 4) (t : Fin 4096) (j : Fin 1024) :
    mid x a b e w (ix3 n t j) = residRow (fun j => x (ix3 n t j)) (fun k => a (ix3 n t k)) (sides (fun k => b (ix3 n t k)) (fun k => e (ix3 n t k))) (fun k j => w (ix2 k j)) j := by
  unfold mid
  pointwise
  unfold residRow
  rw [add_assoc]
  refine congrArg₂ (· + ·) rfl ?_
  refine (Fin.sum_univ_add (a := 512) (b := 512) _).trans (congrArg₂ (· + ·) (Finset.sum_congr rfl fun k _ => ?_) (Finset.sum_congr rfl fun k _ => ?_))
  · refine congrArg₂ (· * ·) ?_ rfl
    exact dif_pos k.isLt
  · refine congrArg₂ (· * ·) ?_ rfl
    have e : 512 + k.val - 512 = k.val := by omega
    unfold sides
    refine (dif_neg (by show ¬ 512 + k.val < 512; omega)).trans ?_
    by_cases h : k.val < 256
    · rw [dif_pos h]
      refine (dif_pos (by show 512 + k.val - 512 < 256; omega)).trans ?_
      exact congrArg b (congrArg (ix3 n t) (Fin.ext e))
    · rw [dif_neg h]
      refine (dif_neg (by show ¬ 512 + k.val - 512 < 256; omega)).trans ?_
      exact congrArg _ (congrArg (ix3 n t) (Fin.ext (congrArg (· - 256) e)))

theorem cross_apply (x q : FVec Ideal S4x4096x1024 .f32) (kv : FVec Ideal S4x256x2048 .f32) (w : FVec Ideal S1024x1024 .f32) (b : Fin 4) (t : Fin 4096) (j : Fin 1024) :
    cross x q kv w (ix3 b t j) = x (ix3 b t j) + mulRow (recalled (fun n => q (ix3 b t n)) (fun j n => kv (ix3 b j n))) (fun k n => w (ix2 k n)) j := by
  unfold cross
  pointwise
  refine congrArg₂ (· + ·) rfl (Finset.sum_congr rfl fun n _ => congrArg (· * _) ?_)
  refine (attended_apply _ _ b t n).trans ?_
  simp only [logits_apply, keys_apply, values_apply]
  unfold recalled
  refine congrArg (shared _) (funext fun i => congrArg kv (congrArg (ix3 b i) (Fin.ext ?_)))
  show 1024 + (n.val / 256 * 256 + n.val % 256) = 1024 + n.val
  omega

set_option maxHeartbeats 1600000 in
theorem res_eq (m : (ℓ : Loc nD τ sig) → Buf (Elt Ideal) ℓ) (c : Dev nD) (A0 : FVec Ideal S4x4096x1024 .f32) (A1 : FVec Ideal S4x4096x512 .f32) (A2 A3 : FVec Ideal S4x4096x256 .f32) (A4 : FVec Ideal S4x256x1024 .f32) (A5 : FVec Ideal S2x1024x1024 .f32) (A6 A7 : FVec Ideal S2x1024 .f32) (A8 : FVec Ideal S2x1024x1024 .f32) (A9 : FVec Ideal S2x1024x2048 .f32) (A10 : FVec Ideal S2x1024x1024 .f32)
    (h0 : m ((c.tc : Thread nD τ).loc main_arg0) = A0) (h1 : m ((c.tc : Thread nD τ).loc main_arg1) = A1) (h2 : m ((c.tc : Thread nD τ).loc main_arg2) = A2) (h3 : m ((c.tc : Thread nD τ).loc main_arg3) = A3) (h4 : m ((c.tc : Thread nD τ).loc main_arg4) = A4) (h5 : m ((c.tc : Thread nD τ).loc main_arg5) = A5) (h6 : m ((c.tc : Thread nD τ).loc main_arg6) = A6) (h7 : m ((c.tc : Thread nD τ).loc main_arg7) = A7) (h8 : m ((c.tc : Thread nD τ).loc main_arg8) = A8) (h9 : m ((c.tc : Thread nD τ).loc main_arg9) = A9) (h10 : m ((c.tc : Thread nD τ).loc main_arg10) = A10) :
    Value.res_main_v67 (F := Ideal) m c = cross (mid A0 A1 A2 A3 (matrix A5)) (project (norm (mid A0 A1 A2 A3 (matrix A5)) (gains A6)) (matrix A8)) (pairs A4 (gains A7) (wide A9)) (matrix A10) := by
  subst h0 h1 h2 h3 h4 h5 h6 h7 h8 h9 h10
  unfold Value.res_main_v67 cross attended shares raised lowered largest logits keys values pairs memNorm project norm mid matrix wide gains
  rfl

/-- The reference's result, row by row. -/
theorem res_apply (m : (ℓ : Loc nD τ sig) → Buf (Elt Ideal) ℓ) (c : Dev nD) (A0 : FVec Ideal S4x4096x1024 .f32) (A1 : FVec Ideal S4x4096x512 .f32) (A2 A3 : FVec Ideal S4x4096x256 .f32) (A4 : FVec Ideal S4x256x1024 .f32) (A5 : FVec Ideal S2x1024x1024 .f32) (A6 A7 : FVec Ideal S2x1024 .f32) (A8 : FVec Ideal S2x1024x1024 .f32) (A9 : FVec Ideal S2x1024x2048 .f32) (A10 : FVec Ideal S2x1024x1024 .f32)
    (h0 : m ((c.tc : Thread nD τ).loc main_arg0) = A0) (h1 : m ((c.tc : Thread nD τ).loc main_arg1) = A1) (h2 : m ((c.tc : Thread nD τ).loc main_arg2) = A2) (h3 : m ((c.tc : Thread nD τ).loc main_arg3) = A3) (h4 : m ((c.tc : Thread nD τ).loc main_arg4) = A4) (h5 : m ((c.tc : Thread nD τ).loc main_arg5) = A5) (h6 : m ((c.tc : Thread nD τ).loc main_arg6) = A6) (h7 : m ((c.tc : Thread nD τ).loc main_arg7) = A7) (h8 : m ((c.tc : Thread nD τ).loc main_arg8) = A8) (h9 : m ((c.tc : Thread nD τ).loc main_arg9) = A9) (h10 : m ((c.tc : Thread nD τ).loc main_arg10) = A10)
    (b : Fin 4) (t : Fin 4096) (j : Fin 1024) :
    (Value.res_main_v67 (F := Ideal) m c : FVec Ideal S4x4096x1024 .f32) (ix3 b t j)
      = crossRow (residRow (fun k => A0 (ix3 b t k)) (fun k => A1 (ix3 b t k)) (sides (fun k => A2 (ix3 b t k)) (fun k => A3 (ix3 b t k))) (fun k n => A5 (ix3 0 k n)))
          (fun k => A6 (ix2 0 k)) (fun k n => A8 (ix3 0 k n)) (fun k n => A10 (ix3 0 k n))
          (fun i => mulRow (normRow (fun k => A4 (ix3 b i k)) (fun k => A7 (ix2 0 k))) (fun k n => A9 (ix3 0 k n))) j := by
  rw [res_eq m c A0 A1 A2 A3 A4 A5 A6 A7 A8 A9 A10 h0 h1 h2 h3 h4 h5 h6 h7 h8 h9 h10, cross_apply]
  simp only [project_apply, norm_apply, mid_apply, pairs_apply, matrix_apply, wide_apply, gains_apply]
  rfl

end Cert.Reference3Ideal.Mix

end
-- ==== Proof.Finite3.lean ====
/- What the precondition says of the output call's arguments: every element it covers is a real number. -/
module

public import proofs.«01_k».proof.Pre_finite
public import proofs.«01_k».proof.Proof.Real3
public import Idealize.ShloMosaic.Lib.ReduceAll
public import Idealize.ShloMosaic.Lib.Pointwise.Select

@[expose] public section

set_option maxRecDepth 16384

noncomputable section

namespace Cert.Pre_finite

open Idealize.ShloMosaic
open Cert.Kernel3Ideal.Mix (IsReal)

instance facts : Facts where
  bcast_S_S4x4096x1024 := by decide
  reducesTo_S4x4096x1024_S_d0_1_2 := by decide
  h_S_ := by decide
  bcast_S_S4x4096x512 := by decide
  reducesTo_S4x4096x512_S_d0_1_2 := by decide
  bcast_S_S4x4096x256 := by decide
  reducesTo_S4x4096x256_S_d0_1_2 := by decide
  bcast_S_S4x256x1024 := by decide
  reducesTo_S4x256x1024_S_d0_1_2 := by decide
  bcast_S_S2x1024x1024 := by decide
  reducesTo_S2x1024x1024_S_d0_1_2 := by decide
  bcast_S_S2x1024 := by decide
  reducesTo_S2x1024_S_d0_1 := by decide
  bcast_S_S2x1024x2048 := by decide
  reducesTo_S2x1024x2048_S_d0_1_2 := by decide

/-- A value whose size is below infinity is a real number. -/
theorem real_of_small (x : EReal) (h : max x (-x) < ⊤) : IsReal x := by
  induction x using EReal.rec with
  | bot => simp at h
  | coe r => exact ⟨r, rfl⟩
  | top => simp at h

theorem ofBits_top : Ideal.ofBits .f32 0x7F800000#32 = ⊤ := by
  simp [Ideal.ofBits, Ideal.ieee]

/-- An array whose elements all pass the test holds real numbers. -/
theorem real_of_all {s : Shape} {axes : List (Fin s.rank)} (x : FVec Ideal s .f32) (hb : S_.BroadcastsInDim s (![] : Fin 0 → Fin s.rank)) (hr : s.ReducesTo axes S_) (hu : 0 < S_.numel) (j : S_.Idx)
    (e : Host.reduce IntOp.andi (cmpf .olt (Host.absf x) (broadcastInDim s ![] hb (constant (F := Ideal) S_ .f32 0x7F800000#32))) (constantI S_ 1 1#1) hr hu j = 1#1) (i : s.Idx) : IsReal (x i) := by
  haveI : Subsingleton S_.Idx := ⟨fun a b => funext fun k => k.elim0⟩
  have h := Host.reduce_andi_all _ _ hr hu j e i
  have h' : Ideal.cmp .olt (max (x i : EReal) (-(x i : EReal))) (Ideal.ofBits .f32 0x7F800000#32) = 1 := h
  rw [Ideal.cmp_olt_eq_one, ofBits_top] at h'
  exact real_of_small _ h'

/-- Both sides of a conjunction that holds hold. -/
theorem both {a b : IVec S_ 1} {j : S_.Idx} (h : andi a b j = 1#1) : a j = 1#1 ∧ b j = 1#1 := IntOp.andi_eq_one.1 h

/-- The precondition, read: the ten arrays it covers hold real numbers. -/
theorem real_of_fn (x0 : FVec Ideal S4x4096x1024 .f32) (x1 : FVec Ideal S4x4096x512 .f32) (x2 : FVec Ideal S4x4096x256 .f32) (x3 : FVec Ideal S4x4096x256 .f32) (x4 : FVec Ideal S4x256x1024 .f32) (x5 : FVec Ideal S2x1024x1024 .f32) (x6 : FVec Ideal S2x1024 .f32) (x7 : FVec Ideal S2x1024 .f32) (x8 : FVec Ideal S2x1024x1024 .f32) (x9 : FVec Ideal S2x1024x2048 .f32) (x10 : FVec Ideal S2x1024x1024 .f32)
    (h : fn (F := Ideal) x0 x1 x2 x3 x4 x5 x6 x7 x8 x9 x10 = fun _ => 1#1) :
    (∀ i, IsReal (x0 i)) ∧ (∀ i, IsReal (x1 i)) ∧ (∀ i, IsReal (x2 i)) ∧ (∀ i, IsReal (x3 i)) ∧ (∀ i, IsReal (x4 i)) ∧ (∀ i, IsReal (x5 i)) ∧ (∀ i, IsReal (x6 i)) ∧ (∀ i, IsReal (x7 i)) ∧ (∀ i, IsReal (x8 i)) ∧ (∀ i, IsReal (x9 i)) := by
  have j : S_.Idx := fun k => k.elim0
  have h := congrFun h j
  unfold fn fn_part1 fn_part2 at h
  dsimp only at h
  obtain ⟨h, h9⟩ := both h
  obtain ⟨h, h8⟩ := both h
  obtain ⟨h, h7⟩ := both h
  obtain ⟨h, h6⟩ := both h
  obtain ⟨h, h5⟩ := both h
  obtain ⟨h, h4⟩ := both h
  obtain ⟨h, h3⟩ := both h
  obtain ⟨h, h2⟩ := both h
  obtain ⟨h, h1⟩ := both h
  exact ⟨real_of_all _ _ _ _ _ h, real_of_all _ _ _ _ _ h1, real_of_all _ _ _ _ _ h2, real_of_all _ _ _ _ _ h3, real_of_all _ _ _ _ _ h4, real_of_all _ _ _ _ _ h5, real_of_all _ _ _ _ _ h6, real_of_all _ _ _ _ _ h7, real_of_all _ _ _ _ _ h8, real_of_all _ _ _ _ _ h9⟩

end Cert.Pre_finite

end
-- ==== Proof.Body4.lean ====
/- The attention call: its body runs from any contents of its buffers, every rectangle inside its buffer, and so the launch ends with the arguments as they were. -/
module

public import proofs.«01_k».proof.Proof.Gen.Kernel4Ideal.Frame
public import proofs.«01_k».proof.Proof.Gen.Kernel4Ideal.Skeleton
public import proofs.«01_k».proof.Proof.Gen.Kernel4Ideal.Loops
public import proofs.«01_k».proof.Proof.Gen.Kernel4Ideal.Points
public import Idealize.ShloMosaic.Lib.Claim
public import Idealize.ShloMosaic.Lib.Pipeline.FrameBody

@[expose] public section

set_option maxRecDepth 16384

noncomputable section

namespace Cert.Kernel4Ideal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

/-- An item of the walk over the causal half: query block `q`, key block `c`, with `c ≤ q ≤ 7`. -/
structure Item (q c : BitVec 32) : Prop where
  le : c.toNat ≤ q.toNat
  lt : q.toNat ≤ 7

/-- There are few items: a property of them all is decided one by one. -/
theorem Item.all {P : BitVec 32 → BitVec 32 → Prop} (h : ∀ q c : Fin 8, c ≤ q → P (BitVec.ofNat 32 q.val) (BitVec.ofNat 32 c.val))
    {q c : BitVec 32} (hi : Item q c) : P q c := by
  obtain ⟨h1, h2⟩ := hi
  have e := h ⟨q.toNat, by omega⟩ ⟨c.toNat, by omega⟩ h1
  rwa [BitVec.ofNat_toNat, BitVec.ofNat_toNat, BitVec.setWidth_eq, BitVec.setWidth_eq] at e

instance (q c : BitVec 32) : Decidable (Item q c) := decidable_of_iff (c.toNat ≤ q.toNat ∧ q.toNat ≤ 7) ⟨fun h => ⟨h.1, h.2⟩, fun h => ⟨h.1, h.2⟩⟩

/-- The next item is one, and every rectangle taken at an item lies inside its buffer. -/
theorem Item.next {q c : BitVec 32} (hi : Item q c) :
    Item (Scalar.select (Scalar.cmpi .eq (Scalar.addi q (Scalar.extui (Scalar.cmpi .eq c q))) 8#32) 0#32 (Scalar.addi q (Scalar.extui (Scalar.cmpi .eq c q))))
      (Scalar.select (Scalar.cmpi .eq (Scalar.addi q (Scalar.extui (Scalar.cmpi .eq c q))) 8#32) 0#32 (Scalar.select (Scalar.cmpi .eq c q) 0#32 (Scalar.addi c 1#32))) :=
  Item.all (P := fun q c => Item (Scalar.select (Scalar.cmpi .eq (Scalar.addi q (Scalar.extui (Scalar.cmpi .eq c q))) 8#32) 0#32 (Scalar.addi q (Scalar.extui (Scalar.cmpi .eq c q))))
      (Scalar.select (Scalar.cmpi .eq (Scalar.addi q (Scalar.extui (Scalar.cmpi .eq c q))) 8#32) 0#32 (Scalar.select (Scalar.cmpi .eq c q) 0#32 (Scalar.addi c 1#32)))) (by decide +kernel) hi
theorem Item.ok1 {q c : BitVec 32} : Item q c → k0_chk1 q c := Item.all (by decide +kernel)
theorem Item.ok2 {q c : BitVec 32} : Item q c → k0_chk2 c := Item.all (P := fun _ c => k0_chk2 c) (by decide +kernel)
theorem Item.ok3 {q c : BitVec 32} : Item q c → k0_chk3 q := Item.all (P := fun q _ => k0_chk3 q) (by decide +kernel)
theorem Item.ok4 {q c : BitVec 32} : Item q c → k0_chk4 c := Item.all (P := fun _ c => k0_chk4 c) (by decide +kernel)
theorem Item.ok5 {q c : BitVec 32} : Item q c → k0_chk5 q := Item.all (P := fun q _ => k0_chk5 q) (by decide +kernel)
theorem Item.ok6 {q c : BitVec 32} : Item q c → k0_chk6 q := Item.all (P := fun q _ => k0_chk6 q) (by decide +kernel)

/-- The contents of a memref's buffer, and the buffer held whole at them or at any contents. -/
abbrev BufOf (c : Dev nD) {sp : Space} {S : Shape} {e : EltTy} (M : Memref sig .tc sp S e) : Type := Buf (Elt F) (M.view.loc (c : Thread nD τ))
abbrev held (c : Dev nD) {sp : Space} {S : Shape} {e : EltTy} (M : Memref sig .tc sp S e) (f : BufOf (F := F) c M) : sProp 𝕄 :=
  M.view.loc (c : Thread nD τ) ↦[M.view.set]{fullShare} f
abbrev heldAny (c : Dev nD) {sp : Space} {S : Shape} {e : EltTy} (M : Memref sig .tc sp S e) : sProp 𝕄 :=
  iprop(∃ f : BufOf (F := F) c M, held c M f)

section Trip
variable (c : Dev nD) (i : grid0.Coords) (arg2 : Memref sig .tc .vmem S4x64 .f32) (harg2 : arg2.IsWhole) (arg3 : Memref sig .tc .vmem S128x512 .f32) (harg3 : arg3.IsWhole) (arg4 : Memref sig .tc .vmem S1x8x128x512 .bf16) (harg4 : arg4.IsWhole) (arg5 : Memref sig .tc .vmem S1x4096x128 .bf16) (harg5 : arg5.IsWhole) (arg6 : Memref sig .tc .vmem S1x8x144x512 .bf16) (harg6 : arg6.IsWhole) (arg7 : Memref sig .tc .vmem S1x8x128x512 .bf16) (harg7 : arg7.IsWhole) (arg8 : Memref sig .tc .vmem S8x128x1024 .bf16) (harg8 : arg8.IsWhole) (arg9 : Memref sig .tc .vmem S2x512x1024 .f32) (harg9 : arg9.IsWhole) (arg10 : Memref sig .tc .vmem S8x1x1024 .f32) (harg10 : arg10.IsWhole) (arg11 : Memref sig .tc .vmem S8x144x1024 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x1024 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole)
  (v4 : F .f32) (v166 v167 v174 v175 v222 : BitVec 32) (init : BitVec 32 × BitVec 32 × BitVec 32 × BitVec 32 × BitVec 32 × BitVec 32)

set_option warn.classDefReducibility false in
set_option maxHeartbeats 1600000 in
/-- Before each trip the carried items are items, the keys, the values, the queries and the masks stand as they were, and
    the rest is held at some contents. -/
@[sl_loop] def loopInv (f5 : BufOf (F := F) c arg5) (f6 : BufOf (F := F) c arg6) (f8 : BufOf (F := F) c arg8) (f9 : BufOf (F := F) c arg9) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v4 v166 v167 v174 v175 v222 init where
  inv k acc := iprop(⌜Item acc.1 acc.2.1 ∧ Item acc.2.2.1 acc.2.2.2.1 ∧ Item acc.2.2.2.2.1 acc.2.2.2.2.2⌝ ∗ held c arg5 f5 ∗ held c arg6 f6 ∗ held c arg8 f8 ∗ held c arg9 f9 ∗ heldAny c arg10 ∗ heldAny c arg11 ∗ heldAny c arg12 ∗ heldAny c arg13 ∗ heldAny c arg14 ∗ heldAny c arg15 ∗ heldAny c arg16 ∗ heldAny c arg17 ∗ heldAny c arg18 ∗ heldAny c arg19)
  step k acc := by
    obtain ⟨a21, a22, a23, a24, a25, a26⟩ := acc
    unfold k0_t1_body
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    iintro ⟨%hi, H5, H6, H8, H9, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩⟩
    obtain ⟨i1, i2, i3⟩ := hi
    have c1 := i3.ok1; have c2 := i1.ok2; have c3 := i1.ok3; have c4 := i2.ok4; have c5 := i2.ok5; have c6 := i3.ok6
    sl_exec_parts
    sl_step
    isplitr
    · ipureintro
      have n1 : Item (loopInv.sl.v557 a25 a26) (loopInv.sl.v558 a25 a26) := by
        delta loopInv.sl.v558 loopInv.sl.v557 loopInv.sl.v556 loopInv.sl.v555 loopInv.sl.v554 loopInv.sl.v553 loopInv.sl.v552 loopInv.sl.v551
        exact i3.next
      have n2 : Item (loopInv.sl.v718 a25 a26) (loopInv.sl.v719 a25 a26) := by
        delta loopInv.sl.v719 loopInv.sl.v718 loopInv.sl.v717 loopInv.sl.v716 loopInv.sl.v715 loopInv.sl.v714 loopInv.sl.v713 loopInv.sl.v712
        exact n1.next
      have n3 : Item (loopInv.sl.v879 a25 a26) (loopInv.sl.v880 a25 a26) := by
        delta loopInv.sl.v880 loopInv.sl.v879 loopInv.sl.v878 loopInv.sl.v877 loopInv.sl.v876 loopInv.sl.v875 loopInv.sl.v874 loopInv.sl.v873
        exact n2.next
      have n4 : Item (loopInv.sl.v1040 a25 a26) (loopInv.sl.v1041 a25 a26) := by
        delta loopInv.sl.v1041 loopInv.sl.v1040 loopInv.sl.v1039 loopInv.sl.v1038 loopInv.sl.v1037 loopInv.sl.v1036 loopInv.sl.v1035 loopInv.sl.v1034
        exact n3.next
      dsimp only
      exact And.intro n2 (And.intro n3 n4)
    isplitl [H5]; · iexact H5
    isplitl [H6]; · iexact H6
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19

end Trip

set_option maxHeartbeats 1600000 in
/-- The body runs from any contents of its buffers and gives all of them back. -/
theorem body_run (c : Dev nD) (i : grid0.Coords) (arg2 : Memref sig .tc .vmem S4x64 .f32) (harg2 : arg2.IsWhole) (arg3 : Memref sig .tc .vmem S128x512 .f32) (harg3 : arg3.IsWhole) (arg4 : Memref sig .tc .vmem S1x8x128x512 .bf16) (harg4 : arg4.IsWhole) (arg5 : Memref sig .tc .vmem S1x4096x128 .bf16) (harg5 : arg5.IsWhole) (arg6 : Memref sig .tc .vmem S1x8x144x512 .bf16) (harg6 : arg6.IsWhole) (arg7 : Memref sig .tc .vmem S1x8x128x512 .bf16) (harg7 : arg7.IsWhole) (arg8 : Memref sig .tc .vmem S8x128x1024 .bf16) (harg8 : arg8.IsWhole) (arg9 : Memref sig .tc .vmem S2x512x1024 .f32) (harg9 : arg9.IsWhole) (arg10 : Memref sig .tc .vmem S8x1x1024 .f32) (harg10 : arg10.IsWhole) (arg11 : Memref sig .tc .vmem S8x144x1024 .f32) (harg11 : arg11.IsWhole) (arg12 : Memref sig .tc .vmem S512x1024 .f32) (harg12 : arg12.IsWhole) (arg13 : Memref sig .tc .vmem S512x1024 .f32) (harg13 : arg13.IsWhole) (arg14 : Memref sig .tc .vmem S512x1024 .f32) (harg14 : arg14.IsWhole) (arg15 : Memref sig .tc .vmem S512x1024 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole) (K : PUnit → sProp 𝕄) :
    iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop((∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)) -∗ K ⟨⟩))
      ⊢ wp frame (wpE (defs₀ (F := F)) Variants.none c none) Set.univ (cc0_diff_attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_diff_attn_eq_skeleton]; unfold cc0_diff_attn_skel
  simp only [k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton]
  unfold owns
  iintro ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
  have s0 : Item 0#32 0#32 := by decide
  have s1 : Item 1#32 0#32 := by decide
  have s2 : Item 1#32 1#32 := by decide
  sl_exec_parts
  sl_step
  iapply Hk
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  · iexists _, _; isplitr; swap; · iexact H19
    ipureintro; rfl

variable (m : (ℓ : Loc nD τ sig) → Buf (Elt F) ℓ) (ρ : Dev nD → PrngReg)

/-- Nothing is said of any window's contents: no argument is an array that the launch stages. -/
def forgets : Fin 6 → Bool := fun _ => true

/-- The proof data: the arrays as the region finds them, what the body leaves unnamed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by dsimp only [dats]

/-- What the body is handed at a point, and what it hands back. -/
def pre (c : Dev nD) (t : Fin cfg0.N) : sProp 𝕄 :=
  iprop((dats m 0 c).Φ t.castSucc ∗ (dats m 0 c).owesAt () t.castSucc ∗ (∃ d, owns (c : Thread nD τ) (st0_0 t) fullShare d) ∗ (∃ d, owns (c : Thread nD τ) (st0_1 t) fullShare d) ∗ (∃ d, owns (c : Thread nD τ) (st0_2 t) fullShare d) ∗ (∃ d, owns (c : Thread nD τ) (st0_3 t) fullShare d) ∗ (∃ d, owns (c : Thread nD τ) (st0_4 t) fullShare d) ∗ (∃ d, owns (c : Thread nD τ) (st0_5 t) fullShare d))
def post (c : Dev nD) (t : Fin cfg0.N) : sProp 𝕄 :=
  iprop((dats m 0 c).Φ t.succ ∗ (dats m 0 c).owesAt () t.succ ∗ (∃ d, owns (c : Thread nD τ) (st0_0 t) fullShare d) ∗ (∃ d, owns (c : Thread nD τ) (st0_1 t) fullShare d) ∗ (∃ d, owns (c : Thread nD τ) (st0_2 t) fullShare d) ∗ (∃ d, owns (c : Thread nD τ) (st0_3 t) fullShare d) ∗ (∃ d, owns (c : Thread nD τ) (st0_4 t) fullShare d) ∗ (∃ d, owns (c : Thread nD τ) (st0_5 t) fullShare d))

/-- The body at any point. -/
theorem sound (c : Dev nD) (t : Fin cfg0.N) :
    pre m c t ⊢ wp frame (wpE (defs₀ (F := F)) Variants.none c none) Set.univ (bodyAt0 t) (fun _ => post m c t) := by
  unfold pre post bodyAt0
  rw [show (dats m 0 c).Φ t.succ = (dats m 0 c).Φ t.castSucc from rfl, show (dats m 0 c).owesAt () t.succ = (dats m 0 c).owesAt () t.castSucc from rfl,
    show (dats m 0 c).Φ t.castSucc = Pipeline.ΦA spec0 c from rfl]
  unfold Pipeline.ΦA
  rw [scopedRest0_eq]
  simp only [← owns_whole]
  iintro ⟨⟨⟨HS0, HS1, HS2, HS3, HS4, HS5, HS6, HS7, HS8, HS9, HS10, HS11⟩, Hg⟩, HO, H0, H1, H2, H3, H4, H5⟩
  iapply (body_run c (grid0.coords t) _ _ _ _ _ _ _ _ _ _ _ _ _ _ _ _ _ _ _ _ _ _ _ _ _ _ _ _ _ _ _ _ _ _ _ _ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  iintro ⟨H0, H1, H2, H3, H4, H5, HS0, HS1, HS2, HS3, HS4, HS5, HS6, HS7, HS8, HS9, HS10, HS11⟩
  isplitl [HS0 HS1 HS2 HS3 HS4 HS5 HS6 HS7 HS8 HS9 HS10 HS11 Hg]
  · isplitr [Hg]; swap; · iexact Hg
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    iexact HS11
  isplitl [HO]; · iexact HO
  isplitl [H0]; · iexact H0
  isplitl [H1]; · iexact H1
  isplitl [H2]; · iexact H2
  isplitl [H3]; · iexact H3
  isplitl [H4]; · iexact H4
  iexact H5

/-- The body table's row at point `t`'s slots is the body at the point's buffers. -/
theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ forgets := fun t => by
  rw [bigSep_W0, bigSep_W0, row]
  exact triple_restated (sound m c t) rfl .rfl fun _ => .rfl

set_option backward.isDefEq.respectTransparency.types false in
/-- Every run of the program ends, every array outside the launch as the region found it and every counter at zero. -/
theorem run_main : θ_run defs (onTc (τ := τ) (main (F := F))) (s₀ m ρ)
    (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (obligation m c).loose) (hshare := fun c => (dats m 0 c).share_full fun _ => rfl)
    (howed := fun _ _ => rfl) (V := V m) (hmain := hmain m Variants.none) (hA := A_eq m) (hΦ := fun _ _ => rfl) (hQ' := fun _ h => h)

/-- The frame: the arguments end as they were and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7))
      ∧ r.2.sem = fun _ => 0) :=
  (θ_run defs _ _).mono (fun _ h => ⟨fun c => ⟨((h.1 c).2 main_arg0 (Pipeline.mem_restRefs_of main_arg0 (by decide) (by decide))).trans (V_main_arg0 m c), ((h.1 c).2 main_arg1 (Pipeline.mem_restRefs_of main_arg1 (by decide) (by decide))).trans (V_main_arg1 m c), ((h.1 c).2 main_arg2 (Pipeline.mem_restRefs_of main_arg2 (by decide) (by decide))).trans (V_main_arg2 m c), ((h.1 c).2 main_arg3 (Pipeline.mem_restRefs_of main_arg3 (by decide) (by decide))).trans (V_main_arg3 m c), ((h.1 c).2 main_arg4 (Pipeline.mem_restRefs_of main_arg4 (by decide) (by decide))).trans (V_main_arg4 m c), ((h.1 c).2 main_arg5 (Pipeline.mem_restRefs_of main_arg5 (by decide) (by decide))).trans (V_main_arg5 m c), ((h.1 c).2 main_arg6 (Pipeline.mem_restRefs_of main_arg6 (by decide) (by decide))).trans (V_main_arg6 m c), ((h.1 c).2 main_arg7 (Pipeline.mem_restRefs_of main_arg7 (by decide) (by decide))).trans (V_main_arg7 m c)⟩, h.2⟩) (run_main m ρ)

end Cert.Kernel4Ideal.Attn

end
-- ==== Proof.lean ====
/- The claims about the four calls, put together. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Run
public import proofs.«01_k».proof.Proof.Final
public import Idealize.ShloMosaic.Lib.Quiescent
public import proofs.«01_k».proof.Proof.Gen.Kernel2
public import proofs.«01_k».proof.Proof.Final2
public import proofs.«01_k».proof.Proof.Final3
public import proofs.«01_k».proof.Proof.Reference3
public import proofs.«01_k».proof.Proof.Finite3
public import proofs.«01_k».proof.Proof.Gen.Kernel3
public import proofs.«01_k».proof.Proof.Gen.Kernel3Ideal
public import proofs.«01_k».proof.Proof.Gen.Reference3Ideal
public import proofs.«01_k».proof.Proof.Gen.Kernel3Ideal.Frame
public import proofs.«01_k».proof.Proof.Gen.Kernel3Ideal.Points
public import proofs.«01_k».proof.Proof.Gen.Kernel3Ideal.Skeleton
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Frame
public import proofs.«01_k».proof.Proof.Gen.Kernel4Ideal.Skeleton
public import proofs.«01_k».proof.Proof.Gen.Kernel4Ideal.Points
public import proofs.«01_k».proof.Proof.Gen.Kernel4Ideal.Loops
public import proofs.«01_k».proof.Proof.Body4

@[expose] public section

set_option maxRecDepth 16384

noncomputable section

namespace Cert.Proof

open Idealize.ShloMosaic Idealize.ShloMosaic.TcCoe Idealize.SL.Sem
open Cert.Kernel3Ideal.Mix (IsReal mixRow_eq)

/-- The kernel and its reading over the reals have one text, so their bodies are the same programs. -/
theorem bodies_eq : Cert.Kernel.defs₀ (F := Bits) = Cert.KernelIdeal.defs₀ (F := Bits) := by
  unfold Cert.Kernel.defs₀ Cert.KernelIdeal.defs₀
  refine congrArg Defs.onTc ?_
  funext l x
  match l, x with
  | 0, (t, s) => rfl

theorem defs_eq : Cert.Kernel.defs (F := Bits) = Cert.KernelIdeal.defs (F := Bits) :=
  congrArg (Pipeline.defs (Cert.Kernel.pcfgs (F := Bits))) bodies_eq

/-- The frames: one run serves both. -/
theorem frame_kernel : Cert.quiescent_Kernel := fun m ρ _ => by
  have h := Cert.KernelIdeal.Ffn.frame (F := Bits) m ρ
  rw [← defs_eq] at h
  exact h

theorem frame_kernelIdeal : Cert.quiescent_KernelIdeal := fun m ρ _ => Cert.KernelIdeal.Ffn.frame (F := Ideal) m ρ

theorem frame_referenceIdeal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The reference's result is the kernel's, row by row, from arguments that agree. -/
theorem result_eq (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0) ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1) ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2) ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3) ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4) ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    (Cert.ReferenceIdeal.Value.res_main_v42 (F := Ideal) m' c : FVec Ideal Cert.ReferenceIdeal.S16384x1024 .f32) = Cert.KernelIdeal.Ffn.result m c := by
  funext i
  obtain ⟨h0, h1, h2, h3, h4, h5⟩ := h
  refine (congrArg _ (eq_ix2 i)).trans ?_
  exact Cert.ReferenceIdeal.Ffn.res_apply m' c _ _ _ _ _ _ h0 h1 h2 h3 h4 h5 (i 0) (i 1)

theorem algebraic : Cert.algebraic_KernelIdeal_ReferenceIdeal := fun m g m' g' _ h =>
  ⟨fun c => Cert.KernelIdeal.Ffn.result m c, Cert.KernelIdeal.Ffn.run m g,
    (θ_run Cert.ReferenceIdeal.defs _ _).mono (fun _ h' c => ⟨((h' c).1).trans (result_eq m m' c (h c)), (h' c).2⟩) (Cert.ReferenceIdeal.Value.run (F := Ideal) m' g')⟩

/-- The second kernel and its reading over the reals have one text, so their bodies are the same programs. -/
theorem bodies_eq2 : Cert.Kernel2.defs₀ (F := Bits) = Cert.Kernel2Ideal.defs₀ (F := Bits) := by
  unfold Cert.Kernel2.defs₀ Cert.Kernel2Ideal.defs₀
  refine congrArg Defs.onTc ?_
  funext l x
  match l, x with
  | 0, (t, s) => rfl

theorem defs_eq2 : Cert.Kernel2.defs (F := Bits) = Cert.Kernel2Ideal.defs (F := Bits) :=
  congrArg (Pipeline.defs (Cert.Kernel2.pcfgs (F := Bits))) bodies_eq2

/-- Its frames: one run serves both again. -/
theorem frame_kernel2 : Cert.quiescent_Kernel2 := fun m ρ _ => by
  have h := Cert.Kernel2Ideal.Ffn.frame (F := Bits) m ρ
  rw [← defs_eq2] at h
  exact h

theorem frame_kernel2Ideal : Cert.quiescent_Kernel2Ideal := fun m ρ _ => Cert.Kernel2Ideal.Ffn.frame (F := Ideal) m ρ

theorem frame_reference2Ideal : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- The second reference's result is the second kernel's, row by row, from arguments that agree. -/
theorem result_eq2 (m : (ℓ : Loc Cert.Kernel2Ideal.nD Cert.Kernel2Ideal.τ Cert.Kernel2Ideal.sig) → Buf (Elt Ideal) ℓ) (m' : (ℓ : Loc Cert.Reference2Ideal.nD Cert.Reference2Ideal.τ Cert.Reference2Ideal.sig) → Buf (Elt Ideal) ℓ) (c : Dev Cert.Kernel2Ideal.nD)
    (h : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0) ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1) ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2) ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3) ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) :
    Cert.Reference2Ideal.Ffn.res m' c = Cert.Kernel2Ideal.Ffn.result m c := by
  funext i
  obtain ⟨h0, h1, h2, h3, h4⟩ := h
  refine (congrArg _ (eq_ix2 i)).trans ?_
  exact Cert.Reference2Ideal.Ffn.res_apply m' c _ _ _ _ _ h0 h1 h2 h3 h4 (i 0) (i 1)

theorem algebraic2 : Cert.algebraic_Kernel2Ideal_Reference2Ideal := fun m g m' g' _ h =>
  ⟨fun c => Cert.Kernel2Ideal.Ffn.result m c, Cert.Kernel2Ideal.Ffn.run m g,
    (θ_run Cert.Reference2Ideal.defs _ _).mono (fun _ h' c => ⟨((h' c).1).trans (result_eq2 m m' c (h c)), (h' c).2⟩) (Cert.Reference2Ideal.Ffn.run m' g')⟩

/-- The third kernel and its reading over the reals have one text. -/
theorem bodies_eq3 : Cert.Kernel3.defs₀ (F := Bits) = Cert.Kernel3Ideal.defs₀ (F := Bits) := by
  unfold Cert.Kernel3.defs₀ Cert.Kernel3Ideal.defs₀
  refine congrArg Defs.onTc ?_
  funext l x
  match l, x with
  | 0, (t, s) => rfl

theorem defs_eq3 : Cert.Kernel3.defs (F := Bits) = Cert.Kernel3Ideal.defs (F := Bits) :=
  congrArg (Pipeline.defs (Cert.Kernel3.pcfgs (F := Bits))) bodies_eq3

/-- Its frames: one run serves both, and they need no precondition. -/
theorem frame_kernel3 : Cert.quiescent_Kernel3 := fun m ρ _ => by
  have h := Cert.Kernel3Ideal.Mix.frame (F := Bits) m ρ
  rw [← defs_eq3] at h
  exact h

theorem frame_kernel3Ideal : Cert.quiescent_Kernel3Ideal := fun m ρ _ => Cert.Kernel3Ideal.Mix.frame (F := Ideal) m ρ

theorem frame_kernel3Ideal_finite : Cert.quiescent_Kernel3Ideal_pre_finite := fun m ρ _ => Cert.Kernel3Ideal.Mix.frame (F := Ideal) m ρ

theorem frame_reference3Ideal : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

theorem frame_reference3Ideal_finite : Cert.quiescent_Reference3Ideal_pre_finite := fun m ρ _ => frame_reference3Ideal m ρ trivial

/-- The third reference's result is the third kernel's, row by row, from arguments that agree and are finite. -/
theorem result_eq3 (m : (ℓ : Loc Cert.Kernel3Ideal.nD Cert.Kernel3Ideal.τ Cert.Kernel3Ideal.sig) → Buf (Elt Ideal) ℓ) (m' : (ℓ : Loc Cert.Reference3Ideal.nD Cert.Reference3Ideal.τ Cert.Reference3Ideal.sig) → Buf (Elt Ideal) ℓ) (c : Dev Cert.Kernel3Ideal.nD)
    (hp : Cert.Pre_Kernel3Ideal_finite m)
    (h : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0) ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1) ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2) ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3) ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4) ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5) ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6) ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7) ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8) ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9) ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) :
    Cert.Reference3Ideal.Value.res_main_v67 (F := Ideal) m' c = Cert.Kernel3Ideal.Mix.result m c := by
  funext i
  obtain ⟨h0, h1, h2, h3, h4, h5, h6, h7, h8, h9, h10⟩ := h
  obtain ⟨r0, r1, r2, r3, r4, r5, r6, r7, r8, r9⟩ := Cert.Pre_finite.real_of_fn _ _ _ _ _ _ _ _ _ _ _ (hp c)
  refine ((congrArg _ (eq_ix3 i)).trans (Cert.Reference3Ideal.Mix.res_apply m' c _ _ _ _ _ _ _ _ _ _ _ h0 h1 h2 h3 h4 h5 h6 h7 h8 h9 h10 (i 0) (i 1) (i 2))).trans ?_
  refine (mixRow_eq (fun k => ?_) (fun k => r6 _) (fun k n => r8 _) (fun j n => ?_) _ _).symm
  · exact IsReal.residRow (fun k => r0 _) (fun k => r1 _) (fun k => IsReal.sides (fun k => r2 _) (fun k => r3 _) k) (fun k n => r5 _) k
  · exact IsReal.mulRow (fun k => IsReal.normRow (fun k => r4 _) (fun k => r7 _) k) (fun k n => r9 _) n

theorem algebraic3 : Cert.algebraic_Kernel3Ideal_Reference3Ideal_pre_finite := fun m g m' g' hp h =>
  ⟨fun c => Cert.Kernel3Ideal.Mix.result m c, Cert.Kernel3Ideal.Mix.run m g,
    (θ_run Cert.Reference3Ideal.defs _ _).mono (fun _ h' c => ⟨((h' c).1).trans (result_eq3 m m' c hp (h c)), (h' c).2⟩) (Cert.Reference3Ideal.Value.run (F := Ideal) m' g')⟩

/-- The fourth program's two readings run the same bodies. -/
theorem bodies_eq4 : Cert.Kernel4.defs₀ (F := Bits) = Cert.Kernel4Ideal.defs₀ (F := Bits) := by
  unfold Cert.Kernel4.defs₀ Cert.Kernel4Ideal.defs₀
  refine congrArg Defs.onTc ?_
  funext l x
  match l, x with
  | 0, (t, s) => rfl

theorem defs_eq4 : Cert.Kernel4.defs (F := Bits) = Cert.Kernel4Ideal.defs (F := Bits) :=
  congrArg (Pipeline.defs (Cert.Kernel4.pcfgs (F := Bits))) bodies_eq4

/-- Its frames: one run serves both, and they need no precondition. -/
theorem frame_kernel4 : Cert.quiescent_Kernel4 := fun m ρ _ => by
  have h := Cert.Kernel4Ideal.Attn.frame (F := Bits) m ρ
  rw [← defs_eq4] at h
  exact h

theorem frame_kernel4Ideal : Cert.quiescent_Kernel4Ideal := fun m ρ _ => Cert.Kernel4Ideal.Attn.frame (F := Ideal) m ρ

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Pre_finite.facts,
  frame_kernel, frame_kernelIdeal, frame_referenceIdeal, frame_kernel2, frame_kernel2Ideal, frame_reference2Ideal, frame_kernel3, frame_kernel3Ideal, frame_kernel3Ideal_finite,
  frame_reference3Ideal, frame_reference3Ideal_finite, frame_kernel4, frame_kernel4Ideal, trivial, algebraic, trivial, algebraic2, trivial, algebraic3, trivial⟩

end Cert.Proof

end
